-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2048x1024 : Shape := ⟨2, ![2048, 1024]⟩
abbrev S16x1024 : Shape := ⟨2, ![16, 1024]⟩
abbrev S16x512x1024 : Shape := ⟨3, ![16, 512, 1024]⟩
abbrev S16x1024x512 : Shape := ⟨3, ![16, 1024, 512]⟩
abbrev S1024x1024 : Shape := ⟨2, ![1024, 1024]⟩
abbrev S2048x2 : Shape := ⟨2, ![2048, 2]⟩
abbrev S48x1 : Shape := ⟨2, ![48, 1]⟩
abbrev S2048x16 : Shape := ⟨2, ![2048, 16]⟩
abbrev S2048 : Shape := ⟨1, ![2048]⟩
abbrev S2048x1 : Shape := ⟨2, ![2048, 1]⟩
abbrev S256x256 : Shape := ⟨2, ![256, 256]⟩
abbrev S1x16 : Shape := ⟨2, ![1, 16]⟩
abbrev S256x16 : Shape := ⟨2, ![256, 16]⟩
abbrev S16 : Shape := ⟨1, ![16]⟩
abbrev S16x16 : Shape := ⟨2, ![16, 16]⟩
abbrev S48x16 : Shape := ⟨2, ![48, 16]⟩
abbrev S48 : Shape := ⟨1, ![48]⟩
abbrev S2x2048 : Shape := ⟨2, ![2, 2048]⟩
abbrev S4096 : Shape := ⟨1, ![4096]⟩
abbrev S16384x128 : Shape := ⟨2, ![16384, 128]⟩
abbrev S4096x1 : Shape := ⟨2, ![4096, 1]⟩
abbrev S_ : Shape := ⟨0, ![]⟩
abbrev S8 : Shape := ⟨1, ![8]⟩
abbrev S1x8 : Shape := ⟨2, ![1, 8]⟩
abbrev S4096x8 : Shape := ⟨2, ![4096, 8]⟩
abbrev S32768 : Shape := ⟨1, ![32768]⟩
abbrev S49152x128 : Shape := ⟨2, ![49152, 128]⟩
abbrev S512 : Shape := ⟨1, ![512]⟩
abbrev S512x128 : Shape := ⟨2, ![512, 128]⟩
abbrev S6144x1024 : Shape := ⟨2, ![6144, 1024]⟩
abbrev S2x512x1024 : Shape := ⟨3, ![2, 512, 1024]⟩
abbrev S1024x512 : Shape := ⟨2, ![1024, 512]⟩
abbrev S1x1024x512 : Shape := ⟨3, ![1, 1024, 512]⟩
abbrev S2x1024x512 : Shape := ⟨3, ![2, 1024, 512]⟩
abbrev S1x512x1024 : Shape := ⟨3, ![1, 512, 1024]⟩
abbrev S512x1024 : Shape := ⟨2, ![512, 1024]⟩
abbrev S128x1024 : Shape := ⟨2, ![128, 1024]⟩
abbrev S1 : Shape := ⟨1, ![1]⟩
abbrev S128x512 : Shape := ⟨2, ![128, 512]⟩
abbrev S32768x128 : Shape := ⟨2, ![32768, 128]⟩
abbrev S4096x1024 : Shape := ⟨2, ![4096, 1024]⟩
abbrev S1024x2 : Shape := ⟨2, ![1024, 2]⟩
abbrev S1024x1 : Shape := ⟨2, ![1024, 1]⟩

abbrev nBuf : Table → Nat
  | .hbm => 49
  | .local .tc .vmem => 35
  | .local .tc .smem => 1
  | .local .scVector .vmem => 4
  | _ => 0

abbrev bufTy : (tb : Table) → Fin (nBuf tb) → BufTy
  | .hbm, ⟨0, _⟩ => ⟨S2048x1024, .f32⟩
  | .hbm, ⟨1, _⟩ => ⟨S16x1024, .f32⟩
  | .hbm, ⟨2, _⟩ => ⟨S16x512x1024, .f32⟩
  | .hbm, ⟨3, _⟩ => ⟨S16x512x1024, .f32⟩
  | .hbm, ⟨4, _⟩ => ⟨S16x1024x512, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x2, .i32⟩
  | .hbm, ⟨9, _⟩ => ⟨S2048x2, .f32⟩
  | .hbm, ⟨10, _⟩ => ⟨S48x1, .i32⟩
  | .hbm, ⟨11, _⟩ => ⟨S2x2048, .i32⟩
  | .hbm, ⟨12, _⟩ => ⟨S4096, .i32⟩
  | .hbm, ⟨13, _⟩ => ⟨S16384x128, .f32⟩
  | .hbm, ⟨14, _⟩ => ⟨S4096x1, .i32⟩
  | .hbm, ⟨15, _⟩ => ⟨S_, .i32⟩
  | .hbm, ⟨16, _⟩ => ⟨S4096x1, .i32⟩
  | .hbm, ⟨17, _⟩ => ⟨S4096x1, .i32⟩
  | .hbm, ⟨18, _⟩ => ⟨S8, .i32⟩
  | .hbm, ⟨19, _⟩ => ⟨S1x8, .i32⟩
  | .hbm, ⟨20, _⟩ => ⟨S4096x8, .i32⟩
  | .hbm, ⟨21, _⟩ => ⟨S4096x8, .i32⟩
  | .hbm, ⟨22, _⟩ => ⟨S4096x8, .i32⟩
  | .hbm, ⟨23, _⟩ => ⟨S32768, .i32⟩
  | .hbm, ⟨24, _⟩ => ⟨S49152x128, .f32⟩
  | .hbm, ⟨25, _⟩ => ⟨S6144x1024, .f32⟩
  | .hbm, ⟨26, _⟩ => ⟨S2x512x1024, .f32⟩
  | .hbm, ⟨27, _⟩ => ⟨S2x512x1024, .f32⟩
  | .hbm, ⟨28, _⟩ => ⟨S1024x512, .f32⟩
  | .hbm, ⟨29, _⟩ => ⟨S1024x512, .f32⟩
  | .hbm, ⟨30, _⟩ => ⟨S1x1024x512, .f32⟩
  | .hbm, ⟨31, _⟩ => ⟨S1x1024x512, .f32⟩
  | .hbm, ⟨32, _⟩ => ⟨S2x1024x512, .f32⟩
  | .hbm, ⟨33, _⟩ => ⟨S2048x1024, .f32⟩
  | .hbm, ⟨34, _⟩ => ⟨S6144x1024, .f32⟩
  | .hbm, ⟨35, _⟩ => ⟨S49152x128, .f32⟩
  | .hbm, ⟨36, _⟩ => ⟨S4096x1, .i32⟩
  | .hbm, ⟨37, _⟩ => ⟨S_, .i32⟩
  | .hbm, ⟨38, _⟩ => ⟨S4096x1, .i32⟩
  | .hbm, ⟨39, _⟩ => ⟨S4096x1, .i32⟩
  | .hbm, ⟨40, _⟩ => ⟨S8, .i32⟩
  | .hbm, ⟨41, _⟩ => ⟨S1x8, .i32⟩
  | .hbm, ⟨42, _⟩ => ⟨S4096x8, .i32⟩
  | .hbm, ⟨43, _⟩ => ⟨S4096x8, .i32⟩
  | .hbm, ⟨44, _⟩ => ⟨S4096x8, .i32⟩
  | .hbm, ⟨45, _⟩ => ⟨S32768, .i32⟩
  | .hbm, ⟨46, _⟩ => ⟨S32768x128, .f32⟩
  | .hbm, ⟨47, _⟩ => ⟨S4096x1024, .f32⟩
  | .hbm, ⟨48, _⟩ => ⟨S2048x1024, .f32⟩
  | .local .tc .vmem, ⟨0, _⟩ => ⟨S2048x1024, .f32⟩
  | .local .tc .vmem, ⟨1, _⟩ => ⟨S16x1024, .f32⟩
  | .local .tc .vmem, ⟨2, _⟩ => ⟨S2048x2, .i32⟩
  | .local .tc .vmem, ⟨3, _⟩ => ⟨S2048x2, .f32⟩
  | .local .tc .vmem, ⟨4, _⟩ => ⟨S48x1, .i32⟩
  | .local .tc .vmem, ⟨5, _⟩ => ⟨S1024x1024, .f32⟩
  | .local .tc .vmem, ⟨6, _⟩ => ⟨S1024x1024, .f32⟩
  | .local .tc .vmem, ⟨7, _⟩ => ⟨S1x512x1024, .f32⟩
  | .local .tc .vmem, ⟨8, _⟩ => ⟨S1x512x1024, .f32⟩
  | .local .tc .vmem, ⟨9, _⟩ => ⟨S1x512x1024, .f32⟩
  | .local .tc .vmem, ⟨10, _⟩ => ⟨S1x512x1024, .f32⟩
  | .local .tc .vmem, ⟨11, _⟩ => ⟨S1x1024x512, .f32⟩
  | .local .tc .vmem, ⟨12, _⟩ => ⟨S1x1024x512, .f32⟩
  | .local .tc .vmem, ⟨13, _⟩ => ⟨S1024x1024, .f32⟩
  | .local .tc .vmem, ⟨14, _⟩ => ⟨S1024x1024, .f32⟩
  | .local .tc .vmem, ⟨15, _⟩ => ⟨S128x1024, .f32⟩
  | .local .tc .vmem, ⟨16, _⟩ => ⟨S128x1024, .f32⟩
  | .local .tc .vmem, ⟨17, _⟩ => ⟨S1x512x1024, .f32⟩
  | .local .tc .vmem, ⟨18, _⟩ => ⟨S1x512x1024, .f32⟩
  | .local .tc .vmem, ⟨19, _⟩ => ⟨S1x512x1024, .f32⟩
  | .local .tc .vmem, ⟨20, _⟩ => ⟨S1x512x1024, .f32⟩
  | .local .tc .vmem, ⟨21, _⟩ => ⟨S1x1024x512, .f32⟩
  | .local .tc .vmem, ⟨22, _⟩ => ⟨S1x1024x512, .f32⟩
  | .local .tc .vmem, ⟨23, _⟩ => ⟨S128x1024, .f32⟩
  | .local .tc .vmem, ⟨24, _⟩ => ⟨S128x1024, .f32⟩
  | .local .tc .vmem, ⟨25, _⟩ => ⟨S1024x1024, .f32⟩
  | .local .tc .vmem, ⟨26, _⟩ => ⟨S1024x1024, .f32⟩
  | .local .tc .vmem, ⟨27, _⟩ => ⟨S1024x1024, .f32⟩
  | .local .tc .vmem, ⟨28, _⟩ => ⟨S1024x1024, .f32⟩
  | .local .tc .vmem, ⟨29, _⟩ => ⟨S1024x2, .f32⟩
  | .local .tc .vmem, ⟨30, _⟩ => ⟨S1024x2, .f32⟩
  | .local .tc .vmem, ⟨31, _⟩ => ⟨S1024x1024, .f32⟩
  | .local .tc .vmem, ⟨32, _⟩ => ⟨S1024x1024, .f32⟩
  | .local .tc .vmem, ⟨33, _⟩ => ⟨S1024x1024, .f32⟩
  | .local .tc .vmem, ⟨34, _⟩ => ⟨S1024x1024, .f32⟩
  | .local .tc .smem, ⟨0, _⟩ => ⟨S48, .i32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v23 : Ref sig .tc := ⟨.smem, 0, rfl⟩
abbrev main_v3_scv : Ref sig .scVector := ⟨.hbm, 13, rfl⟩
abbrev main_v12_scv : Ref sig .scVector := ⟨.hbm, 23, rfl⟩
abbrev main_v13_scv : Ref sig .scVector := ⟨.hbm, 24, rfl⟩
abbrev main_v25_scv : Ref sig .scVector := ⟨.hbm, 35, rfl⟩
abbrev main_v34_scv : Ref sig .scVector := ⟨.hbm, 45, rfl⟩
abbrev main_v35_scv : Ref sig .scVector := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc1_scratch0 : Ref sig .scVector := ⟨.vmem, 0, rfl⟩
abbrev cc1_scratch1 : Ref sig .scVector := ⟨.vmem, 1, rfl⟩
abbrev cc4_scratch0 : Ref sig .scVector := ⟨.vmem, 2, rfl⟩
abbrev cc4_scratch1 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c0_i32 : BitVec 32 := 0#32
  let c1_i32 : BitVec 32 := 1#32
  let arg8 : BitVec 32 := Scf.iv c0_i32 c1_i32 k1_t1
  let c1_i32_2 : BitVec 32 := 1#32
  let v4 : BitVec 32 := Scalar.muli arg8 c1_i32_2
  let v5 : BitVec 32 := Scalar.addi c0_i32_3 v4
  let c64_i32 : BitVec 32 := 64#32
  let v6 : BitVec 32 := Scalar.muli v5 c64_i32
  let v7 : BitVec 32 := Scalar.addi v2 v6
  let c8_i32 : BitVec 32 := 8#32
  let v9 : BitVec 32 := Scalar.muli v7 c8_i32
  ![v9.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c0_i32 : BitVec 32 := 0#32
  let c1_i32 : BitVec 32 := 1#32
  let arg8 : BitVec 32 := Scf.iv c0_i32 c1_i32 k1_t1
  let c1_i32_2 : BitVec 32 := 1#32
  let v4 : BitVec 32 := Scalar.muli arg8 c1_i32_2
  let v5 : BitVec 32 := Scalar.addi c0_i32_3 v4
  let c64_i32 : BitVec 32 := 64#32
  let v6 : BitVec 32 := Scalar.muli v5 c64_i32
  let v7 : BitVec 32 := Scalar.addi v2 v6
  let c2048_i32 : BitVec 32 := 2048#32
  let v8 : BitVec 32 := Scalar.remsi v7 c2048_i32
  let c8_i32_4 : BitVec 32 := 8#32
  let v10 : BitVec 32 := Scalar.muli v8 c8_i32_4
  let c0_i32_9_r1 : BitVec 32 := 0#32
  ![v10.toNat, 0]
abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![48], ![false]⟩

abbrev pre3 : Pipeline.Prefetch sig := ⟨1, ![main_v23.idx], fun | 0 => main_v23.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (k3_off1_inb : ∀ i : grid3.Coords, ∀ a, (k3_off1 i) a + S1.size a ≤ S48.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S48) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S48.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S48) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (k3_off1_inb : ∀ i : grid3.Coords, ∀ a, (k3_off1 i) a + S1.size a ≤ S48.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S48) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

@[reducible] def k4_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k4_off1 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c0_i32 : BitVec 32 := 0#32
  let c1_i32 : BitVec 32 := 1#32
  let arg8 : BitVec 32 := Scf.iv c0_i32 c1_i32 k4_t1
  let c1_i32_2 : BitVec 32 := 1#32
  let v4 : BitVec 32 := Scalar.muli arg8 c1_i32_2
  let v5 : BitVec 32 := Scalar.addi c0_i32_3 v4
  let c64_i32 : BitVec 32 := 64#32
  let v6 : BitVec 32 := Scalar.muli v5 c64_i32
  let v7 : BitVec 32 := Scalar.addi v2 v6
  let c8_i32 : BitVec 32 := 8#32
  let v8 : BitVec 32 := Scalar.muli v7 c8_i32
  ![v8.toNat]
def k4_off2 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c0_i32 : BitVec 32 := 0#32
  let c1_i32 : BitVec 32 := 1#32
  let arg8 : BitVec 32 := Scf.iv c0_i32 c1_i32 k4_t1
  let c1_i32_2 : BitVec 32 := 1#32
  let v4 : BitVec 32 := Scalar.muli arg8 c1_i32_2
  let v5 : BitVec 32 := Scalar.addi c0_i32_3 v4
  let c64_i32 : BitVec 32 := 64#32
  let v6 : BitVec 32 := Scalar.muli v5 c64_i32
  let v7 : BitVec 32 := Scalar.addi v2 v6
  let c8_i32_8 : BitVec 32 := 8#32
  let v11 : BitVec 32 := Scalar.muli v7 c8_i32_8
  let c0_i32_9_r1 : BitVec 32 := 0#32
  ![v11.toNat, 0]
abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x1024 : Shape := ⟨2, ![2048, 1024]⟩
abbrev S16x1024 : Shape := ⟨2, ![16, 1024]⟩
abbrev S16x512x1024 : Shape := ⟨3, ![16, 512, 1024]⟩
abbrev S16x1024x512 : Shape := ⟨3, ![16, 1024, 512]⟩
abbrev S1024x1024 : Shape := ⟨2, ![1024, 1024]⟩
abbrev S1024x16 : Shape := ⟨2, ![1024, 16]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x4x4 : Shape := ⟨3, ![2048, 4, 4]⟩
abbrev S2048x4 : Shape := ⟨2, ![2048, 4]⟩
abbrev S2048x2 : Shape := ⟨2, ![2048, 2]⟩
abbrev S2048x2x1 : Shape := ⟨3, ![2048, 2, 1]⟩
abbrev S16 : Shape := ⟨1, ![16]⟩
abbrev S1x1x16 : Shape := ⟨3, ![1, 1, 16]⟩
abbrev S2048x2x16 : Shape := ⟨3, ![2048, 2, 16]⟩
abbrev S16x512x2048 : Shape := ⟨3, ![16, 512, 2048]⟩
abbrev S16x2048x512 : Shape := ⟨3, ![16, 2048, 512]⟩
abbrev S16x2048x1024 : Shape := ⟨3, ![16, 2048, 1024]⟩
abbrev S16x2048 : Shape := ⟨2, ![16, 2048]⟩
abbrev S16x2048x1 : Shape := ⟨3, ![16, 2048, 1]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S16x512x1024, .f32⟩
  | .hbm, ⟨3, _⟩ => ⟨S16x512x1024, .f32⟩
  | .hbm, ⟨4, _⟩ => ⟨S16x1024x512, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x16, .f32⟩
  | .hbm, ⟨9, _⟩ => ⟨S2048x16, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x16, .f32⟩
  | .hbm, ⟨23, _⟩ => ⟨S2048x16, .f32⟩
  | .hbm, ⟨24, _⟩ => ⟨S2048x4x4, .f32⟩
  | .hbm, ⟨25, _⟩ => ⟨S_, .f32⟩
  | .hbm, ⟨26, _⟩ => ⟨S2048x4, .f32⟩
  | .hbm, ⟨27, _⟩ => ⟨S2048x2, .f32⟩
  | .hbm, ⟨28, _⟩ => ⟨S2048x2, .i32⟩
  | .hbm, ⟨29, _⟩ => ⟨S2048x2x1, .i32⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S1x1x16, .i32⟩
  | .hbm, ⟨50, _⟩ => ⟨S2048x2x16, .i32⟩
  | .hbm, ⟨51, _⟩ => ⟨S2048x2x16, .i32⟩
  | .hbm, ⟨52, _⟩ => ⟨S2048x2x16, .i1⟩
  | .hbm, ⟨53, _⟩ => ⟨S_, .i1⟩
  | .hbm, ⟨54, _⟩ => ⟨S2048x16, .i1⟩
  | .hbm, ⟨55, _⟩ => ⟨S_, .f32⟩
  | .hbm, ⟨56, _⟩ => ⟨S_, .f32⟩
  | .hbm, ⟨57, _⟩ => ⟨S2048x16, .f32⟩
  | .hbm, ⟨58, _⟩ => ⟨S2048x16, .f32⟩
  | .hbm, ⟨59, _⟩ => ⟨S2048x2, .f32⟩
  | .hbm, ⟨60, _⟩ => ⟨S2048x2, .i32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2, .f32⟩
  | .hbm, ⟨68, _⟩ => ⟨S2048x2, .f32⟩
  | .hbm, ⟨69, _⟩ => ⟨S2048x2x1, .i32⟩
  | .hbm, ⟨70, _⟩ => ⟨S16, .i32⟩
  | .hbm, ⟨71, _⟩ => ⟨S1x1x16, .i32⟩
  | .hbm, ⟨72, _⟩ => ⟨S2048x2x16, .i32⟩
  | .hbm, ⟨73, _⟩ => ⟨S2048x2x16, .i32⟩
  | .hbm, ⟨74, _⟩ => ⟨S2048x2x16, .i1⟩
  | .hbm, ⟨75, _⟩ => ⟨S2048x2x1, .f32⟩
  | .hbm, ⟨76, _⟩ => ⟨S_, .f32⟩
  | .hbm, ⟨77, _⟩ => ⟨S_, .f32⟩
  | .hbm, ⟨78, _⟩ => ⟨S2048x2x16, .f32⟩
  | .hbm, ⟨79, _⟩ => ⟨S2048x2x16, .f32⟩
  | .hbm, ⟨80, _⟩ => ⟨S2048x2x16, .f32⟩
  | .hbm, ⟨81, _⟩ => ⟨S_, .f32⟩
  | .hbm, ⟨82, _⟩ => ⟨S2048x16, .f32⟩
  | .hbm, ⟨83, _⟩ => ⟨S16x512x2048, .f32⟩
  | .hbm, ⟨84, _⟩ => ⟨S16x2048x512, .f32⟩
  | .hbm, ⟨85, _⟩ => ⟨S16x2048x512, .f32⟩
  | .hbm, ⟨86, _⟩ => ⟨S16x2048x512, .f32⟩
  | .hbm, ⟨87, _⟩ => ⟨S_, .f32⟩
  | .hbm, ⟨88, _⟩ => ⟨S16x2048x512, .f32⟩
  | .hbm, ⟨89, _⟩ => ⟨S16x2048x512, .f32⟩
  | .hbm, ⟨90, _⟩ => ⟨S_, .f32⟩
  | .hbm, ⟨91, _⟩ => ⟨S16x2048x512, .f32⟩
  | .hbm, ⟨92, _⟩ => ⟨S16x2048x512, .f32⟩
  | .hbm, ⟨93, _⟩ => ⟨S16x2048x512, .f32⟩
  | .hbm, ⟨94, _⟩ => ⟨S16x512x2048, .f32⟩
  | .hbm, ⟨95, _⟩ => ⟨S16x2048x512, .f32⟩
  | .hbm, ⟨96, _⟩ => ⟨S16x2048x512, .f32⟩
  | .hbm, ⟨97, _⟩ => ⟨S16x2048x1024, .f32⟩
  | .hbm, ⟨98, _⟩ => ⟨S16x2048, .f32⟩
  | .hbm, ⟨99, _⟩ => ⟨S16x2048x1, .f32⟩
  | .hbm, ⟨100, _⟩ => ⟨S16x2048x1024, .f32⟩
  | .hbm, ⟨101, _⟩ => ⟨S16x2048x1024, .f32⟩
  | .hbm, ⟨102, _⟩ => ⟨S_, .f32⟩
  | .hbm, ⟨103, _⟩ => ⟨S2048x1024, .f32⟩
  | .hbm, ⟨104, _⟩ => ⟨S1024x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S_, .f32⟩
  | .hbm, ⟨109, _⟩ => ⟨S2048x1024, .f32⟩
  | .hbm, ⟨110, _⟩ => ⟨S2048x1024, .f32⟩
  | .hbm, ⟨111, _⟩ => ⟨S_, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S1024x1024, .f32⟩
  | .hbm, ⟨116, _⟩ => ⟨S2048x1024, .f32⟩
  | .hbm, ⟨117, _⟩ => ⟨S2048x1024, .f32⟩
  | .hbm, ⟨118, _⟩ => ⟨S1024x1024, .f32⟩
  | .hbm, ⟨119, _⟩ => ⟨S2048x1024, .f32⟩
  | .hbm, ⟨120, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_v22 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_v23 : Ref sig .tc := ⟨.hbm, 58, rfl⟩
abbrev main_values_5 : Ref sig .tc := ⟨.hbm, 59, rfl⟩
abbrev main_indices_6 : Ref sig .tc := ⟨.hbm, 60, rfl⟩
abbrev main_cst_7 : Ref sig .tc := ⟨.hbm, 61, rfl⟩
abbrev main_v24 : Ref sig .tc := ⟨.hbm, 62, rfl⟩
abbrev main_v25 : Ref sig .tc := ⟨.hbm, 63, rfl⟩
abbrev main_cst_8 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v37 : Ref sig .tc := ⟨.hbm, 80, rfl⟩
abbrev main_cst_10 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_11 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩

abbrev nD : Nat := 1
abbrev τ : Topo := Topo.v7x

variable {F : FTy → Type} [FloatOps F]
-- ==== Proof.Names.lean ====
/-
  The names the launch's proofs share: the launch itself, its ghost state, and the embeddings of the handshakes'
  and the pipelines' rounds in it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

variable [FloatOps F]

abbrev ΛP : Labels := Pipeline.Sig Λ₀ (Fin 4) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The pipelines' rounds: the left half of the right factor. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Moe

end
-- ==== Proof.Region.lean ====
/-
  A pipeline's region between two SparseCore calls: entered with what the TensorCore owes its later calls, whose
  waits all lie below the level of the last call made, and left with the same.
-/
module

public import proofs.«01_k».proof.Proof.Names
public import Idealize.ShloMosaic.Lib.Pipeline.Regions
public import Idealize.ShloMosaic.Lib.Pipeline.RegionArrays
public import Idealize.ShloMosaic.Lib.Pipeline.RegionArraysT

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.Pipeline (Dat pin RegionSeg PLaunchFacts PLaunchFacts₀ LevelCut BodyObligationLoose cellsGhost toksInit tablesAt scopedRest prefHeld)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type} [FloatOps F]

local notation "𝕄" => MT nD τ sig (HIx 2) (Elt F) ℕ UU ℕ

/-- The waits recorded so far lie at or below the level of call `n`'s first stage. -/
abbrev below (c : Dev nD) (n : ℕ) : Set (SemLoc sig × HIx 2) :=
  {x | (K (F := F)).lev (T c, x.1) x.2 ≤ 8 * n}

/-- What a TensorCore owes at its own stage is nothing: its debts all sit at later calls' stages. -/
theorem Otc_pos_lev {c : Dev nD} {n : ℕ} {g : GSem nD τ sig} {i : HIx 2} (h : 0 < (K (F := F)).Otc c n g i) :
    0 < (K (F := F)).lev g i :=
  lt_of_lt_of_le (Nat.succ_pos _) (SparseCore.Cfg.lev_of_Otc_pos (K := K (F := F)) h)

/-- The TensorCore's debts before call `n`, with the waits it has recorded. -/
abbrev owing (c : Dev nD) (n : ℕ) : sProp 𝕄 :=
  iprop(∃ W, ⌜(K (F := F)).WBelow (T c) W (8 * n)⌝ ∗ owes (T c) ((K (F := F)).Otc c n) W)

variable (a : (p : Fin 4) → (pcfgs (F := F) p).Adm)
  (pd : (p : Fin 4) → (c : Dev nD) → Dat τ (Elt F) (HIx 2) ℕ UU ℕ (pin (pcfgs (F := F)) a p) c)

theorem levelCut (p : Fin 4) (n : ℕ) : LevelCut (nD := nD) (pcfgs (F := F)) a (none : HIx 2) (K (F := F)).L (K (F := F)).lev p (fun c => (K (F := F)).Otc c n) (fun _ => 0) where
  hι _ _ _ := Finset.mem_univ _
  hιb _ _ _ := le_refl 0
  hD _ _ _ h := ⟨Finset.mem_univ _, Otc_pos_lev h⟩

/-- A region before call `n`: entered from `Pre`, left at `Post`, the arrays and the tables taken out of the one and
    put back into the other beside what the region does not touch. -/
def seg (p : Fin 4) (n : ℕ) (kit : PLaunchFacts₀ (nD := nD) (τ := τ) (pcfgs (F := F)) p)
    (hbody : ∀ c, BodyObligationLoose (pd p c) defs₀ 𝒱₀ (none : HIx 2) Set.univ)
    (howed : ∀ c t, (pd p c).owed t = (K (F := F)).Otc c n) (hrec : ∀ c t, (pd p c).recorded t = below (F := F) c n)
    (hΦ : ∀ c t, (pd p c).Φ t = iprop(scopedRest (pin (pcfgs (F := F)) a p).spec c ∗ tablesAt (pcfgs (F := F)) a p c))
    (Pre Post Rest : Dev nD → sProp 𝕄)
    (hpre : ∀ c, Pre c ⊢ iprop((pd p c).arrays ((pd p c).arrAt · 0) ∗ tablesAt (pcfgs (F := F)) a p c ∗ Rest c))
    (hpost : ∀ c, iprop((pd p c).arrays ((pd p c).arrAt · (pin (pcfgs (F := F)) a p).N) ∗ tablesAt (pcfgs (F := F)) a p c ∗ Rest c) ⊢ Post c) :
    RegionSeg (pcfgs (F := F)) a pd (none : HIx 2) defs₀ 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_of_cut (pin (pcfgs (F := F)) a) pd none p c 0 ((K (F := F)).Otc c n) (howed c)
    ((levelCut a p n).hι c) ((levelCut a p n).hιb c) ((levelCut a p n).hD c)
  pre c := iprop(Pre c ∗ owing (F := F) c n)
  post c := iprop(Post c ∗ owing (F := F) c n)
  X _ := iprop(emp)
  Y c := tablesAt (pcfgs (F := F)) a p c
  Z := Rest
  hentry c := by
    rw [Pipeline.ownSems0_none]
    iintro ⟨⟨Hp, %W, %hW, HO⟩, -, -⟩
    ihave H := (hpre c) $$ Hp
    icases H with ⟨Ha, Ht, HR⟩
    imodintro
    isplitl [Ha]; · iexact Ha
    isplitl [Ht]; · iexact Ht
    isplitl [HO]
    · unfold Pipeline.Dat.owesAt Pipeline.owesWithin Pipeline.Dat.bound
      rw [howed c 0, hrec c 0]
      iexists W; isplitr; · ipureintro; exact fun x hx => Or.inl (hW x hx)
      iexact HO
    isplitr; · iempintro
    iexact HR
  hin c := by
    rw [hΦ c 0]
    iintro ⟨-, Ht, Hr⟩
    isplitl [Hr] <;> iassumption
  hout c := by
    rw [hΦ c (Fin.last _), Pipeline.ownSems0_none]
    iintro ⟨Hr, Ht⟩
    isplitl [Ht]; · iexact Ht
    isplitr; · iempintro
    iexact Hr
  hexit c := by
    unfold Pipeline.Dat.owesAt Pipeline.owesWithin Pipeline.Dat.bound
    rw [howed c (Fin.last _), hrec c (Fin.last _)]
    iintro ⟨Ha, ⟨%W, %hW, HO⟩, Ht, HR⟩
    ihave Hp := (hpost c) $$ [Ha Ht HR]
    · isplitl [Ha]; · iexact Ha
      isplitl [Ht] <;> iassumption
    imodintro
    isplitl [Hp]; · iexact Hp
    iexists W; isplitr
    · ipureintro
      intro x hx
      rcases hW hx with h | ⟨w, s, h⟩
      · exact h
      · rw [h]; exact Nat.zero_le _
    · iexact HO

/-- The call of pipeline `p` in the host program. -/
theorem wp_region [∀ e, Nonempty (Elt F e)] {p : Fin 4}
    (R : RegionSeg (pcfgs (F := F)) a pd (none : HIx 2) defs₀ 𝒱₀ (K (F := F)).L (K (F := F)).lev p) (c : Dev nD) (Q : PUnit → sProp 𝕄) :
    iprop((iprop(boundary (T c) ∗ R.post c) -∗ Q ⟨⟩)
        ∗ boundary (T c) ∗ R.pre c ∗ levAts (K (F := F)).L (K (F := F)).lev
        ∗ cellsGhost (pin (pcfgs (F := F)) a) EP p c ∗ toksInit (pin (pcfgs (F := F)) a) EP p c)
      ⊢ wp frame (wpE ((K (F := F)).defs (D (F := F))) 𝒱 (T c) none) Set.univ
          (Prog.lift (.customCall (SparseCore.inner (Pipeline.entry p)) ())) Q := by
  have h := RegionSeg.wp (pcfgs (F := F)) a pd (none : HIx 2) (cellOf_inj a) EP defs₀ 𝒱₀ (K (F := F)).L (K (F := F)).lev R c none
    (fun _ h => nomatch h) .ret Q
  have h' := (K (F := F)).wp_liftProg (D := D (F := F)) (𝒱 := 𝒱) (T c) Set.univ none (.op (.customCall (Pipeline.entry p) ()) .ret) Q
  iintro ⟨Hk, Hrest⟩
  iapply h'
  iapply h
  isplitl [Hk]
  · iintro HB
    rw [wp_ret]
    imodintro
    iapply Hk $$ HB
  · iexact Hrest

end Cert.Proof.Moe

end
-- ==== Proof.Bodies.lean ====
/-
  The four TensorCore kernels' bodies on their staging buffers: each reads its inputs whole and leaves its outputs at
  values the kernel's own payloads name.
-/
module

public import proofs.«01_k».proof.Proof.Region
public import Idealize.ShloMosaic.Lib.Pipeline.Frame
public import Idealize.ShloMosaic.Lib.VecWindow
public import Idealize.ShloMosaic.Lib.WritesUnit

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type} [FloatOps F]

local notation "𝕄" => MT nD τ sig (HIx 2) (Elt F) ℕ UU ℕ

/-! ## Whole buffers -/

omit [FloatOps F] in
theorem owns_of_whole {c : Dev nD} {sp : Space} {sh : Shape} {e : EltTy} {M : Memref sig .tc sp sh e} (h : M.IsWhole) (X : sh.Idx → Elt F e) :
    (owns (c : Thread nD τ) M fullShare X : sProp 𝕄) = iprop(∃ f, ⌜M.view.read (Elt F) f = X⌝ ∗ (M.view.loc (c : Thread nD τ) ↦{fullShare} f)) := by
  unfold owns
  rw [show M.view.set = Finset.univ from by obtain ⟨b, rfl, rfl, rfl, h⟩ := h; cases h; exact View.set_whole b]

/-! ## The combine -/

theorem combine_run (c : Dev nD) (i : grid5.Coords) (M1 : Memref sig .tc .vmem S1024x1024 .f32) (h1 : M1.IsWhole) (M2 : Memref sig .tc .vmem S1024x1024 .f32) (h2 : M2.IsWhole)
    (M3 : Memref sig .tc .vmem S1024x2 .f32) (h3 : M3.IsWhole) (M4 : Memref sig .tc .vmem S1024x1024 .f32) (h4 : M4.IsWhole) (M5 : Memref sig .tc .vmem S1024x1024 .f32) (h5 : M5.IsWhole)
    (X1 X2 X4 : Vec F S1024x1024 .f32) (X3 : Vec F S1024x2 .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ (∃ X5, owns (c : Thread nD τ) M5 fullShare X5)
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (k5_pay1 X3 X1 X2 X4)) -∗ Q ⟨⟩))
      ⊢ wp frame (wpE (defs₀ (F := F)) 𝒱₀ (c : Thread nD τ) none) Set.univ (cc5__combine_kernel i M1 h1 M2 h2 M3 h3 M4 h4 M5 h5) Q := by
  simp only [owns_of_whole h1, owns_of_whole h2, owns_of_whole h3, owns_of_whole h4, owns_of_whole h5]
  iintro ⟨⟨%f1, %e1, H1⟩, ⟨%f2, %e2, H2⟩, ⟨%f3, %e3, H3⟩, ⟨%f4, %e4, H4⟩, ⟨%X5, %f5, %e5, H5⟩, Hk⟩
  rw [cc5__combine_kernel_eq_skeleton]
  unfold cc5__combine_kernel_skel
  sl_exec
  sl_step
  iapply Hk
  isplitl [H1]; · iexists f1; isplitr; · (ipureintro; exact e1)
                  iexact H1
  isplitl [H2]; · iexists f2; isplitr; · (ipureintro; exact e2)
                  iexact H2
  isplitl [H3]; · iexists f3; isplitr; · (ipureintro; exact e3)
                  iexact H3
  isplitl [H4]; · iexists f4; isplitr; · (ipureintro; exact e4)
                  iexact H4
  iexists _; isplitr; swap; · iexact H5
  ipureintro
  rw [View.readAt_full, View.readAt_full, View.readAt_full, View.readAt_full, e1, e2, e3, e4]
  exact View.read_writes_full _ _ _ _ _

/-! ## The grouped experts -/

theorem grouped_run (c : Dev nD) (i : grid3.Coords) (M1 : Memref sig .tc .smem S48 .i32) (h1 : M1.IsWhole) (M2 : Memref sig .tc .vmem S128x1024 .f32) (h2 : M2.IsWhole)
    (M3 : Memref sig .tc .vmem S1x512x1024 .f32) (h3 : M3.IsWhole) (M4 : Memref sig .tc .vmem S1x512x1024 .f32) (h4 : M4.IsWhole) (M5 : Memref sig .tc .vmem S1x1024x512 .f32) (h5 : M5.IsWhole)
    (M6 : Memref sig .tc .vmem S128x1024 .f32) (h6 : M6.IsWhole)
    (X2 : Vec F S128x1024 .f32) (X3 X4 : Vec F S1x512x1024 .f32) (X5 : Vec F S1x1024x512 .f32) (Q : PUnit → sProp 𝕄) :
    iprop(owns (c : Thread nD τ) M2 fullShare X2 ∗ owns (c : Thread nD τ) M3 fullShare X3 ∗ owns (c : Thread nD τ) M4 fullShare X4 ∗ owns (c : Thread nD τ) M5 fullShare X5 ∗ (∃ X6, owns (c : Thread nD τ) M6 fullShare X6)
        ∗ (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (k3_pay1 X2 X3 X4 X5)) -∗ Q ⟨⟩))
      ⊢ wp frame (wpE (defs₀ (F := F)) 𝒱₀ (c : Thread nD τ) none) Set.univ (cc3__grouped_kernel i M1 h1 M2 h2 M3 h3 M4 h4 M5 h5 M6 h6) Q := by
  simp only [owns_of_whole h6, owns_of_whole h2, owns_of_whole h3, owns_of_whole h4, owns_of_whole h5]
  iintro ⟨⟨%f2, %e2, H2⟩, ⟨%f3, %e3, H3⟩, ⟨%f4, %e4, H4⟩, ⟨%f5, %e5, H5⟩, ⟨%X6, %f6, %e6, H6⟩, Hk⟩
  rw [cc3__grouped_kernel_eq_skeleton]
  unfold cc3__grouped_kernel_skel
  sl_exec
  sl_step
  iapply Hk
  isplitl [H2]; · iexists f2; isplitr; · (ipureintro; exact e2)
                  iexact H2
  isplitl [H3]; · iexists f3; isplitr; · (ipureintro; exact e3)
                  iexact H3
  isplitl [H4]; · iexists f4; isplitr; · (ipureintro; exact e4)
                  iexact H4
  isplitl [H5]; · iexists f5; isplitr; · (ipureintro; exact e5)
                  iexact H5
  iexists _; isplitr; swap; · iexact H6
  ipureintro
  rw [View.readAt_full, View.readAt_full, View.readAt_full, View.readAt_full, e2, e3, e4, e5]
  exact View.read_writes_full _ _ _ _ _

/-! ## The shared expert, half by half -/

/-- The first half starts the block from zero, the second adds to it. -/
def sharedStep (k : ℕ) (X6 : Vec F S1024x1024 .f32) (X2 : Vec F S1024x1024 .f32) (X3 X4 : Vec F S1x512x1024 .f32) (X5 : Vec F S1x1024x512 .f32) : Vec F S1024x1024 .f32 :=
  k2_pay2 X2 (if k = 0 then k2_pay1 else X6) X3 X4 X5

theorem shared_run (c : Dev nD) (i : grid2.Coords) (M2 : Memref sig .tc .vmem S1024x1024 .f32) (h2 : M2.IsWhole)
    (M3 : Memref sig .tc .vmem S1x512x1024 .f32) (h3 : M3.IsWhole) (M4 : Memref sig .tc .vmem S1x512x1024 .f32) (h4 : M4.IsWhole) (M5 : Memref sig .tc .vmem S1x1024x512 .f32) (h5 : M5.IsWhole)
    (M6 : Memref sig .tc .vmem S1024x1024 .f32) (h6 : M6.IsWhole)
    (X2 X6 : Vec F S1024x1024 .f32) (X3 X4 : Vec F S1x512x1024 .f32) (X5 : Vec F S1x1024x512 .f32) (Q : PUnit → sProp 𝕄) :
    iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (sharedStep (i 1).val X6 X2 X3 X4 X5)) -∗ Q ⟨⟩))
      ⊢ wp frame (wpE (defs₀ (F := F)) 𝒱₀ (c : Thread nD τ) none) Set.univ (cc2__shared_kernel i M2 h2 M3 h3 M4 h4 M5 h5 M6 h6) Q := by
  simp only [owns_of_whole h6, owns_of_whole h2, owns_of_whole h3, owns_of_whole h4, owns_of_whole h5]
  iintro ⟨⟨%f2, %e2, H2⟩, ⟨%f3, %e3, H3⟩, ⟨%f4, %e4, H4⟩, ⟨%f5, %e5, H5⟩, ⟨%f6, %e6, H6⟩, Hk⟩
  rw [cc2__shared_kernel_eq_skeleton]
  unfold cc2__shared_kernel_skel
  have h01 : (i 1).val = 0 ∨ (i 1).val = 1 := by have : (i 1).val < 2 := (i 1).isLt; omega
  rcases h01 with h | h
  · have hc : Scalar.cmpi .ne (Scalar.extui (Scalar.cmpi .eq (BitVec.ofNat 32 (i 1).val) 0#32) : BitVec 32) 0#32 = 1#1 := by rw [h]; decide
    rw [dif_pos hc]
    sl_exec
    sl_step
    iapply Hk
    isplitl [H2]; · iexists f2; isplitr; · (ipureintro; exact e2)
                    iexact H2
    isplitl [H3]; · iexists f3; isplitr; · (ipureintro; exact e3)
                    iexact H3
    isplitl [H4]; · iexists f4; isplitr; · (ipureintro; exact e4)
                    iexact H4
    isplitl [H5]; · iexists f5; isplitr; · (ipureintro; exact e5)
                    iexact H5
    iexists _; isplitr; swap; · iexact H6
    ipureintro
    rw [h]
    refine (View.read_writes_full _ _ _ _ _).trans ?_
    rw [View.readAt_full, View.readAt_full, View.readAt_full, View.readAt_full, e2, e3, e4, e5]
    have h5 : (shared_run.sl.v5 M6 : Vec F S1024x1024 .f32) = k2_pay1 := by
      unfold shared_run.sl.v5 shared_run.sl.H6_1
      exact View.readCov_full (Val := Elt F) _ _ _ _ _
    rw [h5]; rfl
  · have hc : Scalar.cmpi .ne (Scalar.extui (Scalar.cmpi .eq (BitVec.ofNat 32 (i 1).val) 0#32) : BitVec 32) 0#32 ≠ 1#1 := by rw [h]; decide
    rw [dif_neg hc]
    sl_exec
    sl_step
    iapply Hk
    isplitl [H2]; · iexists f2; isplitr; · (ipureintro; exact e2)
                    iexact H2
    isplitl [H3]; · iexists f3; isplitr; · (ipureintro; exact e3)
                    iexact H3
    isplitl [H4]; · iexists f4; isplitr; · (ipureintro; exact e4)
                    iexact H4
    isplitl [H5]; · iexists f5; isplitr; · (ipureintro; exact e5)
                    iexact H5
    iexists _; isplitr; swap; · iexact H6
    ipureintro
    rw [h]
    refine (View.read_writes_full _ _ _ _ _).trans ?_
    rw [View.readAt_full, View.readAt_full, View.readAt_full, View.readAt_full, View.readAt_full, e2, e3, e4, e5, e6]
    rfl

/-! ## The router -/

section Router
variable (x : Vec F S2048x1024 .f32) (g : Vec F S16x1024 .f32)

/-- The lane numbers of the experts' axis. -/
def lanes : IVec S2048x16 32 := iota .tc S2048x16 32 [1] iota_S2048x16_d1_w32
/-- Every lane at its group's maximum, but one lane of each group masked out. -/
def r81 : FVec F S2048x16 .f32 := k0_pay7 (k0_pay3 x g) k0_pay4 (k0_pay5 (F := F)) (k0_pay6 x g)
def r85 : IVec S2048x16 1 := k0_pay8 (k0_pay3 x g) k0_pay4 (k0_pay5 (F := F)) (k0_pay6 x g)
/-- The two groups kept. -/
def r113 : IVec S2048x1 32 := k0_pay10 lanes (r85 x g) k0_pay9
def r125 : IVec S2048x1 32 := k0_pay11 lanes k0_pay4 (r81 x g) (r85 x g) k0_pay9
def r127 : IVec S2048x1 32 := k0_pay12 lanes k0_pay4 (r81 x g) (r85 x g) k0_pay9
def r130 : IVec S2048x1 32 := k0_pay13 lanes k0_pay4 (r81 x g) (r85 x g) k0_pay9
/-- The two experts and their probabilities. -/
def r158 : FVec F S2048x1 .f32 := k0_pay16 (k0_pay3 x g) k0_pay4 (r113 x g) (r125 x g) 4#32 (r127 x g) (r130 x g) k0_pay14
def r164 : IVec S2048x1 32 := k0_pay17 (k0_pay3 x g) lanes k0_pay4 (r113 x g) (r125 x g) 4#32 (r127 x g) (r130 x g) k0_pay14
def r170 : FVec F S2048x1 .f32 := k0_pay19 (k0_pay3 x g) lanes k0_pay4 (r113 x g) (r125 x g) 4#32 (r127 x g) (r130 x g) k0_pay14
def r176 : IVec S2048x1 32 := k0_pay20 (k0_pay3 x g) lanes k0_pay4 (r113 x g) (r125 x g) 4#32 (r127 x g) (r130 x g) k0_pay14
def r177 : FVec F S2048x1 .f32 := k0_pay21 (k0_pay3 x g) lanes k0_pay4 (r113 x g) (r125 x g) 4#32 (r127 x g) (r130 x g) k0_pay14
/-- The weights. -/
def routeW : Vec F S2048x2 .f32 := k0_pay23 (r158 x g) (r170 x g) (r177 x g) (k0_pay22 (F := F))

/-- The padded counts' starts, and each token's place under each expert kept. -/
def placeT (i1 i2 : IVec S2048x1 32) : FVec F S1x16 .f32 :=
  k0_pay48 (k0_pay24 (F := F) lanes i1 i2) (k0_pay38 (F := F) lanes i1 i2) (k0_pay39 (F := F) lanes i1 i2)
def placeA (i1 i2 : IVec S2048x1 32) : FVec F S2048x16 .f32 :=
  k0_pay49 (k0_pay24 (F := F) lanes i1 i2) (k0_pay25 (F := F)) (k0_pay28 (F := F) lanes i1 i2) (k0_pay31 (F := F) lanes i1 i2) (k0_pay34 (F := F) lanes i1 i2)
    (k0_pay37 (F := F) lanes i1 i2) (k0_pay38 (F := F) lanes i1 i2) (k0_pay39 (F := F) lanes i1 i2) (constant S256x16 .f32 0x00000000#32)
def placeB (i1 i2 : IVec S2048x1 32) : FVec F S2048x16 .f32 :=
  k0_pay50 lanes i1 (k0_pay24 (F := F) lanes i1 i2) (k0_pay25 (F := F)) (k0_pay28 (F := F) lanes i1 i2) (k0_pay31 (F := F) lanes i1 i2) (k0_pay34 (F := F) lanes i1 i2)
    (k0_pay37 (F := F) lanes i1 i2) (k0_pay38 (F := F) lanes i1 i2) (k0_pay39 (F := F) lanes i1 i2) (constant S256x16 .f32 0x00000000#32)
/-- The positions, and the table of the tiles' experts, from the two experts kept. -/
def posOf (i1 i2 : IVec S2048x1 32) : Vec F S2048x2 .i32 := k0_pay1 (F := F) lanes i2 (placeA i1 i2) (placeB i1 i2)
def tabOf (i1 i2 : IVec S2048x1 32) : Vec F S48x1 .i32 := k0_pay2 (F := F) (placeT i1 i2)
def routeP : Vec F S2048x2 .i32 := posOf (F := F) (r164 x g) (r176 x g)
def routeT : Vec F S48x1 .i32 := tabOf (F := F) (r164 x g) (r176 x g)
end Router

set_option maxRecDepth 65536 in
set_option maxHeartbeats 4000000 in
theorem route_run (c : Dev nD) (M0 : Memref sig .tc .vmem S2048x1024 .f32) (h0 : M0.IsWhole) (M1 : Memref sig .tc .vmem S16x1024 .f32) (h1 : M1.IsWhole)
    (M2 : Memref sig .tc .vmem S2048x2 .i32) (h2 : M2.IsWhole) (M3 : Memref sig .tc .vmem S2048x2 .f32) (h3 : M3.IsWhole) (M4 : Memref sig .tc .vmem S48x1 .i32) (h4 : M4.IsWhole)
    (X0 : Vec F S2048x1024 .f32) (X1 : Vec F S16x1024 .f32) (Q : PUnit → sProp 𝕄) :
    iprop(owns (c : Thread nD τ) M0 fullShare X0 ∗ owns (c : Thread nD τ) M1 fullShare X1 ∗ (∃ X, owns (c : Thread nD τ) M2 fullShare X) ∗ (∃ X, owns (c : Thread nD τ) M3 fullShare X) ∗ (∃ X, owns (c : Thread nD τ) M4 fullShare X)
        ∗ (iprop(owns (c : Thread nD τ) M0 fullShare X0 ∗ owns (c : Thread nD τ) M1 fullShare X1 ∗ owns (c : Thread nD τ) M2 fullShare (routeP X0 X1) ∗ owns (c : Thread nD τ) M3 fullShare (routeW X0 X1) ∗ owns (c : Thread nD τ) M4 fullShare (routeT X0 X1)) -∗ Q ⟨⟩))
      ⊢ wp frame (wpE (defs₀ (F := F)) 𝒱₀ (c : Thread nD τ) none) Set.univ (cc0__route_kernel M0 h0 M1 h1 M2 h2 M3 h3 M4 h4) Q := by
  simp only [owns_of_whole h0, owns_of_whole h1, owns_of_whole h2, owns_of_whole h3, owns_of_whole h4]
  iintro ⟨⟨%f0, %e0, H0⟩, ⟨%f1, %e1, H1⟩, ⟨%X2, %f2, %e2, H2⟩, ⟨%X3, %f3, %e3, H3⟩, ⟨%X4, %f4, %e4, H4⟩, Hk⟩
  rw [cc0__route_kernel_eq_skeleton]
  unfold cc0__route_kernel_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  sl_exec
  sl_step
  iapply Hk
  isplitl [H0]; · iexists f0; isplitr; · (ipureintro; exact e0)
                  iexact H0
  isplitl [H1]; · iexists f1; isplitr; · (ipureintro; exact e1)
                  iexact H1
  isplitl [H2]
  · iexists _; isplitr; swap; · iexact H2
    ipureintro
    refine (View.read_writes_full _ _ _ _ _).trans ?_
    rw [View.readAt_full, View.readAt_full, e0, e1]
    unfold routeP posOf placeA placeB r176 r164 r130 r127 r125 r113 r85 r81 lanes route_run.sl.v12
    rfl
  isplitl [H3]
  · iexists _; isplitr; swap; · iexact H3
    ipureintro
    refine (View.read_writes_full _ _ _ _ _).trans ?_
    rw [View.readAt_full, View.readAt_full, e0, e1]
    unfold routeW r177 r170 r158 r130 r127 r125 r113 r85 r81 lanes route_run.sl.v12
    rfl
  · iexists _; isplitr; swap; · iexact H4
    ipureintro
    refine (View.read_writes_full _ _ _ _ _).trans ?_
    rw [View.readAt_full, View.readAt_full, e0, e1]
    unfold routeT tabOf placeT r176 r164 r130 r127 r125 r113 r85 r81 lanes route_run.sl.v12
    rfl

end Cert.Proof.Moe

end
-- ==== Proof.Dats.lean ====
/-
  The four pipelines' proof data at a valuation of the host's arrays: what each staging buffer holds when the body
  runs, what the body leaves there, and the bodies' obligations.
-/
module

public import proofs.«01_k».proof.Proof.Bodies

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.Pipeline (Dat pin BodyObligation tablesAt scopedRest shareOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type} [FloatOps F]

local notation "𝕄" => MT nD τ sig (HIx 2) (Elt F) ℕ UU ℕ

/-- The host's arrays on each device. -/
abbrev Vals (F : FTy → Type) : Type := Dev nD → Valuation τ sig (Elt F)

variable (a : (p : Fin 4) → (pcfgs (F := F) p).Adm) (n : ℕ) (V : Vals F)

/-! ## The router -/

def dat0 (c : Dev nD) : Dat τ (Elt F) (HIx 2) ℕ UU ℕ cfg0 c where
  A w := V c (Proc.devRef .tc (Pipeline.arrRef spec0 w))
  after w t := match w with
    | ⟨0, _⟩ => ((cfg0.win 0).blk t).view.read (Elt F) (V c main_arg0)
    | ⟨1, _⟩ => ((cfg0.win 1).blk t).view.read (Elt F) (V c main_arg1)
    | ⟨2, _⟩ => routeP (((cfg0.win 0).blk t).view.read (Elt F) (V c main_arg0)) (((cfg0.win 1).blk t).view.read (Elt F) (V c main_arg1))
    | ⟨3, _⟩ => routeW (((cfg0.win 0).blk t).view.read (Elt F) (V c main_arg0)) (((cfg0.win 1).blk t).view.read (Elt F) (V c main_arg1))
    | ⟨4, _⟩ => routeT (((cfg0.win 0).blk t).view.read (Elt F) (V c main_arg0)) (((cfg0.win 1).blk t).view.read (Elt F) (V c main_arg1))
  Φ _ := iprop(scopedRest spec0 c ∗ tablesAt (pcfgs (F := F)) a 0 c)
  q w := shareOf spec0 w
  owed _ := (K (F := F)).Otc c n
  recorded _ := below (F := F) c n

theorem obl0 (c : Dev nD) : BodyObligation (dat0 a n V c) (defs₀ (F := F)) 𝒱₀ (none : HIx 2) Set.univ := fun t => by
  rw [bigSep_W0, bigSep_W0]
  rw [show (dat0 a n V c).Φ t.succ = (dat0 a n V c).Φ t.castSucc from rfl,
    show (dat0 a n V c).owesAt (none : HIx 2) t.succ = (dat0 a n V c).owesAt (none : HIx 2) t.castSucc from rfl]
  have b0 : ∀ d, (dat0 a n V c).before 0 t d = ((cfg0.win 0).blk t).view.read (Elt F) (V c main_arg0) := fun d =>
    (dat0 a n V c).before_in_eq_fetched 0 rfl (fun _ => rfl) (fun _ _ _ => rfl) (fun _ => rfl) t d
  have b1 : ∀ d, (dat0 a n V c).before 1 t d = ((cfg0.win 1).blk t).view.read (Elt F) (V c main_arg1) := fun d =>
    (dat0 a n V c).before_in_eq_fetched 1 rfl (fun _ => rfl) (fun _ _ _ => rfl) (fun _ => rfl) t d
  iintro ⟨HΦ, Howes, ⟨%d0, H0⟩, ⟨%d1, H1⟩, ⟨%d2, H2⟩, ⟨%d3, H3⟩, ⟨%d4, H4⟩⟩
  rw [b0, b1]
  have h := route_run (F := F) c (st0_0 t) (hstage0_0 0) (st0_1 t) (hstage0_1 0) (st0_2 t) (hstage0_2 0) (st0_3 t) (hstage0_3 0) (st0_4 t) (hstage0_4 0)
    (((cfg0.win 0).blk t).view.read (Elt F) (V c main_arg0)) (((cfg0.win 1).blk t).view.read (Elt F) (V c main_arg1))
  iapply h
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The combine -/

def dat5 (c : Dev nD) : Dat τ (Elt F) (HIx 2) ℕ UU ℕ cfg5 c where
  A w := V c (Proc.devRef .tc (Pipeline.arrRef spec5 w))
  after w t := match w with
    | ⟨0, _⟩ => ((cfg5.win 0).blk t).view.read (Elt F) (V c main_v36)
    | ⟨1, _⟩ => ((cfg5.win 1).blk t).view.read (Elt F) (V c main_v36)
    | ⟨2, _⟩ => ((cfg5.win 2).blk t).view.read (Elt F) (V c main_v0_1)
    | ⟨3, _⟩ => ((cfg5.win 3).blk t).view.read (Elt F) (V c main_v22)
    | ⟨4, _⟩ => k5_pay1 (((cfg5.win 2).blk t).view.read (Elt F) (V c main_v0_1)) (((cfg5.win 0).blk t).view.read (Elt F) (V c main_v36))
        (((cfg5.win 1).blk t).view.read (Elt F) (V c main_v36)) (((cfg5.win 3).blk t).view.read (Elt F) (V c main_v22))
  Φ _ := iprop(scopedRest spec5 c ∗ tablesAt (pcfgs (F := F)) a 3 c)
  q w := shareOf spec5 w
  owed _ := (K (F := F)).Otc c n
  recorded _ := below (F := F) c n

theorem obl5 (c : Dev nD) : BodyObligation (dat5 a n V c) (defs₀ (F := F)) 𝒱₀ (none : HIx 2) Set.univ := fun t => by
  rw [bigSep_W5, bigSep_W5]
  rw [show (dat5 a n V c).Φ t.succ = (dat5 a n V c).Φ t.castSucc from rfl,
    show (dat5 a n V c).owesAt (none : HIx 2) t.succ = (dat5 a n V c).owesAt (none : HIx 2) t.castSucc from rfl]
  have b0 : ∀ d, (dat5 a n V c).before 0 t d = ((cfg5.win 0).blk t).view.read (Elt F) (V c main_v36) := fun d =>
    (dat5 a n V c).before_in_eq_fetched 0 rfl (fun _ => rfl) (fun _ _ _ => rfl) (fun _ => rfl) t d
  have b1 : ∀ d, (dat5 a n V c).before 1 t d = ((cfg5.win 1).blk t).view.read (Elt F) (V c main_v36) := fun d =>
    (dat5 a n V c).before_in_eq_fetched 1 rfl (fun _ => rfl) (fun _ _ _ => rfl) (fun _ => rfl) t d
  have b2 : ∀ d, (dat5 a n V c).before 2 t d = ((cfg5.win 2).blk t).view.read (Elt F) (V c main_v0_1) := fun d =>
    (dat5 a n V c).before_in_eq_fetched 2 rfl (fun _ => rfl) (fun _ _ _ => rfl) (fun _ => rfl) t d
  have b3 : ∀ d, (dat5 a n V c).before 3 t d = ((cfg5.win 3).blk t).view.read (Elt F) (V c main_v22) := fun d =>
    (dat5 a n V c).before_in_eq_fetched 3 rfl (fun _ => rfl) (fun _ _ _ => rfl) (fun _ => rfl) t d
  iintro ⟨HΦ, Howes, ⟨%d0, H0⟩, ⟨%d1, H1⟩, ⟨%d2, H2⟩, ⟨%d3, H3⟩, ⟨%d4, H4⟩⟩
  rw [b0, b1, b2, b3]
  have h := combine_run (F := F) c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) (st5_3 t) (hstage5_3 ((cfg5.slots t 3).cast nbuf5_3)) (st5_4 t) (hstage5_4 ((cfg5.slots t 4).cast nbuf5_4))
    (((cfg5.win 0).blk t).view.read (Elt F) (V c main_v36)) (((cfg5.win 1).blk t).view.read (Elt F) (V c main_v36))
    (((cfg5.win 3).blk t).view.read (Elt F) (V c main_v22)) (((cfg5.win 2).blk t).view.read (Elt F) (V c main_v0_1))
  iapply h
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The shared expert -/

/-- The shared expert's block after the step at point `t`, from what it held before. -/
def shStep (c : Dev nD) (t : Fin cfg2.N) (X : Vec F S1024x1024 .f32) : Vec F S1024x1024 .f32 :=
  sharedStep ((grid2.coords t) 1).val X (((cfg2.win 0).blk t).view.read (Elt F) (V c main_arg0)) (((cfg2.win 1).blk t).view.read (Elt F) (V c main_v15))
    (((cfg2.win 2).blk t).view.read (Elt F) (V c main_v16)) (((cfg2.win 3).blk t).view.read (Elt F) (V c main_v21))

/-- The same, the block before being the one the point before left. -/
def shAcc (c : Dev nD) (t : Fin cfg2.N) : Vec F S1024x1024 .f32 :=
  shStep V c t (shStep V c ⟨t.val - 1, Nat.lt_of_le_of_lt (Nat.sub_le _ _) t.isLt⟩ k2_pay1)

def dat2 (c : Dev nD) : Dat τ (Elt F) (HIx 2) ℕ UU ℕ cfg2 c where
  A w := V c (Proc.devRef .tc (Pipeline.arrRef spec2 w))
  after w t := match w with
    | ⟨0, _⟩ => ((cfg2.win 0).blk t).view.read (Elt F) (V c main_arg0)
    | ⟨1, _⟩ => ((cfg2.win 1).blk t).view.read (Elt F) (V c main_v15)
    | ⟨2, _⟩ => ((cfg2.win 2).blk t).view.read (Elt F) (V c main_v16)
    | ⟨3, _⟩ => ((cfg2.win 3).blk t).view.read (Elt F) (V c main_v21)
    | ⟨4, _⟩ => shAcc V c t
  Φ _ := iprop(scopedRest spec2 c ∗ tablesAt (pcfgs (F := F)) a 1 c)
  q w := shareOf spec2 w
  owed _ := (K (F := F)).Otc c n
  recorded _ := below (F := F) c n

theorem coords2 : ∀ t : Fin grid2.N, ((grid2.coords t) 1).val = t.val % 2 := by decide

theorem shStep_even (c : Dev nD) (t : Fin cfg2.N) (h : t.val % 2 = 0) (X Y : Vec F S1024x1024 .f32) : shStep V c t X = shStep V c t Y := by
  unfold shStep sharedStep
  rw [coords2 t, h, if_pos rfl, if_pos rfl]

theorem obl2 (c : Dev nD) : BodyObligation (dat2 a n V c) (defs₀ (F := F)) 𝒱₀ (none : HIx 2) Set.univ := fun t => by
  rw [bigSep_W2, bigSep_W2]
  rw [show (dat2 a n V c).Φ t.succ = (dat2 a n V c).Φ t.castSucc from rfl,
    show (dat2 a n V c).owesAt (none : HIx 2) t.succ = (dat2 a n V c).owesAt (none : HIx 2) t.castSucc from rfl]
  have b0 : ∀ d, (dat2 a n V c).before 0 t d = ((cfg2.win 0).blk t).view.read (Elt F) (V c main_arg0) := fun d =>
    (dat2 a n V c).before_in_eq_fetched 0 rfl (fun _ => rfl) (fun _ _ _ => rfl) (fun _ => rfl) t d
  have b1 : ∀ d, (dat2 a n V c).before 1 t d = ((cfg2.win 1).blk t).view.read (Elt F) (V c main_v15) := fun d =>
    (dat2 a n V c).before_in_eq_fetched 1 rfl (fun _ => rfl) (fun _ _ _ => rfl) (fun _ => rfl) t d
  have b2 : ∀ d, (dat2 a n V c).before 2 t d = ((cfg2.win 2).blk t).view.read (Elt F) (V c main_v16) := fun d =>
    (dat2 a n V c).before_in_eq_fetched 2 rfl (fun _ => rfl) (fun _ _ _ => rfl) (fun _ => rfl) t d
  have b3 : ∀ d, (dat2 a n V c).before 3 t d = ((cfg2.win 3).blk t).view.read (Elt F) (V c main_v21) := fun d =>
    (dat2 a n V c).before_in_eq_fetched 3 rfl (fun _ => rfl) (fun _ _ _ => rfl) (fun _ => rfl) t d
  have b4 : ∀ d, shStep V c t ((dat2 a n V c).before 4 t d) = shAcc V c t := fun d => by
    rcases Nat.mod_two_eq_zero_or_one t.val with h | h
    · exact shStep_even V c t h _ _
    · have h0 : t.val ≠ 0 := by omega
      have hf : (cfg2.win 4).flush ⟨t.val - 1, Nat.lt_of_le_of_lt (Nat.sub_le _ _) t.isLt⟩ = false := by
        rw [← Bool.not_eq_true, flush2_4]; show ¬ (t.val - 1) % 2 = 1; omega
      rw [(dat2 a n V c).before_out_kept 4 rfl t h0 hf (fun _ => rfl) (fun _ _ => rfl) d]
      unfold shAcc
      exact congrArg (shStep V c t) (shStep_even V c _ (by show (t.val - 1) % 2 = 0; omega) _ _)
  iintro ⟨HΦ, Howes, ⟨%d0, H0⟩, ⟨%d1, H1⟩, ⟨%d2, H2⟩, ⟨%d3, H3⟩, ⟨%d4, H4⟩⟩
  rw [b0, b1, b2, b3]
  have h := shared_run (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (st2_4 t) (hstage2_4 ((cfg2.slots t 4).cast nbuf2_4))
    (((cfg2.win 0).blk t).view.read (Elt F) (V c main_arg0)) ((dat2 a n V c).before 4 t d4) (((cfg2.win 1).blk t).view.read (Elt F) (V c main_v15))
    (((cfg2.win 2).blk t).view.read (Elt F) (V c main_v16)) (((cfg2.win 3).blk t).view.read (Elt F) (V c main_v21))
  iapply h
  isplitl [H0]; · iexact H0
  isplitl [H1]; · iexact H1
  isplitl [H2]; · iexact H2
  isplitl [H3]; · iexact H3
  isplitl [H4]; · iexact H4
  iintro ⟨H0, H1, H2, H3, H4⟩
  have e4 := b4 d4
  unfold shStep at e4
  rw [e4]
  isplitl [HΦ]; · iexact HΦ
  isplitl [Howes]; · iexact Howes
  isplitl [H0]; · iexact H0
  isplitl [H1]; · iexact H1
  isplitl [H2]; · iexact H2
  isplitl [H3]; · iexact H3
  iexact H4

/-! ## The grouped experts -/

def dat3 (c : Dev nD) : Dat τ (Elt F) (HIx 2) ℕ UU ℕ (cfg3 (F := F) (a 2)) c where
  A w := V c (Proc.devRef .tc (Pipeline.arrRef spec3 w))
  after w t := match w with
    | ⟨0, _⟩ => (((cfg3 (a 2)).win 0).blk t).view.read (Elt F) (V c main_v14)
    | ⟨1, _⟩ => (((cfg3 (a 2)).win 1).blk t).view.read (Elt F) (V c main_arg2)
    | ⟨2, _⟩ => (((cfg3 (a 2)).win 2).blk t).view.read (Elt F) (V c main_arg3)
    | ⟨3, _⟩ => (((cfg3 (a 2)).win 3).blk t).view.read (Elt F) (V c main_arg4)
    | ⟨4, _⟩ => k3_pay1 ((((cfg3 (a 2)).win 0).blk t).view.read (Elt F) (V c main_v14)) ((((cfg3 (a 2)).win 1).blk t).view.read (Elt F) (V c main_arg2))
        ((((cfg3 (a 2)).win 2).blk t).view.read (Elt F) (V c main_arg3)) ((((cfg3 (a 2)).win 3).blk t).view.read (Elt F) (V c main_arg4))
  Φ _ := iprop(scopedRest spec3 c ∗ tablesAt (pcfgs (F := F)) a 2 c)
  q w := shareOf spec3 w
  owed _ := (K (F := F)).Otc c n
  recorded _ := below (F := F) c n

set_option backward.isDefEq.respectTransparency.types false in
theorem obl3 (c : Dev nD) : BodyObligation (dat3 a n V c) (defs₀ (F := F)) 𝒱₀ (none : HIx 2) Set.univ := fun t => by
  rw [bigSep_W3, bigSep_W3]
  rw [show (dat3 a n V c).Φ t.succ = (dat3 a n V c).Φ t.castSucc from rfl,
    show (dat3 a n V c).owesAt (none : HIx 2) t.succ = (dat3 a n V c).owesAt (none : HIx 2) t.castSucc from rfl]
  have b0 : ∀ d, (dat3 a n V c).before 0 t d = (((cfg3 (a 2)).win 0).blk t).view.read (Elt F) (V c main_v14) := fun d =>
    (dat3 a n V c).before_in_eq_fetched 0 rfl (fun _ => rfl) (fun _ _ _ => rfl) (fun _ => rfl) t d
  have b1 : ∀ d, (dat3 a n V c).before 1 t d = (((cfg3 (a 2)).win 1).blk t).view.read (Elt F) (V c main_arg2) := fun d =>
    (dat3 a n V c).before_in_eq_fetched 1 rfl (fun _ => rfl) (fun _ _ _ => rfl) (fun _ => rfl) t d
  have b2 : ∀ d, (dat3 a n V c).before 2 t d = (((cfg3 (a 2)).win 2).blk t).view.read (Elt F) (V c main_arg3) := fun d =>
    (dat3 a n V c).before_in_eq_fetched 2 rfl (fun _ => rfl) (fun _ _ _ => rfl) (fun _ => rfl) t d
  have b3 : ∀ d, (dat3 a n V c).before 3 t d = (((cfg3 (a 2)).win 3).blk t).view.read (Elt F) (V c main_arg4) := fun d =>
    (dat3 a n V c).before_in_eq_fetched 3 rfl (fun _ => rfl) (fun _ _ _ => rfl) (fun _ => rfl) t d
  iintro ⟨HΦ, Howes, ⟨%d0, H0⟩, ⟨%d1, H1⟩, ⟨%d2, H2⟩, ⟨%d3, H3⟩, ⟨%d4, H4⟩⟩
  have h := grouped_run (F := F) c (grid3.coords t) (Memref.whole main_v23) (Memref.isWhole_whole _) (((cfg3 (a 2)).win 0).stage ((cfg3 (a 2)).slots t 0)) (hstage3_0 (((cfg3 (a 2)).slots t 0).cast nbuf3_0))
    (((cfg3 (a 2)).win 1).stage ((cfg3 (a 2)).slots t 1)) (hstage3_1 (((cfg3 (a 2)).slots t 1).cast nbuf3_1))
    (((cfg3 (a 2)).win 2).stage ((cfg3 (a 2)).slots t 2)) (hstage3_2 (((cfg3 (a 2)).slots t 2).cast nbuf3_2))
    (((cfg3 (a 2)).win 3).stage ((cfg3 (a 2)).slots t 3)) (hstage3_3 (((cfg3 (a 2)).slots t 3).cast nbuf3_3))
    (((cfg3 (a 2)).win 4).stage ((cfg3 (a 2)).slots t 4)) (hstage3_4 (((cfg3 (a 2)).slots t 4).cast nbuf3_4))
    ((((cfg3 (a 2)).win 0).blk t).view.read (Elt F) (V c main_v14)) ((((cfg3 (a 2)).win 1).blk t).view.read (Elt F) (V c main_arg2))
    ((((cfg3 (a 2)).win 2).blk t).view.read (Elt F) (V c main_arg3)) ((((cfg3 (a 2)).win 3).blk t).view.read (Elt F) (V c main_arg4))
  iapply h
  isplitl [H0]; · iapply (Entails.of_eq (congrArg (fun X => (owns (c : Thread nD τ) (((cfg3 (a 2)).win 0).stage ((cfg3 (a 2)).slots t 0)) fullShare X : sProp 𝕄)) (b0 d0))); iexact H0
  isplitl [H1]; · iapply (Entails.of_eq (congrArg (fun X => (owns (c : Thread nD τ) (((cfg3 (a 2)).win 1).stage ((cfg3 (a 2)).slots t 1)) fullShare X : sProp 𝕄)) (b1 d1))); iexact H1
  isplitl [H2]; · iapply (Entails.of_eq (congrArg (fun X => (owns (c : Thread nD τ) (((cfg3 (a 2)).win 2).stage ((cfg3 (a 2)).slots t 2)) fullShare X : sProp 𝕄)) (b2 d2))); iexact H2
  isplitl [H3]; · iapply (Entails.of_eq (congrArg (fun X => (owns (c : Thread nD τ) (((cfg3 (a 2)).win 3).stage ((cfg3 (a 2)).slots t 3)) fullShare X : sProp 𝕄)) (b3 d3))); iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The four together. -/
def pdats : (p : Fin 4) → (c : Dev nD) → Dat τ (Elt F) (HIx 2) ℕ UU ℕ (pin (pcfgs (F := F)) a p) c
  | ⟨0, _⟩ => dat0 a n V
  | ⟨1, _⟩ => dat2 a n V
  | ⟨2, _⟩ => dat3 a n V
  | ⟨3, _⟩ => dat5 a n V

end Cert.Proof.Moe

end
-- ==== Proof.Outs.lean ====
/-
  What each pipeline leaves in the array it writes: every element is of the block of the point that writes its rows.
-/
module

public import proofs.«01_k».proof.Proof.Dats
public import Idealize.ShloMosaic.Lib.Pipeline.ValueKit

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.Pipeline (Dat pin)
open Idealize.ShloMosaic.Tactic
open TcCoe

variable {F : FTy → Type} [FloatOps F]

variable (a : (p : Fin 4) → (pcfgs (F := F) p).Adm) (n : ℕ) (V : Vals F) (c : Dev nD)

/-- The block of the combined rows that point `t` writes. -/
def combBlk (t : Fin cfg5.N) : Vec F S1024x1024 .f32 :=
  k5_pay1 (((cfg5.win 2).blk t).view.read (Elt F) (V c main_v0_1)) (((cfg5.win 0).blk t).view.read (Elt F) (V c main_v36))
        (((cfg5.win 1).blk t).view.read (Elt F) (V c main_v36)) (((cfg5.win 3).blk t).view.read (Elt F) (V c main_v22))

/-- The combined rows, by blocks of 1024. -/
def combOut : S2048x1024.Idx → Elt F .f32 := fun i =>
  combBlk V c ⟨(i 0).val / 1024, show _ < 2 from Nat.div_lt_of_lt_mul (i 0).isLt⟩ (ValueIdx.ix2 ⟨(i 0).val % 1024, Nat.mod_lt _ (by decide)⟩ (i 1))

theorem index5 : ∀ t : Fin grid5.N, (cfg5.win 4).index t 0 = t.val ∧ (cfg5.win 4).index t 1 = 0 := by decide +kernel
theorem index2 : ∀ t : Fin grid2.N, (cfg2.win 4).index t 0 = t.val / 2 ∧ (cfg2.win 4).index t 1 = 0 := by decide +kernel
theorem index3 : ∀ t : Fin grid3.N, cc3_transform_4 (grid3.coords t) 0 = t.val ∧ cc3_transform_4 (grid3.coords t) 1 = 0 := by decide +kernel

theorem comb_arr : (dat5 a n V c).arrAt 4 cfg5.N = combOut V c := by
  refine (dat5 a n V c).arrAt_eq_of_covers 4 _ (by decide +kernel) fun t hf y => ?_
  blk_simp
  have h0 : ((win5_4.blk t).view.emb y 0).val = t.val * 1024 + (y 0).val := ((win5_4).rect_emb_val t y 0).trans (by rw [show win5_4.index t 0 = t.val from (index5 t).1]; rfl)
  have h1 : ((win5_4.blk t).view.emb y 1).val = (y 1).val := ((win5_4).rect_emb_val t y 1).trans (by rw [show win5_4.index t 1 = 0 from (index5 t).2, Nat.zero_mul, Nat.zero_add])
  have hy : (y 0).val < 1024 := (y 0).isLt
  show combBlk V c t y = combBlk V c _ _
  congr 1
  · exact Fin.ext (by show t.val = _ / 1024; rw [h0]; omega)
  · funext b
    match b with
    | 0 => exact Fin.ext (by show (y 0).val = _ % 1024; rw [h0]; omega)
    | 1 => exact Fin.ext h1.symm

/-- The shared expert's rows, by blocks of 1024, each as its second point leaves it. -/
def sharedOut : S2048x1024.Idx → Elt F .f32 := fun i =>
  shAcc V c ⟨2 * ((i 0).val / 1024) + 1, show _ < 4 by have : (i 0).val < 2048 := (i 0).isLt; omega⟩
    (ValueIdx.ix2 ⟨(i 0).val % 1024, Nat.mod_lt _ (by decide)⟩ (i 1))

theorem shared_arr : (dat2 a n V c).arrAt 4 cfg2.N = sharedOut V c := by
  refine (dat2 a n V c).arrAt_eq_of_covers 4 _ (by decide +kernel) fun t hf y => ?_
  blk_simp
  have hf' : t.val % 2 = 1 := (flush2_4 t).mp hf
  have h0 : ((win2_4.blk t).view.emb y 0).val = t.val / 2 * 1024 + (y 0).val := ((win2_4).rect_emb_val t y 0).trans (by rw [show win2_4.index t 0 = t.val / 2 from (index2 t).1]; rfl)
  have h1 : ((win2_4.blk t).view.emb y 1).val = (y 1).val := ((win2_4).rect_emb_val t y 1).trans (by rw [show win2_4.index t 1 = 0 from (index2 t).2, Nat.zero_mul, Nat.zero_add])
  have hy : (y 0).val < 1024 := (y 0).isLt
  show shAcc V c t y = shAcc V c _ _
  congr 1
  · exact Fin.ext (by show t.val = 2 * (_ / 1024) + 1; rw [h0]; omega)
  · funext b
    match b with
    | 0 => exact Fin.ext (by show (y 0).val = _ % 1024; rw [h0]; omega)
    | 1 => exact Fin.ext h1.symm

/-- The block of the experts' rows that point `t` writes. -/
def groupBlk (A : (pcfg3 (F := F)).Adm) (t : Fin 48) : Vec F S128x1024 .f32 :=
  k3_pay1 ((((cfg3 A).win 0).blk t).view.read (Elt F) (V c main_v14)) ((((cfg3 A).win 1).blk t).view.read (Elt F) (V c main_arg2))
        ((((cfg3 A).win 2).blk t).view.read (Elt F) (V c main_arg3)) ((((cfg3 A).win 3).blk t).view.read (Elt F) (V c main_arg4))

/-- The experts' rows, by tiles of 128. -/
def groupOut (A : (pcfg3 (F := F)).Adm) : S6144x1024.Idx → Elt F .f32 := fun i =>
  groupBlk V c A ⟨(i 0).val / 128, Nat.div_lt_of_lt_mul (i 0).isLt⟩ (ValueIdx.ix2 ⟨(i 0).val % 128, Nat.mod_lt _ (by decide)⟩ (i 1))

theorem flush3_4 : ∀ t : Fin grid3.N, Pipeline.Window.flushOf grid3 true cc3_transform_4 t = true := by decide +kernel

/-- Where an element of the block of point `t` lies in the experts' rows. -/
def at3 (t : Fin 48) (y : S128x1024.Idx) : S6144x1024.Idx :=
  ValueIdx.ix2 ⟨t.val * 128 + (y 0).val, by have := t.isLt; have : (y 0).val < 128 := (y 0).isLt; omega⟩ (y 1)

theorem emb3_4 (A : (pcfg3 (F := F)).Adm) (t : Fin grid3.N) (y : S128x1024.Idx) : (((cfg3 A).win 4).blk t).view.emb y = at3 t y := by
  refine funext fun (b : Fin 2) => Fin.ext ?_
  match b with
  | 0 => exact (((cfg3 A).win 4).rect_emb_val t y (0 : Fin 2)).trans (congrArg (· * 128 + (y 0).val) (index3 t).1)
  | 1 => exact (((cfg3 A).win 4).rect_emb_val t y (1 : Fin 2)).trans ((congrArg (· * 1024 + (y 1).val) (index3 t).2).trans (by show 0 * 1024 + (y 1).val = (y 1).val; omega))

theorem groupOut_at (A : (pcfg3 (F := F)).Adm) (t : Fin grid3.N) (y : S128x1024.Idx) : groupOut V c A (at3 t y) = groupBlk V c A t y := by
  have hy : (y 0).val < 128 := (y 0).isLt
  show groupBlk V c A _ _ = groupBlk V c A t y
  congr 1
  · exact Fin.ext (by show (t.val * 128 + (y 0).val) / 128 = t.val; omega)
  · funext b
    match b with
    | 0 => exact Fin.ext (by show (t.val * 128 + (y 0).val) % 128 = (y 0).val; omega)
    | 1 => rfl

theorem at3_of (i : S6144x1024.Idx) : at3 ⟨(i 0).val / 128, Nat.div_lt_of_lt_mul (i 0).isLt⟩ (ValueIdx.ix2 ⟨(i 0).val % 128, Nat.mod_lt _ (by decide)⟩ (i 1)) = i := by
  funext b
  match b with
  | 0 => exact Fin.ext (by show (i 0).val / 128 * 128 + (i 0).val % 128 = (i 0).val; omega)
  | 1 => rfl

theorem group_arr : (dat3 a n V c).arrAt 4 (cfg3 (a 2)).N = groupOut V c (a 2) := by
  refine (dat3 a n V c).arrAt_eq_of_emb 4 _ (fun t hf (y : S128x1024.Idx) => ?_) fun (i : S6144x1024.Idx) => ?_
  · rw [emb3_4, groupOut_at]
    rfl
  · obtain ⟨t, y, h⟩ : ∃ (t : Fin grid3.N) (y : S128x1024.Idx), at3 t y = i := ⟨_, _, at3_of i⟩
    have h' := (emb3_4 (a 2) t y).trans h
    exact ⟨t, (((cfg3 (a 2)).win 4).flush_eq_flushOf t).trans (flush3_4 t), h' ▸ View.emb_mem_set _ _⟩

/-! ## The router's arrays are its blocks -/

theorem index0 : ∀ (w : Fin 5) (t : Fin grid0.N) b, (cfg0.win w).index t b = 0 := by decide +kernel

theorem emb0_0 (t : Fin cfg0.N) (y) : (win0_0.blk t).view.emb y = y := funext fun b => Fin.ext ((win0_0).rect_emb_val_of_index_zero t b (index0 0 t b) y)
theorem emb0_1 (t : Fin cfg0.N) (y) : (win0_1.blk t).view.emb y = y := funext fun b => Fin.ext ((win0_1).rect_emb_val_of_index_zero t b (index0 1 t b) y)
theorem emb0_2 (t : Fin cfg0.N) (y) : (win0_2.blk t).view.emb y = y := funext fun b => Fin.ext ((win0_2).rect_emb_val_of_index_zero t b (index0 2 t b) y)
theorem emb0_3 (t : Fin cfg0.N) (y) : (win0_3.blk t).view.emb y = y := funext fun b => Fin.ext ((win0_3).rect_emb_val_of_index_zero t b (index0 3 t b) y)
theorem emb0_4 (t : Fin cfg0.N) (y) : (win0_4.blk t).view.emb y = y := funext fun b => Fin.ext ((win0_4).rect_emb_val_of_index_zero t b (index0 4 t b) y)

theorem read0_0 (t : Fin cfg0.N) : ((cfg0.win 0).blk t).view.read (Elt F) (V c main_arg0) = V c main_arg0 :=
  funext fun y => (View.read_apply _ _).trans ((cast_eq _ _).trans (congrArg (V c main_arg0) (emb0_0 t y)))
theorem read0_1 (t : Fin cfg0.N) : ((cfg0.win 1).blk t).view.read (Elt F) (V c main_arg1) = V c main_arg1 :=
  funext fun y => (View.read_apply _ _).trans ((cast_eq _ _).trans (congrArg (V c main_arg1) (emb0_1 t y)))

theorem routeP_arr : (dat0 a n V c).arrAt 2 cfg0.N = routeP (V c main_arg0) (V c main_arg1) := by
  refine (dat0 a n V c).arrAt_eq_of_covers 2 _ (by decide +kernel) fun t hf y => ?_
  blk_simp
  rw [emb0_2]
  show routeP _ _ y = _
  rw [read0_0, read0_1]

theorem routeW_arr : (dat0 a n V c).arrAt 3 cfg0.N = routeW (V c main_arg0) (V c main_arg1) := by
  refine (dat0 a n V c).arrAt_eq_of_covers 3 _ (by decide +kernel) fun t hf y => ?_
  blk_simp
  rw [emb0_3]
  show routeW _ _ y = _
  rw [read0_0, read0_1]

theorem routeT_arr : (dat0 a n V c).arrAt 4 cfg0.N = routeT (V c main_arg0) (V c main_arg1) := by
  refine (dat0 a n V c).arrAt_eq_of_covers 4 _ (by decide +kernel) fun t hf y => ?_
  blk_simp
  rw [emb0_4]
  show routeT _ _ y = _
  rw [read0_0, read0_1]

end Cert.Proof.Moe

end
-- ==== Proof.Collect.lean ====
/-
  One tile of the SparseCore's gather: its two chunks of 512 rows, each fetched by the list of row numbers
  and written out, with the value the output holds afterwards.
-/
module

public import proofs.«01_k».proof.Proof.Names

@[expose] public section

noncomputable section

namespace Cert.Proof.Collect

open Cert.KernelIdeal Cert.KernelIdeal.Gen Cert.Proof.Moe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays -/

abbrev yLoc (d : Dev nD) : Loc nD τ sig := (SparseCore.T d).loc main_v25
abbrev iLoc (d : Dev nD) : Loc nD τ sig := (SparseCore.T d).loc main_v34
abbrev oLoc (d : Dev nD) : Loc nD τ sig := (SparseCore.T d).loc main_v35

local notation "yV" => (Memref.whole Cert.KernelIdeal.main_v25_scv : Memref Cert.KernelIdeal.sig Kind.scVector Space.hbm Cert.KernelIdeal.S49152x128 EltTy.f32)
local notation "iV" => (Memref.whole Cert.KernelIdeal.main_v34_scv : Memref Cert.KernelIdeal.sig Kind.scVector Space.hbm Cert.KernelIdeal.S32768 EltTy.i32)
local notation "oV" => (Memref.whole Cert.KernelIdeal.main_v35_scv : Memref Cert.KernelIdeal.sig Kind.scVector Space.hbm Cert.KernelIdeal.S32768x128 EltTy.f32)
local notation "sV" => (Memref.whole Cert.KernelIdeal.cc4_scratch0 : Memref Cert.KernelIdeal.sig Kind.scVector Space.vmem Cert.KernelIdeal.S512 EltTy.i32)
local notation "rV" => (Memref.whole Cert.KernelIdeal.cc4_scratch1 : Memref Cert.KernelIdeal.sig Kind.scVector Space.vmem Cert.KernelIdeal.S512x128 EltTy.f32)

/-- The row of `y` that word `j` of the list names (row 0 should the word name none). -/
def rowAt (w : BitVec 32) : Fin 49152 := ⟨w.toNat % 49152, Nat.mod_lt _ (by decide)⟩

/-- What the output holds at the end: row `j` is the row of `y` that word `j` of the list names. -/
def collected (fy : S49152x128.Idx → Elt F .f32) (fi : S32768.Idx → Elt F .i32) : S32768x128.Idx → Elt F .f32 :=
  fun x => fy (ValueIdx.ix2 (rowAt (fi (ValueIdx.ix1 (x 0)))) (x 1))

variable [FloatOps F]

/-! ## The tile -/

section Tile

variable (d : Dev nD) (L : grid4.Coords)

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- Chunk `t` of the list and of the output, and all of `y`, as the tile addresses them. -/
abbrev iRowK (L : grid4.Coords) (t : Fin k4_t1_loop.trips) : Memref sig .scVector .hbm S512 .i32 :=
  (iV).slice (Rect.unit (s := S32768) (k4_off1 L t) S512.size (k4_off1_inb L t)) (fun _ => rfl)
abbrev oRowK (L : grid4.Coords) (t : Fin k4_t1_loop.trips) : Memref sig .scVector .hbm S512x128 .f32 :=
  (oV).slice (Rect.unit (s := S32768x128) (k4_off2 L t) S512x128.size (k4_off2_inb L t)) (fun _ => rfl)
abbrev yAllK : Memref sig .scVector .hbm S49152x128 .f32 :=
  (yV).slice (Rect.unit (s := S49152x128) ![0, 0] S49152x128.size inb_S49152x128_S49152x128_0_0) (fun _ => rfl)

abbrev cAcell (d : Dev nD) (L : grid4.Coords) : GSem nD τ sig := (thr d L, .dma cc4_scoped0.sem)
abbrev cBcell (d : Dev nD) (L : grid4.Coords) : GSem nD τ sig := (thr d L, .dma cc4_scratch2.sem)
abbrev cCcell (d : Dev nD) (L : grid4.Coords) : GSem nD τ sig := (thr d L, .dma cc4_scoped1.sem)

variable (fy : Buf (Elt F) (yLoc d)) (fi : Buf (Elt F) (iLoc d))

/-- The words a chunk's fetch lands are the list's. -/
theorem words_eq (t : Fin k4_t1_loop.trips) (fs : Buf (Elt F) ((thr d L).loc cc4_scratch0)) (pay : S512.Idx → Elt F .i32)
    (hpay : pay = (iRowK L t).view.read (Elt F) fi) (x : S512.Idx) :
    (sV).view.read (Elt F) (View.write (Elt F) (sV).view fs pay Finset.univ) x = fi ((iRowK L t).view.emb x) := by
  subst hpay
  rw [View.write_whole_univ]
  simp only [Memref.view_whole, View.read_whole]
  exact (View.read_apply _ _).trans (cast_eq _ _)

/-- So each is a row of `y`. -/
theorem words_inb (hin : ∀ j, (fi j : BitVec 32).toNat < 49152) (t : Fin k4_t1_loop.trips) (fs : Buf (Elt F) ((thr d L).loc cc4_scratch0)) (pay : S512.Idx → Elt F .i32)
    (hpay : pay = (iRowK L t).view.read (Elt F) fi) :
    ∀ x, ((sV).view.read (Elt F) (View.write (Elt F) (sV).view fs pay Finset.univ) x).toNat < S49152x128.size gathers_S49152x128_S512x128.axis := by
  intro x
  rw [words_eq d L fi t fs pay hpay x]
  exact hin _

/-- The rows a chunk's gather lands are the output's. -/
theorem chunk_value (hin : ∀ j, (fi j : BitVec 32).toNat < 49152) (t : Fin k4_t1_loop.trips) (w : S512.Idx → Elt F .i32) (hn)
    (hw : ∀ x, (w x : BitVec 32).toNat < S49152x128.size gathers_S49152x128_S512x128.axis)
    (hwe : ∀ x, w x = fi ((iRowK L t).view.emb x)) (k : S512x128.Idx) :
    SparseCore.gatherPayload gathers_S49152x128_S512x128 (yAllK.view.read (Elt F) fy) (SparseCore.rows w hn hw) k
      = collected fy fi ((oRowK L t).view.emb k) := by
  have hoff := k4_off2_eq L t
  have hoff1 := k4_off1_eq L t
  show fy (yAllK.view.emb _) = fy _
  congr 1
  funext a
  apply Fin.ext
  match a with
  | 0 =>
    show 0 + 1 * (Shape.Gathers.idx gathers_S49152x128_S512x128 (SparseCore.rows w hn hw) k (gathers_S49152x128_S512x128).axis).val = _
    rw [Shape.Gathers.idx_axis]
    show 0 + 1 * (w (S512.rowMajor.symm ((k 0).cast hn.symm))).toNat = (fi (ValueIdx.ix1 ((oRowK L t).view.emb k 0)) : BitVec 32).toNat % 49152
    rw [Nat.mod_eq_of_lt (hin _), hwe, Nat.zero_add, Nat.one_mul]
    congr 2
    funext b
    apply Fin.ext
    match b with
    | 0 =>
      show k4_off1 L t 0 + 1 * (S512.rowMajor.symm ((k 0).cast hn.symm) 0).val = k4_off2 L t 0 + 1 * (k 0).val
      rw [hoff, hoff1, ← Shape.rowMajor_val_one (S512.rowMajor.symm ((k 0).cast hn.symm)), Equiv.apply_symm_apply]
      rfl
  | 1 =>
    have h := Shape.Gathers.idx_of_ne gathers_S49152x128_S512x128 (SparseCore.rows w hn hw) k (1 : Fin S49152x128.rank) (by decide)
    refine (show _ = 0 + 1 * (k 1).val from congrArg (0 + 1 * ·) h).trans ?_
    show _ = k4_off2 L t 1 + 1 * (k 1).val
    rw [hoff]
    rfl

/-- What one trip works with: the tables' shares, its window of the output at `fo`, the scratch, the counters. -/
abbrev tripRes (q qi : PosShare TreeShare) (t : Fin k4_t1_loop.trips) (O : CellTallies nD τ sig (HIx 2)) (fo : Buf (Elt F) (oLoc d)) (R : sProp 𝕄) : sProp 𝕄 :=
  iprop(Transfers.MayWaits (thr d L) (none : HIx 2) O
    ∗ ((yV).view.loc (thr d L) ↦{q} fy) ∗ ((iV).view.loc (thr d L) ↦{qi} fi)
    ∗ ((oRowK L t).view.loc (thr d L) ↦[(oRowK L t).view.set]{fullShare} fo)
    ∗ (∃ fs, (sV).view.loc (thr d L) ↦{fullShare} fs) ∗ (∃ fr, (rV).view.loc (thr d L) ↦{fullShare} fr)
    ∗ semVal (cAcell d L) 0 ∗ semVal (cBcell d L) 0 ∗ semVal (cCcell d L) 0 ∗ R)

set_option maxHeartbeats 4000000 in
/-- One trip: the chunk's words fetched, the rows they name gathered, the rows written out. -/
theorem trip_body (q qi : PosShare TreeShare) (hin : ∀ j, (fi j : BitVec 32).toNat < 49152) (t : Fin k4_t1_loop.trips)
    (O : CellTallies nD τ sig (HIx 2)) (W : Waits sig (HIx 2)) (fo : Buf (Elt F) (oLoc d)) (R : sProp 𝕄) :
    (tripRes d L fy fi q qi t O fo iprop(R ∗ owes (thr d L) O W) : sProp 𝕄)
      ⊢ wp frame (wpE (defs₀ (F := F)) 𝒱₀ (thr d L) none) Set.univ
          (k4_t1_body L yV (Memref.isWhole_whole _) iV (Memref.isWhole_whole _) oV (Memref.isWhole_whole _)
            sV (Memref.isWhole_whole _) rV (Memref.isWhole_whole _) cc4_scratch2 cc4_scoped0 cc4_scoped1 t ())
          fun _ => tripRes d L fy fi q qi t O (collected fy fi) iprop(R ∗ ∃ W', ⌜∀ p ∈ W', p ∈ W ∨ p.2 = none⌝ ∗ owes (thr d L) O W') := by
  unfold k4_t1_body
  iintro ⟨Hmw, Hy, Hi, Ho, ⟨%fs, Hs⟩, ⟨%fr, Hr⟩, HsemA, HsemB, HsemC, HR, HO⟩
  sl_exec
  have hw := words_inb d L fi hin t fs (trip_body.sl.dma0 d L fi t) rfl
  sl_exec
  have hval : ∀ i ∈ (oRowK L t).view.set, (oRowK L t).view.writes (Elt F) fo [⟨Rect.whole S512x128, trip_body.sl.dma0_1 d L fy fi t fs fr hw⟩] i = collected fy fi i := by
    intro i hi
    obtain ⟨k, -, rfl⟩ := Finset.mem_map.mp hi
    have h1 : trip_body.sl.dma0_1 d L fy fi t fs fr hw k = collected fy fi ((oRowK L t).view.emb k) := by
      sl_unfold_run_names
      refine (View.read_writes_cons_hit_of_coords (rV).view fr (Rect.whole S512x128) _ [] k k (fun a => by simp [Rect.whole])).trans ?_
      exact chunk_value d L fy fi hin t _ _ hw (words_eq d L fi t fs _ rfl) k
    rw [← h1]
    exact ((View.read_apply (v := (oRowK L t).view) _ k).trans (cast_eq _ _)).symm.trans
      (View.read_writes_cons_hit_of_coords (oRowK L t).view fo (Rect.whole S512x128) _ [] k k (fun a => by simp [Rect.whole]))
  sl_step
  isplitl [Hmw]; · iexact Hmw
  isplitl [Hy]; · iexact Hy
  isplitl [Hi]; · iexact Hi
  isplitl [Ho]; · iapply (Entails.of_eq (pointsTo_congr hval)); iexact Ho
  isplitl [Hs]; · iexists _; iexact Hs
  isplitl [Hr]; · iexists _; iexact Hr
  isplitl [HsemA]; · iexact HsemA
  isplitl [HsemB]; · iexact HsemB
  isplitl [HsemC]; · iexact HsemC
  isplitl [HR]; · iexact HR
  iexists _; isplitr
  swap; · iexact HO
  ipureintro; intro p hp
  repeat (rcases Finset.mem_insert.mp hp with hp | hp; · exact .inr (hp ▸ rfl))
  exact .inl hp

/-- The elements of the output that trip `t` of tile `L` writes. -/
abbrev oSet (L : grid4.Coords) (t : Fin k4_t1_loop.trips) : Finset S32768x128.Idx := (oRowK L t).view.set

/-- What a tile is handed and hands back: its shares of the two tables and its windows of the output at `fo`. -/
abbrev carry (q qi : PosShare TreeShare) (fo : Buf (Elt F) (oLoc d)) : sProp 𝕄 :=
  iprop((yLoc d ↦{q} fy) ∗ (iLoc d ↦{qi} fi) ∗ bigSep Finset.univ fun t : Fin k4_t1_loop.trips => oLoc d ↦[oSet L t]{fullShare} fo)

/-- The loop's invariant: the windows of the trips done hold the gathered rows. -/
def inv (q qi : PosShare TreeShare) (fo : Buf (Elt F) (oLoc d)) (O : CellTallies nD τ sig (HIx 2)) (W : Waits sig (HIx 2)) (k : Nat) (_ : PUnit) : sProp 𝕄 :=
  iprop(Transfers.MayWaits (thr d L) (none : HIx 2) O
    ∗ ((yV).view.loc (thr d L) ↦{q} fy) ∗ ((iV).view.loc (thr d L) ↦{qi} fi)
    ∗ (bigSep Finset.univ fun t : Fin k4_t1_loop.trips => oLoc d ↦[oSet L t]{fullShare} (if t.val < k then collected fy fi else fo))
    ∗ (∃ fs, (sV).view.loc (thr d L) ↦{fullShare} fs) ∗ (∃ fr, (rV).view.loc (thr d L) ↦{fullShare} fr)
    ∗ semVal (cAcell d L) 0 ∗ semVal (cBcell d L) 0 ∗ semVal (cCcell d L) 0
    ∗ ∃ W', ⌜∀ p ∈ W', p ∈ W ∨ p.2 = none⌝ ∗ owes (thr d L) O W')

theorem inv_step (q qi : PosShare TreeShare) (hin : ∀ j, (fi j : BitVec 32).toNat < 49152) (fo : Buf (Elt F) (oLoc d))
    (O : CellTallies nD τ sig (HIx 2)) (W : Waits sig (HIx 2)) (t : Fin k4_t1_loop.trips) :
    inv d L fy fi q qi fo O W t.val ()
      ⊢ wp frame (wpE (defs₀ (F := F)) 𝒱₀ (thr d L) none) Set.univ
          (k4_t1_body L yV (Memref.isWhole_whole _) iV (Memref.isWhole_whole _) oV (Memref.isWhole_whole _)
            sV (Memref.isWhole_whole _) rV (Memref.isWhole_whole _) cc4_scratch2 cc4_scoped0 cc4_scoped1 t ())
          fun y => inv d L fy fi q qi fo O W (t.val + 1) y := by
  unfold inv
  rw [SparseCore.bigSep_erase' (Finset.mem_univ t), if_neg (Nat.lt_irrefl _)]
  iintro ⟨Hmw, Hy, Hi, ⟨Ho, Hos⟩, Hs, Hr, HsemA, HsemB, HsemC, %W', %hW', HO⟩
  iapply ((trip_body d L fy fi q qi hin t O W' fo
    (bigSep (Finset.univ.erase t) fun u : Fin k4_t1_loop.trips => oLoc d ↦[oSet L u]{fullShare} (if u.val < t.val then collected fy fi else fo))).trans
    (wp_mono frame _ _ fun _ => ?_)) $$ [Hmw Hy Hi Ho Hos Hs Hr HsemA HsemB HsemC HO]
  rotate_left
  · isplitl [Hmw]; · iexact Hmw
    isplitl [Hy]; · iexact Hy
    isplitl [Hi]; · iexact Hi
    isplitl [Ho]; · iexact Ho
    isplitl [Hs]; · iexact Hs
    isplitl [Hr]; · iexact Hr
    isplitl [HsemA]; · iexact HsemA
    isplitl [HsemB]; · iexact HsemB
    isplitl [HsemC]; · iexact HsemC
    isplitl [Hos]; · iexact Hos
    iexact HO
  rw [SparseCore.bigSep_erase' (s := Finset.univ) (Finset.mem_univ t), if_pos (Nat.lt_succ_self _)]
  iintro ⟨Hmw, Hy, Hi, Ho, Hs, Hr, HsemA, HsemB, HsemC, Hos, %W2, %hW2, HO⟩
  isplitl [Hmw]; · iexact Hmw
  isplitl [Hy]; · iexact Hy
  isplitl [Hi]; · iexact Hi
  isplitl [Ho Hos]
  · isplitl [Ho]; · iexact Ho
    iapply (Entails.of_eq (bigSep_congr fun u hu => ?_)) $$ Hos
    have hne : u.val ≠ t.val := fun e => (Finset.mem_erase.mp hu).1 (Fin.ext e)
    by_cases h : u.val < t.val
    · rw [if_pos h, if_pos (Nat.lt_succ_of_lt h)]
    · rw [if_neg h, if_neg (by omega)]
  isplitl [Hs]; · iexact Hs
  isplitl [Hr]; · iexact Hr
  isplitl [HsemA]; · iexact HsemA
  isplitl [HsemB]; · iexact HsemB
  isplitl [HsemC]; · iexact HsemC
  iexists W2; isplitr
  · ipureintro; intro p hp
    rcases hW2 p hp with h | h
    · exact hW' p h
    · exact .inr h
  · iexact HO

theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc4_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc4_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc4_scoped1.sem : SemLoc sig).isScoped .scVector = true; decide⟩⟩⟩)]

/-- The tile's two scratch buffers are among its own. -/
theorem ownBufs_V :
    (ownBufs (thr d L) : sProp 𝕄)
      = iprop((∃ f, (thr d L).loc cc4_scratch0 ↦{fullShare} f) ∗ (∃ f, (thr d L).loc cc4_scratch1 ↦{fullShare} f)
          ∗ bigSep (((ownRefs (τ := τ) (.scVector (cV L) (jV L))).erase ((Proc.scVector (cV L) (jV L)).devRef cc4_scratch0)).erase
              ((Proc.scVector (cV L) (jV L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV L) (jV L)) (b := (Proc.scVector (cV L) (jV L)).devRef cc4_scratch1) rfl⟩)]

set_option maxHeartbeats 1000000 in
/-- The whole task of one tile: from its windows at `fo` to its windows at the gathered rows. -/
theorem tile_body (hF : (K (F := F)).Facts) (q qi : PosShare TreeShare) (hin : ∀ j, (fi j : BitVec 32).toNat < 49152) (fo : Buf (Elt F) (oLoc d))
    (O : CellTallies nD τ sig (HIx 2)) (W : Waits sig (HIx 2)) (hO : ∀ g, O g none = 0) :
    iprop(levAts (K (F := F)).L (K (F := F)).lev ∗ emp ∗ carry d L fy fi q qi fo
        ∗ scopedBufs (thr d L) ∗ scopedSems0 (thr d L) ∗ owes (thr d L) O W)
      ⊢ wp frame (wpE (defs₀ (F := F)) 𝒱₀ (thr d L) none) Set.univ
          (cc4_k L yV (Memref.isWhole_whole _) iV (Memref.isWhole_whole _) oV (Memref.isWhole_whole _)
            sV (Memref.isWhole_whole _) rV (Memref.isWhole_whole _) cc4_scratch2 cc4_scoped0 cc4_scoped1)
          fun _ => iprop(carry d L fy fi q qi (collected fy fi)
            ∗ scopedBufs (thr d L) ∗ scopedSems0 (thr d L)
            ∗ ∃ W', ⌜∀ p ∈ W', p ∈ W ∨ p.2 = none⌝ ∗ owes (thr d L) O W') := by
  simp only [cc4_k_eq_skeleton]; unfold cc4_k_skel
  rw [(K (F := F)).scopedBufs_V hF d (cV L) (jV L), SparseCore.Cfg.scopedSems0_V (Val := Elt F) d (cV L) (jV L), ownSems0_V, ownBufs_V]
  iintro ⟨#Hlv, -, ⟨Hy, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv d L fy fi q qi fo O W) $$ [Hmw Hy Hi Ho Hs Hr HsemA HsemB HsemC HO]
  case region =>
    intro k _
    exact inv_step d L fy fi q qi hin fo O W k
  · unfold inv
    isplitl [Hmw]; · iexact Hmw
    isplitl [Hy]; · iexact Hy
    isplitl [Hi]; · iexact Hi
    isplitl [Ho]
    · iapply (Entails.of_eq (bigSep_congr fun u _ => by rw [if_neg (Nat.not_lt_zero _)])) $$ Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hy, Hi, Ho, Hs, Hr, HsemA, HsemB, HsemC, %W', %hW', HO⟩
  sl_step
  isplitl [Hy Hi Ho]
  · isplitl [Hy]; · iexact Hy
    isplitl [Hi]; · iexact Hi
    iapply (Entails.of_eq (bigSep_congr fun u _ => by rw [if_pos u.isLt])) $$ Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.Collect

end
-- ==== Proof.Spread.lean ====
/-
  One tile of the SparseCore's scatter: its two chunks of 512 rows, each read in order from the source and
  written to the rows the list names, with the value the target holds afterwards.
-/
module

public import proofs.«01_k».proof.Proof.Names

@[expose] public section

noncomputable section

namespace Cert.Proof.Spread

open Cert.KernelIdeal Cert.KernelIdeal.Gen Cert.Proof.Moe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays -/

abbrev xLoc (d : Dev nD) : Loc nD τ sig := (SparseCore.T d).loc main_v3
abbrev iLoc (d : Dev nD) : Loc nD τ sig := (SparseCore.T d).loc main_v12
abbrev oLoc (d : Dev nD) : Loc nD τ sig := (SparseCore.T d).loc main_v13

local notation "xV" => (Memref.whole Cert.KernelIdeal.main_v3_scv : Memref Cert.KernelIdeal.sig Kind.scVector Space.hbm Cert.KernelIdeal.S16384x128 EltTy.f32)
local notation "iV" => (Memref.whole Cert.KernelIdeal.main_v12_scv : Memref Cert.KernelIdeal.sig Kind.scVector Space.hbm Cert.KernelIdeal.S32768 EltTy.i32)
local notation "oV" => (Memref.whole Cert.KernelIdeal.main_v13_scv : Memref Cert.KernelIdeal.sig Kind.scVector Space.hbm Cert.KernelIdeal.S49152x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

/-- The source row that entry `n` of the list sends: the list runs over the source twice. -/
def srcRow (n : ℕ) : Fin 16384 := ⟨n % 16384, Nat.mod_lt _ (by decide)⟩

open scoped Classical in
/-- What the target holds at the end: row `n` is the source row of the entry whose word is `n`, a row no word
    names being as it was. -/
def spread (fx : S16384x128.Idx → Elt F .f32) (fi : S32768.Idx → Elt F .i32) (fo : S49152x128.Idx → Elt F .f32) : S49152x128.Idx → Elt F .f32 :=
  fun y => if h : ∃ j : S32768.Idx, (fi j : BitVec 32).toNat = (y 0).val then fx (ValueIdx.ix2 (srcRow (h.choose 0).val) (y 1)) else fo y

/-- The words name rows of the target, no two the same one. -/
structure ListOK (fi : S32768.Idx → Elt F .i32) : Prop where
  lt : ∀ j, (fi j : BitVec 32).toNat < 49152
  inj : Function.Injective fun j => (fi j : BitVec 32).toNat

theorem spread_at {fx : S16384x128.Idx → Elt F .f32} {fi : S32768.Idx → Elt F .i32} {fo : S49152x128.Idx → Elt F .f32} (ok : ListOK fi)
    (j : S32768.Idx) (y : S49152x128.Idx) (h : (fi j : BitVec 32).toNat = (y 0).val) :
    spread fx fi fo y = fx (ValueIdx.ix2 (srcRow (j 0).val) (y 1)) := by
  have hex : ∃ j : S32768.Idx, (fi j : BitVec 32).toNat = (y 0).val := ⟨j, h⟩
  unfold spread
  rw [dif_pos hex, ok.inj (hex.choose_spec.trans h.symm)]

theorem spread_off {fx : S16384x128.Idx → Elt F .f32} {fi : S32768.Idx → Elt F .i32} {fo : S49152x128.Idx → Elt F .f32}
    (y : S49152x128.Idx) (h : ∀ j, (fi j : BitVec 32).toNat ≠ (y 0).val) : spread fx fi fo y = fo y :=
  dif_neg fun ⟨j, hj⟩ => h j hj

variable [FloatOps F]

/-! ## The tile -/

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- Chunk `t` of the list and of the source, and all of the target, as the tile addresses them. -/
abbrev iRowK (L : grid1.Coords) (t : Fin k1_t1_loop.trips) : Memref sig .scVector .hbm S512 .i32 :=
  (iV).slice (Rect.unit (s := S32768) (k1_off1 L t) S512.size (k1_off1_inb L t)) (fun _ => rfl)
abbrev xRowK (L : grid1.Coords) (t : Fin k1_t1_loop.trips) : Memref sig .scVector .hbm S512x128 .f32 :=
  (xV).slice (Rect.unit (s := S16384x128) (k1_off2 L t) S512x128.size (k1_off2_inb L t)) (fun _ => rfl)
abbrev oAllK : Memref sig .scVector .hbm S49152x128 .f32 :=
  (oV).slice (Rect.unit (s := S49152x128) ![0, 0] S49152x128.size inb_S49152x128_S49152x128_0_0) (fun _ => rfl)

abbrev cAcell (d : Dev nD) (L : grid1.Coords) : GSem nD τ sig := (thr d L, .dma cc1_scoped0.sem)
abbrev cBcell (d : Dev nD) (L : grid1.Coords) : GSem nD τ sig := (thr d L, .dma cc1_scratch2.sem)
abbrev cCcell (d : Dev nD) (L : grid1.Coords) : GSem nD τ sig := (thr d L, .dma cc1_scoped1.sem)

variable (fx : Buf (Elt F) (xLoc d)) (fi : Buf (Elt F) (iLoc d))

/-- A row is a chunk's when a word of the chunk names it. -/
def owned (L : grid1.Coords) (fi : S32768.Idx → Elt F .i32) (t : Fin k1_t1_loop.trips) (n : ℕ) : Prop :=
  ∃ x : S512.Idx, (fi ((iRowK L t).view.emb x) : BitVec 32).toNat = n

/-- The elements of the target that trip `t` of tile `L` writes. -/
abbrev oSet (L : grid1.Coords) (fi : S32768.Idx → Elt F .i32) (t : Fin k1_t1_loop.trips) : Finset S49152x128.Idx :=
  SparseCore.rowsWhere oAllK.view gathers_S49152x128_S512x128.axis (owned L fi t)

/-- The words a chunk's fetch lands are the list's. -/
theorem words_eq (t : Fin k1_t1_loop.trips) (fs : Buf (Elt F) ((thr d L).loc cc1_scratch0)) (pay : S512.Idx → Elt F .i32)
    (hpay : pay = (iRowK L t).view.read (Elt F) fi) (x : S512.Idx) :
    (sV).view.read (Elt F) (View.write (Elt F) (sV).view fs pay Finset.univ) x = fi ((iRowK L t).view.emb x) := by
  subst hpay
  rw [View.write_whole_univ]
  simp only [Memref.view_whole, View.read_whole]
  exact (View.read_apply _ _).trans (cast_eq _ _)

/-- Where an element of a chunk's list lies in the list. -/
theorem emb_iRow (t : Fin k1_t1_loop.trips) (x : S512.Idx) : ((iRowK L t).view.emb x 0).val = 2048 * (L 1).val + 1024 * (L 0).val + 512 * t.val + (x 0).val := by
  show k1_off1 L t 0 + 1 * (x 0).val = _
  rw [k1_off1_eq L t, Nat.one_mul]; rfl

theorem emb_iRow_inj (t : Fin k1_t1_loop.trips) {x y : S512.Idx} (h : (iRowK L t).view.emb x = (iRowK L t).view.emb y) : x = y :=
  (iRowK L t).view.emb.injective h

/-- So each is a row of the target, no two name the same row, and each is one of the chunk's own. -/
theorem words_inb (ok : ListOK fi) (t : Fin k1_t1_loop.trips) (fs : Buf (Elt F) ((thr d L).loc cc1_scratch0)) (pay : S512.Idx → Elt F .i32)
    (hpay : pay = (iRowK L t).view.read (Elt F) fi) :
    ∀ x, ((sV).view.read (Elt F) (View.write (Elt F) (sV).view fs pay Finset.univ) x).toNat < S49152x128.size gathers_S49152x128_S512x128.axis := by
  intro x
  rw [words_eq d L fi t fs pay hpay x]
  exact ok.lt _

theorem words_inj (ok : ListOK fi) (t : Fin k1_t1_loop.trips) (fs : Buf (Elt F) ((thr d L).loc cc1_scratch0)) (pay : S512.Idx → Elt F .i32)
    (hpay : pay = (iRowK L t).view.read (Elt F) fi) :
    Function.Injective fun x => ((sV).view.read (Elt F) (View.write (Elt F) (sV).view fs pay Finset.univ) x).toNat := by
  intro x y h
  dsimp only at h
  rw [words_eq d L fi t fs pay hpay x, words_eq d L fi t fs pay hpay y] at h
  exact emb_iRow_inj L t (ok.inj h)

theorem words_owned (t : Fin k1_t1_loop.trips) (fs : Buf (Elt F) ((thr d L).loc cc1_scratch0)) (pay : S512.Idx → Elt F .i32)
    (hpay : pay = (iRowK L t).view.read (Elt F) fi) :
    ∀ x, owned L fi t ((sV).view.read (Elt F) (View.write (Elt F) (sV).view fs pay Finset.univ) x).toNat := by
  intro x
  rw [words_eq d L fi t fs pay hpay x]
  exact ⟨x, rfl⟩

theorem word_row (w : S512.Idx → Elt F .i32) (hn : S512.numel = 512) (hw : ∀ x, (w x : BitVec 32).toNat < 49152) (x : S512.Idx) :
    (SparseCore.rows w hn hw ⟨(x 0).val, (x 0).isLt⟩).val = (w x : BitVec 32).toNat := by
  show (w (S512.rowMajor.symm _) : BitVec 32).toNat = _
  congr 2
  rw [Equiv.symm_apply_eq]
  apply Fin.ext
  rw [Shape.rowMajor_val_one]
  rfl

set_option maxRecDepth 200000 in
/-- What a chunk's scatter leaves on the chunk's rows. -/
theorem chunk_value (ok : ListOK fi) (t : Fin k1_t1_loop.trips) (w : S512.Idx → Elt F .i32) (hn)
    (hw : ∀ x, (w x : BitVec 32).toNat < S49152x128.size gathers_S49152x128_S512x128.axis)
    (hwe : ∀ x, w x = fi ((iRowK L t).view.emb x)) (hj : Function.Injective fun x => (w x : BitVec 32).toNat)
    (fr : Buf (Elt F) ((rV).view.loc (thr d L))) (hfr : ∀ k : S512x128.Idx, (rV).view.read (Elt F) fr k = fx ((xRowK L t).view.emb k))
    (fo : Buf (Elt F) (oLoc d)) (i : oAllK.view.ty.Idx)
    (hi : i ∈ SparseCore.rowsWhere oAllK.view gathers_S49152x128_S512x128.axis (owned L fi t)) :
    SparseCore.scatterBuf (thr d L) oAllK.view gathers_S49152x128_S512x128.axis (SparseCore.rows w hn hw)
        (SparseCore.scatterRowPayload (thr d L) (rV) gathers_S49152x128_S512x128 fr) fo i = spread fx fi fo i := by
  obtain ⟨n, ⟨x, hx⟩, hmem⟩ := (SparseCore.mem_rowsWhere (v := oAllK.view) (ax := gathers_S49152x128_S512x128.axis) (p := owned L fi t) (x := i)).mp hi
  have hrow : SparseCore.rows w hn hw ⟨(x 0).val, (x 0).isLt⟩ = n := Fin.ext (by
    have h1 := word_row w hn hw x
    have h2 : (w x : BitVec 32).toNat = n.val := by rw [hwe]; exact hx
    exact h1.trans h2)
  rw [← hrow] at hmem
  rw [SparseCore.scatterBuf_of_mem (thr d L) oAllK.view _ _ (SparseCore.rows_injective hj) _ fo hmem]
  obtain ⟨y, -, rfl⟩ := Finset.mem_map.mp hmem
  have hpos : (y 0).val = 0 := by
    have h := (y 0).isLt
    have h' : (y 0).val < 1 := h
    omega
  refine ((View.write_emb_of_mem _ _ (Finset.mem_univ y)).trans (cast_eq _ _)).trans ?_
  have hl : SparseCore.scatterRowPayload (thr d L) (rV) gathers_S49152x128_S512x128 fr ⟨(x 0).val, (x 0).isLt⟩ y
      = (rV).view.read (Elt F) fr (ValueIdx.ix2 ⟨(x 0).val, (x 0).isLt⟩ ⟨(y 1).val, (y 1).isLt⟩) := by
    show (rV).view.read (Elt F) fr _ = _
    congr 1
    funext a
    apply Fin.ext
    match a with
    | 0 =>
      exact (congrArg ((x 0).val + 1 * ·) ((Shape.idxEquiv_symm_apply_val gathers_S49152x128_S512x128.rowShape_eq y (0 : Fin 2)).trans hpos)).trans (show (x 0).val + 1 * 0 = (x 0).val by omega)
    | 1 =>
      exact (congrArg (0 + 1 * ·) (Shape.idxEquiv_symm_apply_val gathers_S49152x128_S512x128.rowShape_eq y (1 : Fin 2))).trans ((Nat.zero_add _).trans (Nat.one_mul _))
  rw [hl, hfr]
  refine Eq.symm ((spread_at ok ((iRowK L t).view.emb x) _ ?_).trans ?_)
  · show _ = 0 + 1 * ((SparseCore.rows w hn hw ⟨(x 0).val, (x 0).isLt⟩).val + 1 * (y 0).val)
    rw [hpos, hrow, hx]
    omega
  · congr 1
    funext a
    apply Fin.ext
    match a with
    | 0 =>
      show ((iRowK L t).view.emb x 0).val % 16384 = k1_off2 L t 0 + 1 * (x 0).val
      rw [emb_iRow, k1_off2_eq]
      have h1 := (L 1).isLt
      have h0 := (L 0).isLt
      have ht := t.isLt
      have hx0 := (x 0).isLt
      have h1' : (L 1).val < 16 := h1
      have h0' : (L 0).val < 2 := h0
      have ht' : t.val < 2 := ht
      have hx' : (x 0).val < 512 := hx0
      show _ = 8 * ((256 * (L 1).val + 128 * (L 0).val + 64 * t.val) % 2048) + 1 * (x 0).val
      omega
    | 1 =>
      show 0 + 1 * (0 + 1 * (y 1).val) = k1_off2 L t 1 + 1 * (y 1).val
      rw [k1_off2_eq]
      show _ = 0 + 1 * (y 1).val
      omega

/-- What one trip works with: the tables' shares, its window of the output at `fo`, the scratch, the counters. -/
abbrev tripRes (q qi : PosShare TreeShare) (t : Fin k1_t1_loop.trips) (O : CellTallies nD τ sig (HIx 2)) (fo : Buf (Elt F) (oLoc d)) (R : sProp 𝕄) : sProp 𝕄 :=
  iprop(Transfers.MayWaits (thr d L) (none : HIx 2) O
    ∗ ((xV).view.loc (thr d L) ↦{q} fx) ∗ ((iV).view.loc (thr d L) ↦{qi} fi)
    ∗ (oAllK.view.loc (thr d L) ↦[SparseCore.rowsWhere oAllK.view gathers_S49152x128_S512x128.axis (owned L fi t)]{fullShare} fo)
    ∗ (∃ fs, (sV).view.loc (thr d L) ↦{fullShare} fs) ∗ (∃ fr, (rV).view.loc (thr d L) ↦{fullShare} fr)
    ∗ semVal (cAcell d L) 0 ∗ semVal (cBcell d L) 0 ∗ semVal (cCcell d L) 0 ∗ R)

set_option maxRecDepth 200000 in
set_option maxHeartbeats 4000000 in
/-- One trip: the chunk's words fetched, the rows they name gathered, the rows written out. -/
theorem trip_body (q qi : PosShare TreeShare) (ok : ListOK fi) (t : Fin k1_t1_loop.trips)
    (O : CellTallies nD τ sig (HIx 2)) (W : Waits sig (HIx 2)) (fo : Buf (Elt F) (oLoc d)) (R : sProp 𝕄) :
    (tripRes d L fx fi q qi t O fo iprop(R ∗ owes (thr d L) O W) : sProp 𝕄)
      ⊢ wp frame (wpE (defs₀ (F := F)) 𝒱₀ (thr d L) none) Set.univ
          (k1_t1_body L xV (Memref.isWhole_whole _) iV (Memref.isWhole_whole _) oV (Memref.isWhole_whole _)
            sV (Memref.isWhole_whole _) rV (Memref.isWhole_whole _) cc1_scratch2 cc1_scoped0 cc1_scoped1 t ())
          fun _ => tripRes d L fx fi q qi t O (spread fx fi fo) iprop(R ∗ ∃ W', ⌜∀ p ∈ W', p ∈ W ∨ p.2 = none⌝ ∗ owes (thr d L) O W') := by
  unfold k1_t1_body
  iintro ⟨Hmw, Hx, Hi, Ho, ⟨%fs, Hs⟩, ⟨%fr, Hr⟩, HsemA, HsemB, HsemC, HR, HO⟩
  sl_exec
  have hw := words_inb d L fi ok t fs (trip_body.sl.dma0 d L fi t) rfl
  have hj := words_inj d L fi ok t fs (trip_body.sl.dma0 d L fi t) rfl
  have ho := words_owned d L fi t fs (trip_body.sl.dma0 d L fi t) rfl
  sl_exec
  have hval : ∀ i ∈ SparseCore.rowsWhere oAllK.view gathers_S49152x128_S512x128.axis (owned L fi t), trip_body.sl.Ho_sc0 d L fx fi t fo fs fr hw i = spread fx fi fo i := by
    intro i hi
    refine chunk_value d L fx fi ok t _ _ hw (words_eq d L fi t fs _ rfl) hj _ (fun k => ?_) fo i hi
    · rw [View.write_whole_univ]
      simp only [Memref.view_whole, View.read_whole]
      exact (View.read_apply (v := (xRowK L t).view) _ k).trans (cast_eq _ _)
  sl_step
  isplitl [Hmw]; · iexact Hmw
  isplitl [Hx]; · iexact Hx
  isplitl [Hi]; · iexact Hi
  isplitl [Ho]; · iapply (Entails.of_eq (pointsTo_congr hval)); iexact Ho
  isplitl [Hs]; · iexists _; iexact Hs
  isplitl [Hr]; · iexists _; iexact Hr
  isplitl [HsemA]; · iexact HsemA
  isplitl [HsemB]; · iexact HsemB
  isplitl [HsemC]; · iexact HsemC
  isplitl [HR]; · iexact HR
  iexists _; isplitr
  swap; · iexact HO
  ipureintro; intro p hp
  repeat (rcases Finset.mem_insert.mp hp with hp | hp; · exact .inr (hp ▸ rfl))
  exact .inl hp

/-- What a tile is handed and hands back: its shares of the two tables and its windows of the output at `fo`. -/
abbrev carry (q qi : PosShare TreeShare) (fo : Buf (Elt F) (oLoc d)) : sProp 𝕄 :=
  iprop((xLoc d ↦{q} fx) ∗ (iLoc d ↦{qi} fi) ∗ bigSep Finset.univ fun t : Fin k1_t1_loop.trips => oLoc d ↦[oSet L fi t]{fullShare} fo)

/-- The loop's invariant: the windows of the trips done hold the gathered rows. -/
def inv (q qi : PosShare TreeShare) (fo : Buf (Elt F) (oLoc d)) (O : CellTallies nD τ sig (HIx 2)) (W : Waits sig (HIx 2)) (k : Nat) (_ : PUnit) : sProp 𝕄 :=
  iprop(Transfers.MayWaits (thr d L) (none : HIx 2) O
    ∗ ((xV).view.loc (thr d L) ↦{q} fx) ∗ ((iV).view.loc (thr d L) ↦{qi} fi)
    ∗ (bigSep Finset.univ fun t : Fin k1_t1_loop.trips => oLoc d ↦[oSet L fi t]{fullShare} (if t.val < k then spread fx fi fo else fo))
    ∗ (∃ fs, (sV).view.loc (thr d L) ↦{fullShare} fs) ∗ (∃ fr, (rV).view.loc (thr d L) ↦{fullShare} fr)
    ∗ semVal (cAcell d L) 0 ∗ semVal (cBcell d L) 0 ∗ semVal (cCcell d L) 0
    ∗ ∃ W', ⌜∀ p ∈ W', p ∈ W ∨ p.2 = none⌝ ∗ owes (thr d L) O W')

theorem inv_step (q qi : PosShare TreeShare) (ok : ListOK fi) (fo : Buf (Elt F) (oLoc d))
    (O : CellTallies nD τ sig (HIx 2)) (W : Waits sig (HIx 2)) (t : Fin k1_t1_loop.trips) :
    inv d L fx fi q qi fo O W t.val ()
      ⊢ wp frame (wpE (defs₀ (F := F)) 𝒱₀ (thr d L) none) Set.univ
          (k1_t1_body L xV (Memref.isWhole_whole _) iV (Memref.isWhole_whole _) oV (Memref.isWhole_whole _)
            sV (Memref.isWhole_whole _) rV (Memref.isWhole_whole _) cc1_scratch2 cc1_scoped0 cc1_scoped1 t ())
          fun y => inv d L fx fi q qi fo O W (t.val + 1) y := by
  unfold inv
  rw [SparseCore.bigSep_erase' (Finset.mem_univ t), if_neg (Nat.lt_irrefl _)]
  iintro ⟨Hmw, Hx, Hi, ⟨Ho, Hos⟩, Hs, Hr, HsemA, HsemB, HsemC, %W', %hW', HO⟩
  iapply ((trip_body d L fx fi q qi ok t O W' fo
    (bigSep (Finset.univ.erase t) fun u : Fin k1_t1_loop.trips => oLoc d ↦[oSet L fi u]{fullShare} (if u.val < t.val then spread fx fi fo else fo))).trans
    (wp_mono frame _ _ fun _ => ?_)) $$ [Hmw Hx Hi Ho Hos Hs Hr HsemA HsemB HsemC HO]
  rotate_left
  · isplitl [Hmw]; · iexact Hmw
    isplitl [Hx]; · iexact Hx
    isplitl [Hi]; · iexact Hi
    isplitl [Ho]; · iexact Ho
    isplitl [Hs]; · iexact Hs
    isplitl [Hr]; · iexact Hr
    isplitl [HsemA]; · iexact HsemA
    isplitl [HsemB]; · iexact HsemB
    isplitl [HsemC]; · iexact HsemC
    isplitl [Hos]; · iexact Hos
    iexact HO
  rw [SparseCore.bigSep_erase' (s := Finset.univ) (Finset.mem_univ t), if_pos (Nat.lt_succ_self _)]
  iintro ⟨Hmw, Hx, Hi, Ho, Hs, Hr, HsemA, HsemB, HsemC, Hos, %W2, %hW2, HO⟩
  isplitl [Hmw]; · iexact Hmw
  isplitl [Hx]; · iexact Hx
  isplitl [Hi]; · iexact Hi
  isplitl [Ho Hos]
  · isplitl [Ho]; · iexact Ho
    iapply (Entails.of_eq (bigSep_congr fun u hu => ?_)) $$ Hos
    have hne : u.val ≠ t.val := fun e => (Finset.mem_erase.mp hu).1 (Fin.ext e)
    by_cases h : u.val < t.val
    · rw [if_pos h, if_pos (Nat.lt_succ_of_lt h)]
    · rw [if_neg h, if_neg (by omega)]
  isplitl [Hs]; · iexact Hs
  isplitl [Hr]; · iexact Hr
  isplitl [HsemA]; · iexact HsemA
  isplitl [HsemB]; · iexact HsemB
  isplitl [HsemC]; · iexact HsemC
  iexists W2; isplitr
  · ipureintro; intro p hp
    rcases hW2 p hp with h | h
    · exact hW' p h
    · exact .inr h
  · iexact HO

theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc1_scoped1.sem : SemLoc sig).isScoped .scVector = true; decide⟩⟩⟩)]

/-- The tile's two scratch buffers are among its own. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

set_option maxHeartbeats 1000000 in
/-- The whole task of one tile: from its windows at `fo` to its windows at the gathered rows. -/
theorem tile_body (hF : (K (F := F)).Facts) (q qi : PosShare TreeShare) (ok : ListOK fi) (fo : Buf (Elt F) (oLoc d))
    (O : CellTallies nD τ sig (HIx 2)) (W : Waits sig (HIx 2)) (hO : ∀ g, O g none = 0) :
    iprop(levAts (K (F := F)).L (K (F := F)).lev ∗ emp ∗ carry d L fx fi q qi fo
        ∗ scopedBufs (thr d L) ∗ scopedSems0 (thr d L) ∗ owes (thr d L) O W)
      ⊢ wp frame (wpE (defs₀ (F := F)) 𝒱₀ (thr d L) none) Set.univ
          (cc1_k L xV (Memref.isWhole_whole _) iV (Memref.isWhole_whole _) oV (Memref.isWhole_whole _)
            sV (Memref.isWhole_whole _) rV (Memref.isWhole_whole _) cc1_scratch2 cc1_scoped0 cc1_scoped1)
          fun _ => iprop(carry d L fx fi q qi (spread fx fi fo)
            ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv d L fx fi q qi fo O W) $$ [Hmw Hx Hi Ho Hs Hr HsemA HsemB HsemC HO]
  case region =>
    intro k _
    exact inv_step d L fx fi q qi ok fo O W k
  · unfold inv
    isplitl [Hmw]; · iexact Hmw
    isplitl [Hx]; · iexact Hx
    isplitl [Hi]; · iexact Hi
    isplitl [Ho]
    · iapply (Entails.of_eq (bigSep_congr fun u _ => by rw [if_neg (Nat.not_lt_zero _)])) $$ Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hx, Hi, Ho, Hs, Hr, HsemA, HsemB, HsemC, %W', %hW', HO⟩
  sl_step
  isplitl [Hx Hi Ho]
  · isplitl [Hx]; · iexact Hx
    isplitl [Hi]; · iexact Hi
    iapply (Entails.of_eq (bigSep_congr fun u _ => by rw [if_pos u.isLt])) $$ Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.Spread

end
-- ==== Proof.Chain.lean ====
/-
  The host program's arrays from launch to end: the host's operations between the calls, and what each call leaves.
-/
module

public import proofs.«01_k».proof.Proof.Outs
public import proofs.«01_k».proof.Proof.Collect
public import proofs.«01_k».proof.Proof.Spread

@[expose] public section

noncomputable section

namespace Cert.Proof.Moe

open Cert.KernelIdeal Cert.KernelIdeal.Gen

open Idealize.ShloMosaic
open Idealize.ShloMosaic.SparseCore (S V T)
open Idealize.ShloMosaic.Pipeline (pin)
open Idealize.SL Idealize.SL.Sem
open Idealize.ShloMosaic.Tactic
open TcCoe

variable {F : FTy → Type} [FloatOps F]

/-! ## The operations -/

/-- The host operations from the router to the scatter. -/
abbrev opsA : List (HloOp τ sig (Elt F)) :=
  [StableHlo.unary main_v0_0 main_v1 ((transpose S2x2048 [1, 0] · transposes_S2048x2_S2x2048_1_0) : (⟨S2048x2, .i32⟩ : BufTy).Contents (Elt F) → (⟨S2x2048, .i32⟩ : BufTy).Contents (Elt F)),
    StableHlo.reshape main_v1 main_v2 (rfl : (.i32 : EltTy) = .i32) shapeCasts_S2x2048_S4096,
    StableHlo.reshape main_arg0 main_v3 (rfl : (.f32 : EltTy) = .f32) shapeCasts_S2048x1024_S16384x128,
    StableHlo.unary main_v2 main_v4 (broadcastInDim S4096x1 ![0] bcast_S4096_S4096x1_0 : (⟨S4096, .i32⟩ : BufTy).Contents (Elt F) → (⟨S4096x1, .i32⟩ : BufTy).Contents (Elt F)),
    StableHlo.nullary main_c (constantI S_ 32 8#32),
    StableHlo.unary main_c main_v5 (broadcastInDim S4096x1 ![] bcast_S_S4096x1 : (⟨S_, .i32⟩ : BufTy).Contents (Elt F) → (⟨S4096x1, .i32⟩ : BufTy).Contents (Elt F)),
    StableHlo.binary main_v4 main_v5 main_v6 (muli : (⟨S4096x1, .i32⟩ : BufTy).Contents (Elt F) → (⟨S4096x1, .i32⟩ : BufTy).Contents (Elt F) → (⟨S4096x1, .i32⟩ : BufTy).Contents (Elt F)),
    StableHlo.nullary main_v7 (iotaInDim S8 32 0),
    StableHlo.unary main_v7 main_v8 (broadcastInDim S1x8 ![1] bcast_S8_S1x8_1 : (⟨S8, .i32⟩ : BufTy).Contents (Elt F) → (⟨S1x8, .i32⟩ : BufTy).Contents (Elt F)),
    StableHlo.unary main_v6 main_v9 (broadcastInDim S4096x8 ![0, 1] bcast_S4096x1_S4096x8_0_1 : (⟨S4096x1, .i32⟩ : BufTy).Contents (Elt F) → (⟨S4096x8, .i32⟩ : BufTy).Contents (Elt F)),
    StableHlo.unary main_v8 main_v10 (broadcastInDim S4096x8 ![0, 1] bcast_S1x8_S4096x8_0_1 : (⟨S1x8, .i32⟩ : BufTy).Contents (Elt F) → (⟨S4096x8, .i32⟩ : BufTy).Contents (Elt F)),
    StableHlo.binary main_v9 main_v10 main_v11 (addi : (⟨S4096x8, .i32⟩ : BufTy).Contents (Elt F) → (⟨S4096x8, .i32⟩ : BufTy).Contents (Elt F) → (⟨S4096x8, .i32⟩ : BufTy).Contents (Elt F)),
    StableHlo.reshape main_v11 main_v12 (rfl : (.i32 : EltTy) = .i32) shapeCasts_S4096x8_S32768]
/-- The host operations from the scatter to the shared expert. -/
abbrev opsB : List (HloOp τ sig (Elt F)) :=
  [StableHlo.reshape main_v13 main_v14 (rfl : (.f32 : EltTy) = .f32) shapeCasts_S49152x128_S6144x1024,
    StableHlo.reshape main_arg5 main_v15 (rfl : (.f32 : EltTy) = .f32) shapeCasts_S1024x1024_S2x512x1024,
    StableHlo.reshape main_arg6 main_v16 (rfl : (.f32 : EltTy) = .f32) shapeCasts_S1024x1024_S2x512x1024,
    StableHlo.unary main_arg7 main_v17 ((extractStridedSlice S1024x512 ![0, 0] · slices_S1024x1024_S1024x512_0_0) : (⟨S1024x1024, .f32⟩ : BufTy).Contents (Elt F) → (⟨S1024x512, .f32⟩ : BufTy).Contents (Elt F)),
    StableHlo.unary main_arg7 main_v18 ((extractStridedSlice S1024x512 ![0, 512] · slices_S1024x1024_S1024x512_0_512) : (⟨S1024x1024, .f32⟩ : BufTy).Contents (Elt F) → (⟨S1024x512, .f32⟩ : BufTy).Contents (Elt F)),
    StableHlo.unary main_v17 main_v19 (broadcastInDim S1x1024x512 ![1, 2] bcast_S1024x512_S1x1024x512_1_2 : (⟨S1024x512, .f32⟩ : BufTy).Contents (Elt F) → (⟨S1x1024x512, .f32⟩ : BufTy).Contents (Elt F)),
    StableHlo.unary main_v18 main_v20 (broadcastInDim S1x1024x512 ![1, 2] bcast_S1024x512_S1x1024x512_1_2 : (⟨S1024x512, .f32⟩ : BufTy).Contents (Elt F) → (⟨S1x1024x512, .f32⟩ : BufTy).Contents (Elt F)),
    StableHlo.binary main_v19 main_v20 main_v21 ((fun a b => concatenate S2x1024x512 0 [⟨S1x1024x512, a⟩, ⟨S1x1024x512, b⟩] concatenates_S1x1024x512_S1x1024x512_S2x1024x512_d0) : (⟨S1x1024x512, .f32⟩ : BufTy).Contents (Elt F) → (⟨S1x1024x512, .f32⟩ : BufTy).Contents (Elt F) → (⟨S2x1024x512, .f32⟩ : BufTy).Contents (Elt F))]
/-- The host operations before the experts. -/
abbrev opsC : List (HloOp τ sig (Elt F)) :=
  [StableHlo.reshape main_v0_2 main_v23 (rfl : (.i32 : EltTy) = .i32) shapeCasts_S48x1_S48]
/-- The host operations from the experts to the gather. -/
abbrev opsD : List (HloOp τ sig (Elt F)) :=
  [StableHlo.reshape main_v24 main_v25 (rfl : (.f32 : EltTy) = .f32) shapeCasts_S6144x1024_S49152x128,
    StableHlo.unary main_v2 main_v26 (broadcastInDim S4096x1 ![0] bcast_S4096_S4096x1_0 : (⟨S4096, .i32⟩ : BufTy).Contents (Elt F) → (⟨S4096x1, .i32⟩ : BufTy).Contents (Elt F)),
    StableHlo.nullary main_c_0 (constantI S_ 32 8#32),
    StableHlo.unary main_c_0 main_v27 (broadcastInDim S4096x1 ![] bcast_S_S4096x1 : (⟨S_, .i32⟩ : BufTy).Contents (Elt F) → (⟨S4096x1, .i32⟩ : BufTy).Contents (Elt F)),
    StableHlo.binary main_v26 main_v27 main_v28 (muli : (⟨S4096x1, .i32⟩ : BufTy).Contents (Elt F) → (⟨S4096x1, .i32⟩ : BufTy).Contents (Elt F) → (⟨S4096x1, .i32⟩ : BufTy).Contents (Elt F)),
    StableHlo.nullary main_v29 (iotaInDim S8 32 0),
    StableHlo.unary main_v29 main_v30 (broadcastInDim S1x8 ![1] bcast_S8_S1x8_1 : (⟨S8, .i32⟩ : BufTy).Contents (Elt F) → (⟨S1x8, .i32⟩ : BufTy).Contents (Elt F)),
    StableHlo.unary main_v28 main_v31 (broadcastInDim S4096x8 ![0, 1] bcast_S4096x1_S4096x8_0_1 : (⟨S4096x1, .i32⟩ : BufTy).Contents (Elt F) → (⟨S4096x8, .i32⟩ : BufTy).Contents (Elt F)),
    StableHlo.unary main_v30 main_v32 (broadcastInDim S4096x8 ![0, 1] bcast_S1x8_S4096x8_0_1 : (⟨S1x8, .i32⟩ : BufTy).Contents (Elt F) → (⟨S4096x8, .i32⟩ : BufTy).Contents (Elt F)),
    StableHlo.binary main_v31 main_v32 main_v33 (addi : (⟨S4096x8, .i32⟩ : BufTy).Contents (Elt F) → (⟨S4096x8, .i32⟩ : BufTy).Contents (Elt F) → (⟨S4096x8, .i32⟩ : BufTy).Contents (Elt F)),
    StableHlo.reshape main_v33 main_v34 (rfl : (.i32 : EltTy) = .i32) shapeCasts_S4096x8_S32768]
/-- The host operations before the combine. -/
abbrev opsE : List (HloOp τ sig (Elt F)) :=
  [StableHlo.reshape main_v35 main_v36 (rfl : (.f32 : EltTy) = .f32) shapeCasts_S32768x128_S4096x1024]
theorem opsA_sub : ∀ op ∈ (opsA : List (HloOp τ sig (Elt F))), op.bufs ⊆ Pipeline.ucRefs τ sig := fun op h =>
  Pipeline.sub_ucRefs op (List.forall_iff_forall_mem.mp (show (opsA : List (HloOp τ sig (Elt F))).Forall fun op => op.bufs ⊆ StableHlo.tcRefs τ sig from
    ⟨StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩) op h)
theorem opsA_fresh : ∀ op ∈ (opsA : List (HloOp τ sig (Elt F))), op.fresh = ∅ := fun op h =>
  List.forall_iff_forall_mem.mp (show (opsA : List (HloOp τ sig (Elt F))).Forall fun op => op.fresh = ∅ from StableHlo.forall_fresh_of_map rfl) op h
theorem opsB_sub : ∀ op ∈ (opsB : List (HloOp τ sig (Elt F))), op.bufs ⊆ Pipeline.ucRefs τ sig := fun op h =>
  Pipeline.sub_ucRefs op (List.forall_iff_forall_mem.mp (show (opsB : List (HloOp τ sig (Elt F))).Forall fun op => op.bufs ⊆ StableHlo.tcRefs τ sig from
    ⟨StableHlo.reshape_bufs_sub .., StableHlo.reshape_bufs_sub .., StableHlo.reshape_bufs_sub .., StableHlo.unary_bufs_sub .., StableHlo.unary_bufs_sub .., StableHlo.unary_bufs_sub .., StableHlo.unary_bufs_sub .., StableHlo.binary_bufs_sub ..⟩) op h)
theorem opsB_fresh : ∀ op ∈ (opsB : List (HloOp τ sig (Elt F))), op.fresh = ∅ := fun op h =>
  List.forall_iff_forall_mem.mp (show (opsB : List (HloOp τ sig (Elt F))).Forall fun op => op.fresh = ∅ from StableHlo.forall_fresh_of_map rfl) op h
theorem opsC_sub : ∀ op ∈ (opsC : List (HloOp τ sig (Elt F))), op.bufs ⊆ Pipeline.ucRefs τ sig := fun op h =>
  Pipeline.sub_ucRefs op (List.forall_iff_forall_mem.mp (show (opsC : List (HloOp τ sig (Elt F))).Forall fun op => op.bufs ⊆ StableHlo.tcRefs τ sig from
    StableHlo.reshape_bufs_sub ..) op h)
theorem opsC_fresh : ∀ op ∈ (opsC : List (HloOp τ sig (Elt F))), op.fresh = ∅ := fun op h =>
  List.forall_iff_forall_mem.mp (show (opsC : List (HloOp τ sig (Elt F))).Forall fun op => op.fresh = ∅ from StableHlo.forall_fresh_of_map rfl) op h
theorem opsD_sub : ∀ op ∈ (opsD : List (HloOp τ sig (Elt F))), op.bufs ⊆ Pipeline.ucRefs τ sig := fun op h =>
  Pipeline.sub_ucRefs op (List.forall_iff_forall_mem.mp (show (opsD : List (HloOp τ sig (Elt F))).Forall fun op => op.bufs ⊆ StableHlo.tcRefs τ sig from
    ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩) op h)
theorem opsD_fresh : ∀ op ∈ (opsD : List (HloOp τ sig (Elt F))), op.fresh = ∅ := fun op h =>
  List.forall_iff_forall_mem.mp (show (opsD : List (HloOp τ sig (Elt F))).Forall fun op => op.fresh = ∅ from StableHlo.forall_fresh_of_map rfl) op h
theorem opsE_sub : ∀ op ∈ (opsE : List (HloOp τ sig (Elt F))), op.bufs ⊆ Pipeline.ucRefs τ sig := fun op h =>
  Pipeline.sub_ucRefs op (List.forall_iff_forall_mem.mp (show (opsE : List (HloOp τ sig (Elt F))).Forall fun op => op.bufs ⊆ StableHlo.tcRefs τ sig from
    StableHlo.reshape_bufs_sub ..) op h)
theorem opsE_fresh : ∀ op ∈ (opsE : List (HloOp τ sig (Elt F))), op.fresh = ∅ := fun op h =>
  List.forall_iff_forall_mem.mp (show (opsE : List (HloOp τ sig (Elt F))).Forall fun op => op.fresh = ∅ from StableHlo.forall_fresh_of_map rfl) op h

theorem main_eq (d : Dev nD) : main (F := F) d
    = (Prog.lift (.customCall (SparseCore.inner (Pipeline.entry 0)) ()) >>= fun _ => StableHlo.seq opsA >>= fun _ => (sc (F := F)).run d 0 >>= fun _ => StableHlo.seq opsB
      >>= fun _ => Prog.lift (.customCall (SparseCore.inner (Pipeline.entry 1)) ()) >>= fun _ => StableHlo.seq opsC
      >>= fun _ => Prog.lift (.customCall (SparseCore.inner (Pipeline.entry 2)) ()) >>= fun _ => StableHlo.seq opsD
      >>= fun _ => (sc (F := F)).run d 1 >>= fun _ => StableHlo.seq opsE
      >>= fun _ => Prog.lift (.customCall (SparseCore.inner (Pipeline.entry 3)) ()) >>= fun _ => pure ⟨⟩) := rfl

/-! ## The arrays -/

abbrev dr (b : Ref sig .tc) : DevRef τ sig := Proc.devRef .tc b

variable (m : (ℓ : Loc nD τ sig) → Buf (Elt F) ℓ)

/-- The router's three results at launch's inputs. -/
abbrev rP (d : Dev nD) : Vec F S2048x2 .i32 := routeP (F := F) (m (d, dr main_arg0)) (m (d, dr main_arg1))
abbrev rW (d : Dev nD) : Vec F S2048x2 .f32 := routeW (F := F) (m (d, dr main_arg0)) (m (d, dr main_arg1))
abbrev rT (d : Dev nD) : Vec F S48x1 .i32 := routeT (F := F) (m (d, dr main_arg0)) (m (d, dr main_arg1))

def V0 : Vals F := fun d b => m (d, b)
/-- After the router. -/
def V1 : Vals F := fun d => Function.update (Function.update (Function.update (V0 m d) (dr main_v0_0) (rP m d)) (dr main_v0_1) (rW m d)) (dr main_v0_2) (rT m d)
def V2 : Vals F := fun d => StableHlo.after opsA (V1 m d)
/-- After the scatter. -/
def V3 : Vals F := fun d => Function.update (V2 m d) (dr main_v13) (Spread.spread (V2 m d (dr main_v3)) (V2 m d (dr main_v12)) (V2 m d (dr main_v13)))
def V4 : Vals F := fun d => StableHlo.after opsB (V3 m d)
/-- After the shared expert. -/
def V5 : Vals F := fun d => Function.update (V4 m d) (dr main_v22) (sharedOut (V4 m) d)
def V6 : Vals F := fun d => StableHlo.after opsC (V5 m d)

/-- The table of the tiles' experts. -/
def tabM : pre3.Contents (Elt F) := fun k => V6 m 0 (dr (pre3.ref k))

/-- After the experts. -/
def V7 (A : (pcfg3 (F := F)).Adm) : Vals F := fun d => Function.update (V6 m d) (dr main_v24) (groupOut (V6 m) d A)
def V8 (A : (pcfg3 (F := F)).Adm) : Vals F := fun d => StableHlo.after opsD (V7 m A d)
/-- After the gather. -/
def V9 (A : (pcfg3 (F := F)).Adm) : Vals F := fun d => Function.update (V8 m A d) (dr main_v35) (Collect.collected (V8 m A d (dr main_v25)) (V8 m A d (dr main_v34)))
def V10 (A : (pcfg3 (F := F)).Adm) : Vals F := fun d => StableHlo.after opsE (V9 m A d)
/-- At the end. -/
def V11 (A : (pcfg3 (F := F)).Adm) : Vals F := fun d => Function.update (V10 m A d) (dr main_v37) (combOut (V10 m A) d)

/-- A row's number made the eight numbers of its parts. -/
def expand (p : Vec F S4096 .i32) : Vec F S32768 .i32 :=
  shapeCast S32768 (addi (broadcastInDim S4096x8 ![0, 1] bcast_S4096x1_S4096x8_0_1 (muli (broadcastInDim S4096x1 ![0] bcast_S4096_S4096x1_0 p) (broadcastInDim S4096x1 ![] bcast_S_S4096x1 (constantI S_ 32 8#32)) : Vec F S4096x1 .i32))
    (broadcastInDim S4096x8 ![0, 1] bcast_S1x8_S4096x8_0_1 (broadcastInDim S1x8 ![1] bcast_S8_S1x8_1 (iotaInDim S8 32 0))) : Vec F S4096x8 .i32) shapeCasts_S4096x8_S32768

/-- The positions in the order the rows are sent. -/
def posFlat (d : Dev nD) : Vec F S4096 .i32 := shapeCast S4096 (transpose S2x2048 [1, 0] (rP m d) transposes_S2048x2_S2x2048_1_0) shapeCasts_S2x2048_S4096

theorem V2_v12 (d : Dev nD) : V2 m d (dr main_v12) = expand (posFlat m d) := by
  unfold V2
  after_results
  rfl

theorem V2_v2 (d : Dev nD) : V2 m d (dr main_v2) = posFlat m d := by
  unfold V2
  after_results
  rfl

theorem V6_v2 (d : Dev nD) : V6 m d (dr main_v2) = posFlat m d := by
  unfold V6
  after_results
  unfold V5
  rw [Function.update_of_ne (by decide)]
  unfold V4
  after_results
  unfold V3
  rw [Function.update_of_ne (by decide)]
  exact V2_v2 m d

theorem V8_v34 (A : (pcfg3 (F := F)).Adm) (d : Dev nD) : V8 m A d (dr main_v34) = expand (posFlat m d) := by
  have h : V7 m A d (dr main_v2) = posFlat m d := by
    unfold V7
    rw [Function.update_of_ne (by decide)]
    exact V6_v2 m d
  rw [← h]
  unfold V8
  after_results
  rfl

end Cert.Proof.Moe

end
-- ==== Proof.Deal.lean ====
/-
  The two SparseCore calls' arrays dealt over the thirty-two tiles and put back: the tables by shares, the collected
  rows by windows, the spread rows by the rows each tile's words name, the rows nobody names staying behind.
-/
module

public import proofs.«01_k».proof.Proof.Collect
public import proofs.«01_k».proof.Proof.Spread

@[expose] public section

noncomputable section

namespace Cert.Proof.Collect

open Cert.KernelIdeal Cert.KernelIdeal.Gen Cert.Proof.Moe

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The tile of SparseCore `c` and subcore `s`, as grid coordinates. -/
def coordsV (c : Fin (grid4.bound 0)) (s : Fin (grid4.bound 1)) : grid4.Coords :=
  fun | 0 => c | 1 => s | ⟨_ + 2, h⟩ => absurd h (Nat.not_lt.2 (Nat.le_add_left _ _))

/-- A tile's share of a table. -/
abbrev tsh (c : Fin (grid4.bound 0)) (s : Fin (grid4.bound 1)) : PosShare TreeShare :=
  pieceOf (pieceOf fullShare (grid4.bound 0) (by decide) c) (grid4.bound 1) (by decide) s

theorem mem_oSet (L : grid4.Coords) (t : Fin k4_t1_loop.trips) (x : S32768x128.Idx) :
    x ∈ oSet L t ↔ 2048 * (L 1).val + 1024 * (L 0).val + 512 * t.val ≤ (x 0).val ∧ (x 0).val < 2048 * (L 1).val + 1024 * (L 0).val + 512 * t.val + 512 := by
  have hoff := k4_off2_eq L t
  have e : oSet L t = (Rect.unit (s := S32768x128) (k4_off2 L t) S512x128.size (k4_off2_inb L t)).set :=
    View.set_slice_whole main_v35_scv _
  rw [e, Rect.mem_set_unit, hoff]
  constructor
  · intro h
    exact h 0
  · intro h a
    match a with
    | 0 => exact h
    | 1 => exact ⟨Nat.zero_le _, (x 1).isLt⟩

theorem oSet_disjoint : ∀ p ∈ (Finset.univ : Finset (Fin (grid4.bound 0) × Fin (grid4.bound 1) × Fin k4_t1_loop.trips)), ∀ q ∈ (Finset.univ : Finset (Fin (grid4.bound 0) × Fin (grid4.bound 1) × Fin k4_t1_loop.trips)),
    p ≠ q → Disjoint (oSet (coordsV p.1 p.2.1) p.2.2) (oSet (coordsV q.1 q.2.1) q.2.2) := by
  rintro ⟨c, s, t⟩ - ⟨c', s', t'⟩ - hne
  rw [Finset.disjoint_left]
  intro x hx hx'
  rw [mem_oSet] at hx hx'
  have hc : c.val < 2 := c.isLt
  have hc' : c'.val < 2 := c'.isLt
  have ht : t.val < 2 := t.isLt
  have ht' : t'.val < 2 := t'.isLt
  change 2048 * s.val + 1024 * c.val + 512 * t.val ≤ _ ∧ _ < 2048 * s.val + 1024 * c.val + 512 * t.val + 512 at hx
  change 2048 * s'.val + 1024 * c'.val + 512 * t'.val ≤ _ ∧ _ < 2048 * s'.val + 1024 * c'.val + 512 * t'.val + 512 at hx'
  apply hne
  have e1 : c.val = c'.val := by omega
  have e2 : s.val = s'.val := by omega
  have e3 : t.val = t'.val := by omega
  rw [Fin.ext e1, Fin.ext e2, Fin.ext e3]

theorem oSet_cover : (Finset.univ : Finset (Fin (grid4.bound 0) × Fin (grid4.bound 1) × Fin k4_t1_loop.trips)).biUnion (fun p => oSet (coordsV p.1 p.2.1) p.2.2) = Finset.univ := by
  ext x
  simp only [Finset.mem_biUnion, Finset.mem_univ, true_and, iff_true]
  have hx : (x 0).val < 32768 := (x 0).isLt
  refine ⟨(⟨(x 0).val / 1024 % 2, show _ < 2 by omega⟩, ⟨(x 0).val / 2048, show _ < 16 by omega⟩, ⟨(x 0).val / 512 % 2, show _ < 2 by omega⟩), ?_⟩
  rw [mem_oSet]
  show 2048 * ((x 0).val / 2048) + 1024 * ((x 0).val / 1024 % 2) + 512 * ((x 0).val / 512 % 2) ≤ _ ∧ _ < 2048 * ((x 0).val / 2048) + 1024 * ((x 0).val / 1024 % 2) + 512 * ((x 0).val / 512 % 2) + 512
  omega

variable (d : Dev nD) (fy : Buf (Elt F) (yLoc d)) (fi : Buf (Elt F) (iLoc d))

theorem shares_all {ℓ : Loc nD τ sig} (f : Buf (Elt F) ℓ) :
    (bigSep Finset.univ fun c : Fin (grid4.bound 0) => bigSep Finset.univ fun s : Fin (grid4.bound 1) => ℓ ↦{tsh c s} f) = (ℓ ↦{fullShare} f : sProp 𝕄) := by
  rw [pointsTo_piecesOf Finset.univ f (o := grid4.bound 0) (by decide) fullShare]
  exact bigSep_congr fun c _ => (pointsTo_piecesOf Finset.univ f (o := grid4.bound 1) (by decide) _).symm

theorem windows_all (fo : Buf (Elt F) (oLoc d)) :
    (bigSep Finset.univ fun c : Fin (grid4.bound 0) => bigSep Finset.univ fun s : Fin (grid4.bound 1) => bigSep Finset.univ fun t : Fin k4_t1_loop.trips =>
      oLoc d ↦[oSet (coordsV c s) t]{fullShare} fo) = (oLoc d ↦{fullShare} fo : sProp 𝕄) := by
  have h := pointsTo_biUnion (Ix := HIx 2) (Name := ℕ) (U := UU) (Lvl := ℕ) (ℓ := oLoc d) (q := fullShare) (f := fo) (Val := Elt F) Finset.univ
    (fun p : Fin (grid4.bound 0) × Fin (grid4.bound 1) × Fin k4_t1_loop.trips => oSet (coordsV p.1 p.2.1) p.2.2) oSet_disjoint
  rw [oSet_cover] at h
  refine Eq.trans ?_ h.symm
  rw [bigSep_univ_prod]
  exact bigSep_congr fun c _ => (bigSep_univ_prod (fun b : Fin (grid4.bound 1) × Fin k4_t1_loop.trips =>
    (oLoc d ↦[oSet (coordsV c b.1) b.2]{fullShare} fo : sProp 𝕄))).symm

/-- All the tiles' parts together are the two tables and the output. -/
theorem carry_all (fo : Buf (Elt F) (oLoc d)) :
    (bigSep Finset.univ fun c : Fin (grid4.bound 0) => bigSep Finset.univ fun s : Fin (grid4.bound 1) => carry d (coordsV c s) fy fi (tsh c s) (tsh c s) fo)
      = (iprop((yLoc d ↦{fullShare} fy) ∗ (iLoc d ↦{fullShare} fi) ∗ (oLoc d ↦{fullShare} fo)) : sProp 𝕄) := by
  rw [← shares_all fy, ← shares_all fi, ← windows_all d fo]
  simp only [carry, bigSep_sep']

end Cert.Proof.Collect

namespace Cert.Proof.Spread

open Cert.KernelIdeal Cert.KernelIdeal.Gen Cert.Proof.Moe

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Collect (coordsV tsh shares_all)

variable {F : FTy → Type}

local notation "𝕄" => MT nD τ sig (HIx 2) (Elt F) ℕ UU ℕ

variable (d : Dev nD) (fx : Buf (Elt F) (xLoc d)) (fi : Buf (Elt F) (iLoc d))

theorem owned_disjoint [FloatOps F] (ok : ListOK fi) : ∀ p ∈ (Finset.univ : Finset (Fin (grid1.bound 0) × Fin (grid1.bound 1) × Fin k1_t1_loop.trips)), ∀ q ∈ (Finset.univ : Finset (Fin (grid1.bound 0) × Fin (grid1.bound 1) × Fin k1_t1_loop.trips)),
    p ≠ q → Disjoint (oSet (coordsV p.1 p.2.1) fi p.2.2) (oSet (coordsV q.1 q.2.1) fi q.2.2) := by
  rintro ⟨c, s, t⟩ - ⟨c', s', t'⟩ - hne
  refine SparseCore.rowsWhere_disjoint oAllK.view _ fun n hp hq => hne ?_
  obtain ⟨x, hx⟩ := hp
  obtain ⟨y, hy⟩ := hq
  have e := congrArg (fun j : S32768.Idx => (j 0).val) (ok.inj (hx.trans hy.symm))
  have e' := (emb_iRow (coordsV c s) t x).symm.trans (e.trans (emb_iRow (coordsV c' s') t' y))
  have hx5 : (x 0).val < 512 := (x 0).isLt
  have hy5 : (y 0).val < 512 := (y 0).isLt
  have hc : c.val < 2 := c.isLt
  have hc' : c'.val < 2 := c'.isLt
  have ht : t.val < 2 := t.isLt
  have ht' : t'.val < 2 := t'.isLt
  change 2048 * s.val + 1024 * c.val + 512 * t.val + _ = 2048 * s'.val + 1024 * c'.val + 512 * t'.val + _ at e'
  have e1 : c.val = c'.val := by omega
  have e2 : s.val = s'.val := by omega
  have e3 : t.val = t'.val := by omega
  rw [Fin.ext e1, Fin.ext e2, Fin.ext e3]

/-- The elements of the target that some word names. -/
def named (fi : S32768.Idx → Elt F .i32) : Finset S49152x128.Idx :=
  (Finset.univ : Finset (Fin (grid1.bound 0) × Fin (grid1.bound 1) × Fin k1_t1_loop.trips)).biUnion fun p => oSet (coordsV p.1 p.2.1) fi p.2.2

set_option maxRecDepth 200000 in
theorem mem_row (y : S49152x128.Idx) (p : ℕ → Prop) (h : p (y 0).val) : y ∈ SparseCore.rowsWhere oAllK.view gathers_S49152x128_S512x128.axis p := by
  rw [SparseCore.mem_rowsWhere]
  refine ⟨⟨(y 0).val, (y 0).isLt⟩, h, ?_⟩
  refine Finset.mem_map.mpr ⟨fun | 0 => ⟨0, Nat.one_pos⟩ | 1 => ⟨(y 1).val, (y 1).isLt⟩ | ⟨_ + 2, h⟩ => absurd h (Nat.not_lt.2 (Nat.le_add_left _ _)), Finset.mem_univ _, ?_⟩
  funext a
  match a with
  | 0 => exact Fin.ext (by show 0 + 1 * ((y 0).val + 1 * 0) = (y 0).val; omega)
  | 1 => exact Fin.ext (by show 0 + 1 * (0 + 1 * (y 1).val) = (y 1).val; omega)

set_option maxRecDepth 200000 in
theorem not_named [FloatOps F] (y : S49152x128.Idx) (h : y ∉ named fi) (j : S32768.Idx) : (fi j : BitVec 32).toNat ≠ (y 0).val := by
  intro e
  refine h (Finset.mem_biUnion.mpr ⟨(⟨(j 0).val / 1024 % 2, show _ < 2 by omega⟩, ⟨(j 0).val / 2048, show _ < 16 by have : (j 0).val < 32768 := (j 0).isLt; omega⟩, ⟨(j 0).val / 512 % 2, show _ < 2 by omega⟩), Finset.mem_univ _, ?_⟩)
  refine mem_row y _ ⟨ValueIdx.ix1 ⟨(j 0).val % 512, Nat.mod_lt _ (by decide)⟩, ?_⟩
  rw [← e]
  congr 2
  funext a
  match a with
  | 0 => exact Fin.ext (by
      rw [emb_iRow]
      show 2048 * ((j 0).val / 2048) + 1024 * ((j 0).val / 1024 % 2) + 512 * ((j 0).val / 512 % 2) + (j 0).val % 512 = (j 0).val
      omega)

variable [FloatOps F]

theorem rows_all (ok : ListOK fi) (fo : Buf (Elt F) (oLoc d)) :
    (bigSep Finset.univ fun c : Fin (grid1.bound 0) => bigSep Finset.univ fun s : Fin (grid1.bound 1) => bigSep Finset.univ fun t : Fin k1_t1_loop.trips =>
      oLoc d ↦[oSet (coordsV c s) fi t]{fullShare} fo) = (oLoc d ↦[named fi]{fullShare} fo : sProp 𝕄) := by
  have h := pointsTo_biUnion (Ix := HIx 2) (Name := ℕ) (U := UU) (Lvl := ℕ) (ℓ := oLoc d) (q := fullShare) (f := fo) (Val := Elt F) Finset.univ
    (fun p : Fin (grid1.bound 0) × Fin (grid1.bound 1) × Fin k1_t1_loop.trips => oSet (coordsV p.1 p.2.1) fi p.2.2) (owned_disjoint d fi ok)
  refine Eq.trans ?_ h.symm
  rw [bigSep_univ_prod]
  exact bigSep_congr fun c _ => (bigSep_univ_prod (fun b : Fin (grid1.bound 1) × Fin k1_t1_loop.trips =>
    (oLoc d ↦[oSet (coordsV c b.1) fi b.2]{fullShare} fo : sProp 𝕄))).symm

/-- All the tiles' parts together are the two tables and the named rows. -/
theorem carry_all (ok : ListOK fi) (fo : Buf (Elt F) (oLoc d)) :
    (bigSep Finset.univ fun c : Fin (grid1.bound 0) => bigSep Finset.univ fun s : Fin (grid1.bound 1) => carry d (coordsV c s) fx fi (tsh c s) (tsh c s) fo)
      = (iprop((xLoc d ↦{fullShare} fx) ∗ (iLoc d ↦{fullShare} fi) ∗ (oLoc d ↦[named fi]{fullShare} fo)) : sProp 𝕄) := by
  rw [← rows_all d fi ok fo]
  refine Eq.trans ?_ (congrArg₂ (fun A B : sProp 𝕄 => iprop(A ∗ B ∗ _)) (shares_all fx) (shares_all fi))
  simp only [carry, bigSep_sep']

/-- The target is its named rows and the rest. -/
theorem target_split (fo : Buf (Elt F) (oLoc d)) :
    (oLoc d ↦{fullShare} fo : sProp 𝕄) ⊣⊢ iprop((oLoc d ↦[named fi]{fullShare} fo) ∗ (oLoc d ↦[Finset.univ \ named fi]{fullShare} fo)) :=
  pointsTo_split_subset (Finset.subset_univ _)

set_option maxRecDepth 200000 in
/-- The rows written and the rest as it was are the target at what the call leaves. -/
theorem target_join (fo : Buf (Elt F) (oLoc d)) :
    iprop((oLoc d ↦[named fi]{fullShare} spread fx fi fo) ∗ (oLoc d ↦[Finset.univ \ named fi]{fullShare} fo)) ⊢ (oLoc d ↦{fullShare} spread fx fi fo : sProp 𝕄) := by
  rw [show (oLoc d ↦[Finset.univ \ named fi]{fullShare} fo : sProp 𝕄) = (oLoc d ↦[Finset.univ \ named fi]{fullShare} spread fx fi fo) from
    pointsTo_congr fun y hy => (spread_off y (not_named d fi y (Finset.mem_sdiff.mp hy).2)).symm]
  exact (target_split d fi _).2

end Cert.Proof.Spread

end
-- ==== Proof.Steps.lean ====
/-
  A pipeline's call in the host program, over the host's arrays at a valuation: it leaves them at any valuation that
  has the windows' arrays at what the pipeline writes back and everything else as it was.
-/
module

public import proofs.«01_k».proof.Proof.Dats
public import Idealize.ShloMosaic.Lib.Pipeline.RegionsLoop

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.Pipeline (Dat pin RegionSeg PLaunchFacts PLaunchFacts₀ cellsGhost toksInit tablesAt scopedRest prefHeld ucRefs arrRef arrRefs tblRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type} [FloatOps F]

local notation "𝕄" => MT nD τ sig (HIx 2) (Elt F) ℕ UU ℕ

variable (a : (p : Fin 4) → (pcfgs (F := F) p).Adm) (n : ℕ) (V V' : Vals F)

theorem pdats_body : ∀ (p : Fin 4) (c : Dev nD), Pipeline.BodyObligationLoose (pdats a n V p c) (defs₀ (F := F)) 𝒱₀ (none : HIx 2) Set.univ
  | ⟨0, _⟩, c => (obl0 a n V c).loose
  | ⟨1, _⟩, c => (obl2 a n V c).loose
  | ⟨2, _⟩, c => (obl3 a n V c).loose
  | ⟨3, _⟩, c => (obl5 a n V c).loose

theorem pdats_owed : ∀ (p : Fin 4) (c : Dev nD) t, (pdats a n V p c).owed t = (K (F := F)).Otc c n
  | ⟨0, _⟩, _, _ => rfl
  | ⟨1, _⟩, _, _ => rfl
  | ⟨2, _⟩, _, _ => rfl
  | ⟨3, _⟩, _, _ => rfl

theorem pdats_recorded : ∀ (p : Fin 4) (c : Dev nD) t, (pdats a n V p c).recorded t = below (F := F) c n
  | ⟨0, _⟩, _, _ => rfl
  | ⟨1, _⟩, _, _ => rfl
  | ⟨2, _⟩, _, _ => rfl
  | ⟨3, _⟩, _, _ => rfl

theorem pdats_Φ : ∀ (p : Fin 4) (c : Dev nD) t, (pdats a n V p c).Φ t = iprop(scopedRest (pin (pcfgs (F := F)) a p).spec c ∗ tablesAt (pcfgs (F := F)) a p c)
  | ⟨0, _⟩, _, _ => rfl
  | ⟨1, _⟩, _, _ => rfl
  | ⟨2, _⟩, _, _ => rfl
  | ⟨3, _⟩, _, _ => rfl

theorem pdats_A : ∀ (p : Fin 4) (c : Dev nD) w, (pdats a n V p c).A w = V c (Proc.devRef .tc (arrRef (pin (pcfgs (F := F)) a p).spec w))
  | ⟨0, _⟩, _, _ => rfl
  | ⟨1, _⟩, _, _ => rfl
  | ⟨2, _⟩, _, _ => rfl
  | ⟨3, _⟩, _, _ => rfl

theorem pdats_q : ∀ (p : Fin 4) (c : Dev nD) w, (pdats a n V p c).q w = Pipeline.shareOf (pin (pcfgs (F := F)) a p).spec w
  | ⟨0, _⟩, _, _ => rfl
  | ⟨1, _⟩, _, _ => rfl
  | ⟨2, _⟩, _, _ => rfl
  | ⟨3, _⟩, _, _ => rfl

theorem kits : ∀ p : Fin 4, PLaunchFacts₀ (nD := nD) (τ := τ) (pcfgs (F := F)) p
  | ⟨0, _⟩ => launch0.to₀
  | ⟨1, _⟩ => launch2.to₀
  | ⟨2, _⟩ => launch3.to₀
  | ⟨3, _⟩ => launch₀5

/-- What a pipeline's call needs beside the arrays. -/
abbrev ghostOf (p : Fin 4) (c : Dev nD) : sProp 𝕄 :=
  iprop(cellsGhost (pin (pcfgs (F := F)) a) EP p c ∗ toksInit (pin (pcfgs (F := F)) a) EP p c)

/-- A pipeline that prefetches no table. -/
theorem call_plain [∀ e, Nonempty (Elt F e)] (p : Fin 4) (hK : (pcfgs (F := F) p).pre.K = 0)
    (hF : ∀ c w, (pdats a n V p c).arrAt w (pin (pcfgs (F := F)) a p).N = V' c (Proc.devRef .tc (arrRef (pin (pcfgs (F := F)) a p).spec w)))
    (hrest : ∀ (c : Dev nD) (b : Ref sig .tc), b ∉ Finset.univ.image (arrRef (pin (pcfgs (F := F)) a p).spec) → V' c (Proc.devRef .tc b) = V c (Proc.devRef .tc b))
    (c : Dev nD) (Q : PUnit → sProp 𝕄) :
    iprop((iprop(boundary (T c) ∗ StableHlo.held (T c) (ucRefs τ sig) (V' c) ∗ owing (F := F) c n) -∗ Q ⟨⟩)
        ∗ boundary (T c) ∗ StableHlo.held (T c) (ucRefs τ sig) (V c) ∗ owing (F := F) c n ∗ levAts (K (F := F)).L (K (F := F)).lev ∗ ghostOf a p c)
      ⊢ wp frame (wpE ((K (F := F)).defs (D (F := F))) 𝒱 (T c) none) Set.univ
          (Prog.lift (.customCall (SparseCore.inner (Pipeline.entry p)) ())) Q := by
  have h : iprop((iprop(boundary (T c) ∗ StableHlo.held (T c) (ucRefs τ sig) (V' c) ∗ owing (F := F) c n) -∗ Q ⟨⟩)
        ∗ boundary (T c) ∗ iprop(StableHlo.held (T c) (ucRefs τ sig) (V c) ∗ owing (F := F) c n) ∗ levAts (K (F := F)).L (K (F := F)).lev ∗ ghostOf a p c)
      ⊢ wp frame (wpE ((K (F := F)).defs (D (F := F))) 𝒱 (T c) none) Set.univ
          (Prog.lift (.customCall (SparseCore.inner (Pipeline.entry p)) ())) Q := wp_region a (pdats a n V) (seg a (pdats a n V) p n (kits p) (pdats_body a n V p) (pdats_owed a n V p) (pdats_recorded a n V p) (pdats_Φ a n V p)
    (fun c => StableHlo.held (T c) (ucRefs τ sig) (V c)) (fun c => StableHlo.held (T c) (ucRefs τ sig) (V' c))
    (fun c => Pipeline.unscopedRest (Ix := HIx 2) (Name := ℕ) (U := UU) (Lvl := ℕ) (pin (pcfgs (F := F)) a p).spec c (fun b => V c (Proc.devRef .tc b)))
    (fun c => by
      have h := Pipeline.arrays_of_unscopedBufs_shared (Ix := HIx 2) (Name := ℕ) (U := UU) (Lvl := ℕ) (pcfgs (F := F)) a (pdats a n V) (p := p) (kits p).win (kits p).sharedIn (kits p).arr_whole c
        (fun w _ => pdats_q a n V p c w) (fun b => V c (Proc.devRef .tc b)) (pdats_A a n V p c)
      rw [← Pipeline.unscopedBufs_held c (V c)]
      unfold Pipeline.tablesAt
      rw [Pipeline.prefHeld_of_none _ hK]
      iintro Hu
      ihave Hu := h $$ Hu
      icases Hu with ⟨Ha, Hr⟩
      isplitl [Ha]; · iexact Ha
      isplitr; · iempintro
      iexact Hr)
    (fun c => by
      have h := Pipeline.unscopedBufs_of_arrays_shared (Ix := HIx 2) (Name := ℕ) (U := UU) (Lvl := ℕ) (pcfgs (F := F)) a (p := p) (kits p).win (kits p).sharedIn (kits p).arr_whole c (pdats a n V)
        (fun w _ => pdats_q a n V p c w) (fun b => V c (Proc.devRef .tc b)) (fun b => V' c (Proc.devRef .tc b)) _ (hF c) (hrest c)
      rw [← Pipeline.unscopedBufs_held c (V' c)]
      iintro ⟨Ha, -, Hr⟩
      iapply h
      isplitl [Ha] <;> iassumption)) c Q
  iintro ⟨Hk, HB, Hh, HO, HL, HG⟩
  iapply h
  isplitl [Hk]
  · iintro HP; iapply Hk; iexact HP
  isplitl [HB]; · iexact HB
  isplitl [Hh HO]
  · isplitl [Hh]; · iexact Hh
    iexact HO
  isplitl [HL]; · iexact HL
  iexact HG

/-- The pipeline that prefetches the table of the tiles' experts. -/
theorem call_grouped [∀ e, Nonempty (Elt F e)] (htab : ∀ (c : Dev nD) k, (a 2).1 k = V c (Proc.devRef .tc (pre3.ref k)))
    (hF : ∀ c w, (dat3 a n V c).arrAt w (cfg3 (a 2)).N = V' c (Proc.devRef .tc (arrRef spec3 w)))
    (hrest : ∀ (c : Dev nD) (b : Ref sig .tc), b ∉ Finset.univ.image (arrRef spec3) → V' c (Proc.devRef .tc b) = V c (Proc.devRef .tc b))
    (c : Dev nD) (Q : PUnit → sProp 𝕄) :
    iprop((iprop(boundary (T c) ∗ StableHlo.held (T c) (ucRefs τ sig) (V' c) ∗ owing (F := F) c n) -∗ Q ⟨⟩)
        ∗ boundary (T c) ∗ StableHlo.held (T c) (ucRefs τ sig) (V c) ∗ owing (F := F) c n ∗ levAts (K (F := F)).L (K (F := F)).lev ∗ ghostOf a 2 c)
      ⊢ wp frame (wpE ((K (F := F)).defs (D (F := F))) 𝒱 (T c) none) Set.univ
          (Prog.lift (.customCall (SparseCore.inner (Pipeline.entry 2)) ())) Q := by
  have hsub : arrRefs spec3 ⊆ ucRefs τ sig := Pipeline.arrRefs_sub_ucRefs spec3 (launch3 (F := F)).win.arr_unscoped
  have htsub : tblRefs pre3 ⊆ ucRefs τ sig \ arrRefs spec3 := Pipeline.tblRefs_sub_ucRefs_sdiff spec3 pre3 (launch3 (F := F)).pre.unscoped (launch3 (F := F)).pre.disj
  have hshare : ∀ c w, (pdats a n V 2 c).share w = fullShare := fun c => (pdats a n V 2 c).share_full fun w => Pipeline.shareOf_eq_fullShare_of_injective _ (launch3 (F := F)).win.arr_inj w
  have hoff : ∀ c, ∀ b ∈ (ucRefs τ sig \ arrRefs spec3) \ tblRefs pre3, V c b = V' c b := by
    intro c b hb
    obtain ⟨hb1, hb2⟩ := Finset.mem_sdiff.mp (Finset.mem_sdiff.mp hb).1
    obtain ⟨r, -, rfl⟩ := Finset.mem_map.mp (Finset.mem_filter.mp hb1).1
    refine (hrest c r fun hr => hb2 ?_).symm
    exact Finset.mem_map.mpr ⟨r, hr, rfl⟩
  have htab' : ∀ c, ∀ k, (a 2).1 k = V' c (Proc.devRef .tc (pre3.ref k)) := fun c k => by
    rw [htab c k]
    refine (hrest c _ fun hr => ?_).symm
    obtain ⟨w, -, hw⟩ := Finset.mem_image.mp hr
    exact (launch3 (F := F)).pre.disj k w hw.symm
  have h : iprop((iprop(boundary (T c) ∗ StableHlo.held (T c) (ucRefs τ sig) (V' c) ∗ owing (F := F) c n) -∗ Q ⟨⟩)
        ∗ boundary (T c) ∗ iprop(StableHlo.held (T c) (ucRefs τ sig) (V c) ∗ owing (F := F) c n) ∗ levAts (K (F := F)).L (K (F := F)).lev ∗ ghostOf a 2 c)
      ⊢ wp frame (wpE ((K (F := F)).defs (D (F := F))) 𝒱 (T c) none) Set.univ
          (Prog.lift (.customCall (SparseCore.inner (Pipeline.entry 2)) ())) Q := wp_region a (pdats a n V) (seg a (pdats a n V) 2 n (kits 2) (pdats_body a n V 2) (pdats_owed a n V 2) (pdats_recorded a n V 2) (pdats_Φ a n V 2)
    (fun c => StableHlo.held (T c) (ucRefs τ sig) (V c)) (fun c => StableHlo.held (T c) (ucRefs τ sig) (V' c))
    (fun c => StableHlo.held (T c) ((ucRefs τ sig \ arrRefs spec3) \ tblRefs pre3) (V c))
    (fun c => by
      rw [StableHlo.held_sub_split (T c) hsub, StableHlo.held_sub_split (T c) htsub]
      rw [Pipeline.arrays_held (pcfgs (F := F)) a (pdats a n V) 2 launch3 c (hshare c) ((pdats a n V 2 c).arrAt · 0) (V c) (fun w => pdats_A a n V 2 c w)]
      unfold Pipeline.tablesAt
      rw [Pipeline.prefHeld_held _ (launch3 (F := F)).pre.inj c _ (V c) (htab c)]
      iintro H; iexact H)
    (fun c => by
      rw [StableHlo.held_sub_split (T c) hsub (V' c), StableHlo.held_sub_split (T c) htsub (V' c)]
      rw [Pipeline.arrays_held (pcfgs (F := F)) a (pdats a n V) 2 launch3 c (hshare c) ((pdats a n V 2 c).arrAt · (pin (pcfgs (F := F)) a 2).N) (V' c) (hF c)]
      unfold Pipeline.tablesAt
      rw [Pipeline.prefHeld_held _ (launch3 (F := F)).pre.inj c _ (V' c) (htab' c)]
      rw [StableHlo.held_congr (T c) (hoff c)]
      iintro H; iexact H)) c Q
  iintro ⟨Hk, HB, Hh, HO, HL, HG⟩
  iapply h
  isplitl [Hk]
  · iintro HP; iapply Hk; iexact HP
  isplitl [HB]; · iexact HB
  isplitl [Hh HO]
  · isplitl [Hh]; · iexact Hh
    iexact HO
  isplitl [HL]; · iexact HL
  iexact HG

end Cert.Proof.Moe

end
-- ==== Proof.Run.lean ====
/-
  The launch: what the two SparseCore calls' handshakes carry, the tiles' and the host program's proofs against it,
  and the run's conclusion, every array at the value the chain of operations and calls gives it.
-/
module

public import proofs.«01_k».proof.Proof.Chain
public import proofs.«01_k».proof.Proof.Deal
public import proofs.«01_k».proof.Proof.Steps

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.Pipeline (Dat pin cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe
open Cert.Proof.Collect (coordsV tsh collected)
open Cert.Proof.Spread (spread ListOK named)

variable {F : FTy → Type} [FloatOps F]

local notation "𝕄" => MT nD τ sig (HIx 2) (Elt F) ℕ UU ℕ

variable (m : (ℓ : Loc nD τ sig) → Buf (Elt F) ℓ) (ρ : Dev nD → PrngReg)

/-- What the run asks of the router: the positions are rows of the target, no two the same, and the table's entries
    experts. -/
structure RouteOK : Prop where
  list : ∀ d, ListOK (F := F) (expand (posFlat m d))
  tab : ok3 (tabM m)

variable {m} in
theorem RouteOK.scatter (ok : RouteOK m) (d : Dev nD) : ListOK (F := F) (V2 m d (dr main_v12)) := by
  rw [V2_v12]; exact ok.list d

variable (A : (pcfg3 (F := F)).Adm)

variable {m} in
theorem RouteOK.gather (ok : RouteOK m) (d : Dev nD) : ∀ j, (V8 m A d (dr main_v34) j : BitVec 32).toNat < 49152 := by
  rw [V8_v34]; exact (ok.list d).lt

/-- The pipelines' tables. -/
def adm : (p : Fin 4) → (pcfgs (F := F) p).Adm
  | ⟨0, _⟩ => cfg0.toPCfg_adm
  | ⟨1, _⟩ => cfg2.toPCfg_adm
  | ⟨2, _⟩ => A
  | ⟨3, _⟩ => cfg5.toPCfg_adm

/-! ## The two calls' arrays -/

abbrev fxM (d : Dev nD) : Buf (Elt F) (Spread.xLoc d) := V2 m d (dr main_v3)
abbrev fiM (d : Dev nD) : Buf (Elt F) (Spread.iLoc d) := V2 m d (dr main_v12)
abbrev foM (d : Dev nD) : Buf (Elt F) (Spread.oLoc d) := V2 m d (dr main_v13)
abbrev gyM (d : Dev nD) : Buf (Elt F) (Collect.yLoc d) := V8 m A d (dr main_v25)
abbrev giM (d : Dev nD) : Buf (Elt F) (Collect.iLoc d) := V8 m A d (dr main_v34)
abbrev goM (d : Dev nD) : Buf (Elt F) (Collect.oLoc d) := V8 m A d (dr main_v35)

abbrev spreadRefs : Finset (DevRef τ sig) := {dr main_v3, dr main_v12, dr main_v13}
theorem spreadRefs_sub : spreadRefs ⊆ Pipeline.ucRefs τ sig := by decide
abbrev collectRefs : Finset (DevRef τ sig) := {dr main_v25, dr main_v34, dr main_v35}
theorem collectRefs_sub : collectRefs ⊆ Pipeline.ucRefs τ sig := by decide

theorem held_spread (d : Dev nD) (V : Valuation τ sig (Elt F)) :
    (StableHlo.held (d.tc : Thread nD τ) (Pipeline.ucRefs τ sig) V : sProp 𝕄)
      = iprop(((Spread.xLoc d ↦{fullShare} V (dr main_v3)) ∗ (Spread.iLoc d ↦{fullShare} V (dr main_v12)) ∗ (Spread.oLoc d ↦{fullShare} V (dr main_v13)))
          ∗ StableHlo.held (d.tc : Thread nD τ) (Pipeline.ucRefs τ sig \ spreadRefs) V) := by
  rw [StableHlo.held_sub_split _ spreadRefs_sub]
  congr 1
  unfold StableHlo.held spreadRefs
  rw [SparseCore.bigSep_insert' (by decide), SparseCore.bigSep_insert' (by decide), bigSep_singleton]

theorem held_collect (d : Dev nD) (V : Valuation τ sig (Elt F)) :
    (StableHlo.held (d.tc : Thread nD τ) (Pipeline.ucRefs τ sig) V : sProp 𝕄)
      = iprop(((Collect.yLoc d ↦{fullShare} V (dr main_v25)) ∗ (Collect.iLoc d ↦{fullShare} V (dr main_v34)) ∗ (Collect.oLoc d ↦{fullShare} V (dr main_v35)))
          ∗ StableHlo.held (d.tc : Thread nD τ) (Pipeline.ucRefs τ sig \ collectRefs) V) := by
  rw [StableHlo.held_sub_split _ collectRefs_sub]
  congr 1
  unfold StableHlo.held collectRefs
  rw [SparseCore.bigSep_insert' (by decide), SparseCore.bigSep_insert' (by decide), bigSep_singleton]

theorem held_V3 (d : Dev nD) :
    iprop(((Spread.xLoc d ↦{fullShare} fxM m d) ∗ (Spread.iLoc d ↦{fullShare} fiM m d) ∗ (Spread.oLoc d ↦{fullShare} spread (fxM m d) (fiM m d) (foM m d)))
        ∗ StableHlo.held (d.tc : Thread nD τ) (Pipeline.ucRefs τ sig \ spreadRefs) (V2 m d))
      = (StableHlo.held (d.tc : Thread nD τ) (Pipeline.ucRefs τ sig) (V3 m d) : sProp 𝕄) := by
  rw [held_spread d (V3 m d), show V3 m d (dr main_v3) = fxM m d from Function.update_of_ne (by decide) _ _, show V3 m d (dr main_v12) = fiM m d from Function.update_of_ne (by decide) _ _,
    show V3 m d (dr main_v13) = spread (fxM m d) (fiM m d) (foM m d) from Function.update_self _ _ _]
  rw [StableHlo.held_congr (d.tc : Thread nD τ) (S := Pipeline.ucRefs τ sig \ spreadRefs) (V := V3 m d) (V' := V2 m d) fun b hb =>
    Function.update_of_ne (fun e => absurd (e ▸ hb) (by decide)) _ _]

theorem held_V9 (d : Dev nD) :
    iprop(((Collect.yLoc d ↦{fullShare} gyM m A d) ∗ (Collect.iLoc d ↦{fullShare} giM m A d) ∗ (Collect.oLoc d ↦{fullShare} collected (gyM m A d) (giM m A d)))
        ∗ StableHlo.held (d.tc : Thread nD τ) (Pipeline.ucRefs τ sig \ collectRefs) (V8 m A d))
      = (StableHlo.held (d.tc : Thread nD τ) (Pipeline.ucRefs τ sig) (V9 m A d) : sProp 𝕄) := by
  rw [held_collect d (V9 m A d), show V9 m A d (dr main_v25) = gyM m A d from Function.update_of_ne (by decide) _ _, show V9 m A d (dr main_v34) = giM m A d from Function.update_of_ne (by decide) _ _,
    show V9 m A d (dr main_v35) = collected (gyM m A d) (giM m A d) from Function.update_self _ _ _]
  rw [StableHlo.held_congr (d.tc : Thread nD τ) (S := Pipeline.ucRefs τ sig \ collectRefs) (V := V9 m A d) (V' := V8 m A d) fun b hb =>
    Function.update_of_ne (fun e => absurd (e ▸ hb) (by decide)) _ _]

/-! ## What the handshakes carry -/

/-- A tile's part of the scatter's arrays, and of the gather's. -/
abbrev sPart (d : Dev nD) (c : Fin (grid1.bound 0)) (s : Fin (grid1.bound 1)) (fo : Buf (Elt F) (Spread.oLoc d)) : sProp 𝕄 :=
  Spread.carry d (coordsV c s) (fxM m d) (fiM m d) (tsh c s) (tsh c s) fo
abbrev gPart (d : Dev nD) (c : Fin (grid4.bound 0)) (s : Fin (grid4.bound 1)) (fo : Buf (Elt F) (Collect.oLoc d)) : sProp 𝕄 :=
  Collect.carry d (coordsV c s) (gyM m A d) (giM m A d) (tsh c s) (tsh c s) fo
abbrev sOut (d : Dev nD) : Buf (Elt F) (Spread.oLoc d) := spread (fxM m d) (fiM m d) (foM m d)
abbrev gOut (d : Dev nD) : Buf (Elt F) (Collect.oLoc d) := collected (gyM m A d) (giM m A d)

/-- What the handshakes carry: every tile its part, before and after. -/
def P : (K (F := F)).Pay (nD := nD) (Val := Elt F) (Name := ℕ) (U := UU) where
  st := fun q d c => match q with
    | 0 => bigSep Finset.univ fun s : Fin (grid1.bound 1) => sPart m d c s (foM m d)
    | 1 => bigSep Finset.univ fun s : Fin (grid4.bound 1) => gPart m A d c s (goM m A d)
  dn := fun q d c => match q with
    | 0 => bigSep Finset.univ fun s : Fin (grid1.bound 1) => sPart m d c s (sOut m d)
    | 1 => bigSep Finset.univ fun s : Fin (grid4.bound 1) => gPart m A d c s (gOut m A d)
  go := fun q d c s => match q with
    | 0 => sPart m d c s (foM m d)
    | 1 => gPart m A d c s (goM m A d)
  td := fun q d c s => match q with
    | 0 => sPart m d c s (sOut m d)
    | 1 => gPart m A d c s (gOut m A d)
  x := fun _ _ => iprop(emp)

instance P_storable : (P (F := F) m A).IsStorable where
  st q d c := match q with
    | 0 => (inferInstance : BI.Storable (upEmb : UEmb _ 𝕄) (bigSep Finset.univ fun s : Fin (grid1.bound 1) => sPart m d c s (foM m d)))
    | 1 => (inferInstance : BI.Storable (upEmb : UEmb _ 𝕄) (bigSep Finset.univ fun s : Fin (grid4.bound 1) => gPart m A d c s (goM m A d)))
  dn q d c := match q with
    | 0 => (inferInstance : BI.Storable (upEmb : UEmb _ 𝕄) (bigSep Finset.univ fun s : Fin (grid1.bound 1) => sPart m d c s (sOut m d)))
    | 1 => (inferInstance : BI.Storable (upEmb : UEmb _ 𝕄) (bigSep Finset.univ fun s : Fin (grid4.bound 1) => gPart m A d c s (gOut m A d)))
  go q d c s := match q with
    | 0 => (inferInstance : BI.Storable (upEmb : UEmb _ 𝕄) (sPart m d c s (foM m d)))
    | 1 => (inferInstance : BI.Storable (upEmb : UEmb _ 𝕄) (gPart m A d c s (goM m A d)))
  td q d c s := match q with
    | 0 => (inferInstance : BI.Storable (upEmb : UEmb _ 𝕄) (sPart m d c s (sOut m d)))
    | 1 => (inferInstance : BI.Storable (upEmb : UEmb _ 𝕄) (gPart m A d c s (gOut m A d)))

theorem defs₀_spread (c : Fin τ.nSC) (s : Fin τ.nSub) :
    defs₀ (F := F) (.scVector c s) 1 ()
      = SparseCore.onTile hcore1 hsub1 (fun c s => cc1_k (coordsV c s)
          (Memref.whole main_v3_scv) (Memref.isWhole_whole _) (Memref.whole main_v12_scv) (Memref.isWhole_whole _) (Memref.whole main_v13_scv) (Memref.isWhole_whole _)
          (Memref.whole cc1_scratch0) (Memref.isWhole_whole _) (Memref.whole cc1_scratch1) (Memref.isWhole_whole _) cc1_scratch2 cc1_scoped0 cc1_scoped1) ⟨⟩ c s := rfl

theorem defs₀_collect (c : Fin τ.nSC) (s : Fin τ.nSub) :
    defs₀ (F := F) (.scVector c s) 4 ()
      = SparseCore.onTile hcore4 hsub4 (fun c s => cc4_k (coordsV c s)
          (Memref.whole main_v25_scv) (Memref.isWhole_whole _) (Memref.whole main_v34_scv) (Memref.isWhole_whole _) (Memref.whole main_v35_scv) (Memref.isWhole_whole _)
          (Memref.whole cc4_scratch0) (Memref.isWhole_whole _) (Memref.whole cc4_scratch1) (Memref.isWhole_whole _) cc4_scratch2 cc4_scoped0 cc4_scoped1) ⟨⟩ c s := rfl

omit [FloatOps F] in
theorem obl_post {thr : Thread nD τ} {X Y Z : sProp 𝕄} {O : CellTallies nD τ sig (HIx 2)} {W : Waits sig (HIx 2)} {q : Fin 2} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem spreadObl (hF : (K (F := F)).Facts) (ok : RouteOK m) : (K (F := F)).TileObl (D (F := F)) 𝒱 (P m A) v₀ 0 := by
  intro d c i O W hO _ _
  simp only [show (P m A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_spread]; simp only [SparseCore.onTile, hci, and_self, ↓reduceDIte]
  exact (Spread.tile_body d (coordsV ⟨_, hci.1⟩ ⟨_, hci.2⟩) (fxM m d) (fiM m d) hF _ _ (ok.scatter d) (foM m d) O W hO).trans (wp_mono frame _ _ fun _ => obl_post)

set_option maxRecDepth 16384 in
theorem collectObl (hF : (K (F := F)).Facts) (ok : RouteOK m) : (K (F := F)).TileObl (D (F := F)) 𝒱 (P m A) v₀ 1 := by
  intro d c i O W hO _ _
  simp only [show (P m A).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [defs₀_collect]; simp only [SparseCore.onTile, hci, and_self, ↓reduceDIte]
  exact (Collect.tile_body d (coordsV ⟨_, hci.1⟩ ⟨_, hci.2⟩) (gyM m A d) (giM m A d) hF _ _ (ok.gather A d) (goM m A d) O W hO).trans (wp_mono frame _ _ fun _ => obl_post)

omit [FloatOps F] in
theorem split_same {X Y : sProp 𝕄} : X ⊢ |={Set.univ}=> iprop(X ∗ (Y -∗ Y)) := by
  iintro H; imodintro
  isplitl [H]; · iexact H
  iintro H; iexact H

theorem vecSplit0 : (K (F := F)).VecSplit' (P m A) 0 := fun _ _ => split_same
theorem vecSplit1 : (K (F := F)).VecSplit' (P m A) 1 := fun _ _ => split_same

/-! ## The ghost state -/

/-- The launch element of the certificate's ghost state. -/
def u₀ : UU := (initOf (K (F := F)).hsCells (K (F := F)).hsToks,
  (initOf (Pipeline.cells (pin (pcfgs (F := F)) (adm A)) (cellOf_inj (adm A))) (Pipeline.launchToks (pin (pcfgs (F := F)) (adm A)) (cellOf_inj (adm A))), 1))

/-- What a device's host program is given of it: each pipeline's staging cells and tokens. -/
abbrev G (d : Dev nD) : sProp 𝕄 := bigSep Finset.univ fun p : Fin 4 => ghostOf (adm A) p d

theorem hu₀ : (ownU (u₀ (F := F) A) : sProp 𝕄)
    ⊢ |={Set.univ}=> iprop(BI.own (EH (initOf (K (F := F)).hsCells (K (F := F)).hsToks)) ∗ (bigSep Finset.univ fun d : Dev nD => G A d)
        ∗ bigSep Finset.univ fun thr : Thread nD τ => bigSep Finset.univ fun q : Fin 2 => (P m A).x q thr) := by
  have hsplit : (ownU (u₀ (F := F) A) : sProp 𝕄) ⊢ iprop(BI.own (EH (initOf (K (F := F)).hsCells (K (F := F)).hsToks))
      ∗ BI.own (EP (F := F) (initOf (Pipeline.cells (pin (pcfgs (F := F)) (adm A)) (cellOf_inj (adm A))) (Pipeline.launchToks (pin (pcfgs (F := F)) (adm A)) (cellOf_inj (adm A)))))) := BI.own_op_elim ((uEmb (nD := nD) (τ := τ) (sig := sig) (Ix := HIx 2) (Val := Elt F) (Name := ℕ) (U := UU) (Lvl := ℕ)).toEmb.op_of_mem
    (Prod.mk_mem_op (URA.mem_op_one (initOf (K (F := F)).hsCells (K (F := F)).hsToks))
      (URA.mem_one_op ((initOf (Pipeline.cells (pin (pcfgs (F := F)) (adm A)) (cellOf_inj (adm A))) (Pipeline.launchToks (pin (pcfgs (F := F)) (adm A)) (cellOf_inj (adm A))), (1 : Counters)) : UP × Counters))))
  have hfund := Pipeline.fund_ghost (Ix := HIx 2) (Val := Elt F) (Name := ℕ) (U := UU) (Lvl := ℕ) (nD := nD) (τ := τ) (pin (pcfgs (F := F)) (adm A)) (EP (F := F)) (cellOf_inj (adm A))
  iintro Hu
  ihave H := hsplit $$ Hu
  icases H with ⟨HH, HP⟩
  imod hfund $$ HP with ⟨Hc, Ht⟩
  imodintro
  isplitl [HH]; · iexact HH
  isplitl [Hc Ht]
  · simp only [G, ghostOf, bigSep_sep']
    isplitl [Hc]; · iexact Hc
    iexact Ht
  rw [show (bigSep Finset.univ fun thr : Thread nD τ => bigSep Finset.univ fun q : Fin 2 => (P (F := F) m A).x q thr) = iprop(emp) from
    (bigSep_congr fun _ _ => bigSep_emp_const _).trans (bigSep_emp_const _)]
  iempintro

/-! ## The host program -/

variable (ok : RouteOK m)

theorem st_spread (d : Dev nD) (ok : RouteOK m) : (bigSep Finset.univ fun c : Fin ((K (F := F)).nCore 0) => (P m A).st 0 d c)
    = iprop((Spread.xLoc d ↦{fullShare} fxM m d) ∗ (Spread.iLoc d ↦{fullShare} fiM m d) ∗ (Spread.oLoc d ↦[named (fiM m d)]{fullShare} foM m d)) := Spread.carry_all d _ _ (ok.scatter d) _
theorem dn_spread (d : Dev nD) (ok : RouteOK m) : (bigSep Finset.univ fun c : Fin ((K (F := F)).nCore 0) => (P m A).dn 0 d c)
    = iprop((Spread.xLoc d ↦{fullShare} fxM m d) ∗ (Spread.iLoc d ↦{fullShare} fiM m d) ∗ (Spread.oLoc d ↦[named (fiM m d)]{fullShare} sOut m d)) := Spread.carry_all d _ _ (ok.scatter d) _
theorem st_collect (d : Dev nD) : (bigSep Finset.univ fun c : Fin ((K (F := F)).nCore 1) => (P m A).st 1 d c)
    = iprop((Collect.yLoc d ↦{fullShare} gyM m A d) ∗ (Collect.iLoc d ↦{fullShare} giM m A d) ∗ (Collect.oLoc d ↦{fullShare} goM m A d)) := Collect.carry_all d _ _ _
theorem dn_collect (d : Dev nD) : (bigSep Finset.univ fun c : Fin ((K (F := F)).nCore 1) => (P m A).dn 1 d c)
    = iprop((Collect.yLoc d ↦{fullShare} gyM m A d) ∗ (Collect.iLoc d ↦{fullShare} giM m A d) ∗ (Collect.oLoc d ↦{fullShare} gOut m A d)) := Collect.carry_all d _ _ _

/-- The host program's state around a call is what it owes and the rest. -/
theorem tcSt_eq (d : Dev nD) (n : ℕ) : ∃ R, (K (F := F)).tcSt EH d n = (iprop(owing (F := F) d n ∗ R) : sProp 𝕄) := ⟨_, rfl⟩

/-- A pipeline's call among the host program's operations, from its rule over the arrays. -/
theorem region_step (κ : GSem nD τ sig → ℕ) (d : Dev nD) (p : Fin 4) (n : ℕ) (V V' : Valuation τ sig (Elt F)) (Q : PUnit → sProp 𝕄)
    (h : ∀ Q : PUnit → sProp 𝕄, iprop((iprop(boundary (T d) ∗ StableHlo.held (T d) (Pipeline.ucRefs τ sig) V' ∗ owing (F := F) d n) -∗ Q ⟨⟩)
        ∗ boundary (T d) ∗ StableHlo.held (T d) (Pipeline.ucRefs τ sig) V ∗ owing (F := F) d n ∗ levAts (K (F := F)).L (K (F := F)).lev ∗ ghostOf (adm A) p d)
      ⊢ wp frame (wpE ((K (F := F)).defs (D (F := F))) 𝒱 (T d) none) Set.univ (Prog.lift (.customCall (SparseCore.inner (Pipeline.entry p)) ())) Q) :
    iprop((K (F := F)).ctx EH (P m A) κ ∗ (iprop(boundary (T d) ∗ StableHlo.held (T d) (Pipeline.ucRefs τ sig) V' ∗ (K (F := F)).tcSt EH d n) -∗ Q ⟨⟩)
        ∗ boundary (T d) ∗ StableHlo.held (T d) (Pipeline.ucRefs τ sig) V ∗ (K (F := F)).tcSt EH d n ∗ ghostOf (adm A) p d)
      ⊢ wp frame (wpE ((K (F := F)).defs (D (F := F))) 𝒱 (T d) none) Set.univ (Prog.lift (.customCall (SparseCore.inner (Pipeline.entry p)) ())) Q := by
  obtain ⟨R, hR⟩ := tcSt_eq (F := F) d n
  rw [hR]
  iintro ⟨#Hctx, Hk, Hb, Hh, ⟨HO, Hr⟩, HG⟩
  ihave Hlev := ((K (F := F)).ctx_levAts (EH := EH) (P := P m A) κ) $$ Hctx
  iapply (h Q)
  isplitl [Hk Hr]
  · iintro ⟨Hb, Hh, HO⟩
    iapply Hk
    isplitl [Hb]; · iexact Hb
    isplitl [Hh]; · iexact Hh
    isplitl [HO]; · iexact HO
    iexact Hr
  isplitl [Hb]; · iexact Hb
  isplitl [Hh]; · iexact Hh
  isplitl [HO]; · iexact HO
  isplitl [Hlev]; · iexact Hlev
  iexact HG

/-- Every array at the end. -/
abbrev FIN (d : Dev nD) : sProp 𝕄 := StableHlo.held (d.tc : Thread nD τ) (Pipeline.ucRefs τ sig) (V11 m A d)

variable [∀ e, Nonempty (Elt F e)]

theorem dr_inj {b b' : Ref sig .tc} (h : dr b = dr b') : b = b' := Proc.devRef_injective _ h

theorem V5_ne (c : Dev nD) (b : Ref sig .tc) (h : b ≠ main_v22) : V5 m c (dr b) = V4 m c (dr b) := by
  unfold V5
  exact Function.update_of_ne (fun e => h (dr_inj e)) _ _
theorem V5_self (c : Dev nD) : V5 m c (dr main_v22) = sharedOut (V4 m) c := by
  unfold V5
  exact Function.update_self _ _ _
theorem V7_ne (c : Dev nD) (b : Ref sig .tc) (h : b ≠ main_v24) : V7 m A c (dr b) = V6 m c (dr b) := by
  unfold V7
  exact Function.update_of_ne (fun e => h (dr_inj e)) _ _
theorem V7_self (c : Dev nD) : V7 m A c (dr main_v24) = groupOut (V6 m) c A := by
  unfold V7
  exact Function.update_self _ _ _
theorem V11_ne (c : Dev nD) (b : Ref sig .tc) (h : b ≠ main_v37) : V11 m A c (dr b) = V10 m A c (dr b) := by
  unfold V11
  exact Function.update_of_ne (fun e => h (dr_inj e)) _ _
theorem V11_self (c : Dev nD) : V11 m A c (dr main_v37) = combOut (V10 m A) c := by
  unfold V11
  exact Function.update_self _ _ _
theorem shared_in0 (c : Dev nD) : (dat2 (adm A) 1 (V4 m) c).arrAt 0 cfg2.N = V5 m c (dr main_arg0) := by
  refine ((dat2 (adm A) 1 (V4 m) c).arrAt_in 0 rfl _).trans ?_
  exact (V5_ne m c main_arg0 (by decide)).symm
theorem shared_in1 (c : Dev nD) : (dat2 (adm A) 1 (V4 m) c).arrAt 1 cfg2.N = V5 m c (dr main_v15) := by
  refine ((dat2 (adm A) 1 (V4 m) c).arrAt_in 1 rfl _).trans ?_
  exact (V5_ne m c main_v15 (by decide)).symm
theorem shared_in2 (c : Dev nD) : (dat2 (adm A) 1 (V4 m) c).arrAt 2 cfg2.N = V5 m c (dr main_v16) := by
  refine ((dat2 (adm A) 1 (V4 m) c).arrAt_in 2 rfl _).trans ?_
  exact (V5_ne m c main_v16 (by decide)).symm
theorem shared_in3 (c : Dev nD) : (dat2 (adm A) 1 (V4 m) c).arrAt 3 cfg2.N = V5 m c (dr main_v21) := by
  refine ((dat2 (adm A) 1 (V4 m) c).arrAt_in 3 rfl _).trans ?_
  exact (V5_ne m c main_v21 (by decide)).symm
theorem shared_out (c : Dev nD) : (dat2 (adm A) 1 (V4 m) c).arrAt 4 cfg2.N = V5 m c (dr main_v22) := by
  rw [shared_arr]
  exact (V5_self m c).symm
omit [∀ e, Nonempty (Elt F e)] in
theorem experts_arr0 (a : (p : Fin 4) → (pcfgs (F := F) p).Adm) (n : ℕ) (V : Vals F) (c : Dev nD) : (dat3 a n V c).arrAt 0 (cfg3 (a 2)).N = V c (dr main_v14) :=
  (dat3 a n V c).arrAt_in 0 rfl _
theorem experts_in0 (c : Dev nD) : (dat3 (adm A) 1 (V6 m) c).arrAt 0 (cfg3 (F := F) A).N = V7 m A c (dr main_v14) := by
  exact (experts_arr0 (adm A) 1 (V6 m) c).trans (V7_ne m A c main_v14 (by decide)).symm
theorem experts_in1 (c : Dev nD) : (dat3 (adm A) 1 (V6 m) c).arrAt 1 (cfg3 (F := F) A).N = V7 m A c (dr main_arg2) := by
  refine ((dat3 (adm A) 1 (V6 m) c).arrAt_in 1 rfl _).trans ?_
  exact (V7_ne m A c main_arg2 (by decide)).symm
theorem experts_in2 (c : Dev nD) : (dat3 (adm A) 1 (V6 m) c).arrAt 2 (cfg3 (F := F) A).N = V7 m A c (dr main_arg3) := by
  refine ((dat3 (adm A) 1 (V6 m) c).arrAt_in 2 rfl _).trans ?_
  exact (V7_ne m A c main_arg3 (by decide)).symm
theorem experts_in3 (c : Dev nD) : (dat3 (adm A) 1 (V6 m) c).arrAt 3 (cfg3 (F := F) A).N = V7 m A c (dr main_arg4) := by
  refine ((dat3 (adm A) 1 (V6 m) c).arrAt_in 3 rfl _).trans ?_
  exact (V7_ne m A c main_arg4 (by decide)).symm
theorem experts_out (c : Dev nD) : (dat3 (adm A) 1 (V6 m) c).arrAt 4 (cfg3 (F := F) A).N = V7 m A c (dr main_v24) := by
  rw [group_arr]
  exact (V7_self m A c).symm
theorem combine_in0 (c : Dev nD) : (dat5 (adm A) 2 (V10 m A) c).arrAt 0 cfg5.N = V11 m A c (dr main_v36) := by
  refine ((dat5 (adm A) 2 (V10 m A) c).arrAt_in 0 rfl _).trans ?_
  exact (V11_ne m A c main_v36 (by decide)).symm
theorem combine_in1 (c : Dev nD) : (dat5 (adm A) 2 (V10 m A) c).arrAt 1 cfg5.N = V11 m A c (dr main_v36) := by
  refine ((dat5 (adm A) 2 (V10 m A) c).arrAt_in 1 rfl _).trans ?_
  exact (V11_ne m A c main_v36 (by decide)).symm
theorem combine_in2 (c : Dev nD) : (dat5 (adm A) 2 (V10 m A) c).arrAt 2 cfg5.N = V11 m A c (dr main_v0_1) := by
  refine ((dat5 (adm A) 2 (V10 m A) c).arrAt_in 2 rfl _).trans ?_
  exact (V11_ne m A c main_v0_1 (by decide)).symm
theorem combine_in3 (c : Dev nD) : (dat5 (adm A) 2 (V10 m A) c).arrAt 3 cfg5.N = V11 m A c (dr main_v22) := by
  refine ((dat5 (adm A) 2 (V10 m A) c).arrAt_in 3 rfl _).trans ?_
  exact (V11_ne m A c main_v22 (by decide)).symm
theorem combine_out (c : Dev nD) : (dat5 (adm A) 2 (V10 m A) c).arrAt 4 cfg5.N = V11 m A c (dr main_v37) := by
  rw [comb_arr]
  exact (V11_self m A c).symm
theorem route_in0 (c : Dev nD) : (dat0 (adm A) 0 (V0 m) c).arrAt 0 cfg0.N = V1 m c (dr main_arg0) := by
  refine ((dat0 (adm A) 0 (V0 m) c).arrAt_in 0 rfl _).trans ?_
  unfold V1
  rw [Function.update_of_ne (by decide), Function.update_of_ne (by decide), Function.update_of_ne (by decide)]
  rfl
theorem route_in1 (c : Dev nD) : (dat0 (adm A) 0 (V0 m) c).arrAt 1 cfg0.N = V1 m c (dr main_arg1) := by
  refine ((dat0 (adm A) 0 (V0 m) c).arrAt_in 1 rfl _).trans ?_
  unfold V1
  rw [Function.update_of_ne (by decide), Function.update_of_ne (by decide), Function.update_of_ne (by decide)]
  rfl
theorem route_out0 (c : Dev nD) : (dat0 (adm A) 0 (V0 m) c).arrAt 2 cfg0.N = V1 m c (dr main_v0_0) := by
  rw [routeP_arr]
  unfold V1
  rw [Function.update_of_ne (by decide), Function.update_of_ne (by decide), Function.update_self]
  rfl
theorem route_out1 (c : Dev nD) : (dat0 (adm A) 0 (V0 m) c).arrAt 3 cfg0.N = V1 m c (dr main_v0_1) := by
  rw [routeW_arr]
  unfold V1
  rw [Function.update_of_ne (by decide), Function.update_self]
  rfl
theorem route_out2 (c : Dev nD) : (dat0 (adm A) 0 (V0 m) c).arrAt 4 cfg0.N = V1 m c (dr main_v0_2) := by
  rw [routeT_arr]
  unfold V1
  rw [Function.update_self]
  rfl

theorem route_rest (c : Dev nD) (b : Ref sig .tc) (hb : b ∉ Finset.univ.image (Pipeline.arrRef spec0)) : V1 m c (dr b) = V0 m c (dr b) := by
  unfold V1
  rw [Function.update_of_ne fun e => hb (Finset.mem_image.mpr ⟨4, Finset.mem_univ _, (dr_inj e).symm⟩),
    Function.update_of_ne fun e => hb (Finset.mem_image.mpr ⟨3, Finset.mem_univ _, (dr_inj e).symm⟩),
    Function.update_of_ne fun e => hb (Finset.mem_image.mpr ⟨2, Finset.mem_univ _, (dr_inj e).symm⟩)]
theorem shared_rest (c : Dev nD) (b : Ref sig .tc) (hb : b ∉ Finset.univ.image (Pipeline.arrRef spec2)) : V5 m c (dr b) = V4 m c (dr b) :=
  V5_ne m c b fun e => hb (Finset.mem_image.mpr ⟨4, Finset.mem_univ _, e.symm⟩)
theorem experts_rest (c : Dev nD) (b : Ref sig .tc) (hb : b ∉ Finset.univ.image (Pipeline.arrRef spec3)) : V7 m A c (dr b) = V6 m c (dr b) :=
  V7_ne m A c b fun e => hb (Finset.mem_image.mpr ⟨4, Finset.mem_univ _, e.symm⟩)
theorem combine_rest (c : Dev nD) (b : Ref sig .tc) (hb : b ∉ Finset.univ.image (Pipeline.arrRef spec5)) : V11 m A c (dr b) = V10 m A c (dr b) :=
  V11_ne m A c b fun e => hb (Finset.mem_image.mpr ⟨4, Finset.mem_univ _, e.symm⟩)

theorem route_arrays (c : Dev nD) : ∀ w, (pdats (adm A) 0 (V0 m) 0 c).arrAt w (pin (pcfgs (F := F)) (adm A) 0).N = V1 m c (Proc.devRef .tc (Pipeline.arrRef (pin (pcfgs (F := F)) (adm A) 0).spec w))
  | ⟨0, _⟩ => route_in0 m A c
  | ⟨1, _⟩ => route_in1 m A c
  | ⟨2, _⟩ => route_out0 m A c
  | ⟨3, _⟩ => route_out1 m A c
  | ⟨4, _⟩ => route_out2 m A c

theorem call_route (d : Dev nD) (Q : PUnit → sProp 𝕄) :
    iprop((iprop(boundary (T d) ∗ StableHlo.held (T d) (Pipeline.ucRefs τ sig) (V1 m d) ∗ owing (F := F) d 0) -∗ Q ⟨⟩)
        ∗ boundary (T d) ∗ StableHlo.held (T d) (Pipeline.ucRefs τ sig) (V0 m d) ∗ owing (F := F) d 0 ∗ levAts (K (F := F)).L (K (F := F)).lev ∗ ghostOf (adm A) 0 d)
      ⊢ wp frame (wpE ((K (F := F)).defs (D (F := F))) 𝒱 (T d) none) Set.univ (Prog.lift (.customCall (SparseCore.inner (Pipeline.entry 0)) ())) Q :=
  call_plain (adm A) 0 (V0 m) (V1 m) 0 rfl (route_arrays m A) (route_rest m) d Q

theorem shared_arrays (c : Dev nD) : ∀ w, (pdats (adm A) 1 (V4 m) 1 c).arrAt w (pin (pcfgs (F := F)) (adm A) 1).N = V5 m c (Proc.devRef .tc (Pipeline.arrRef (pin (pcfgs (F := F)) (adm A) 1).spec w))
  | ⟨0, _⟩ => shared_in0 m A c
  | ⟨1, _⟩ => shared_in1 m A c
  | ⟨2, _⟩ => shared_in2 m A c
  | ⟨3, _⟩ => shared_in3 m A c
  | ⟨4, _⟩ => shared_out m A c

theorem call_shared (d : Dev nD) (Q : PUnit → sProp 𝕄) :
    iprop((iprop(boundary (T d) ∗ StableHlo.held (T d) (Pipeline.ucRefs τ sig) (V5 m d) ∗ owing (F := F) d 1) -∗ Q ⟨⟩)
        ∗ boundary (T d) ∗ StableHlo.held (T d) (Pipeline.ucRefs τ sig) (V4 m d) ∗ owing (F := F) d 1 ∗ levAts (K (F := F)).L (K (F := F)).lev ∗ ghostOf (adm A) 1 d)
      ⊢ wp frame (wpE ((K (F := F)).defs (D (F := F))) 𝒱 (T d) none) Set.univ (Prog.lift (.customCall (SparseCore.inner (Pipeline.entry 1)) ())) Q :=
  call_plain (adm A) 1 (V4 m) (V5 m) 1 rfl (shared_arrays m A) (shared_rest m) d Q

theorem experts_arrays (c : Dev nD) : ∀ w, (dat3 (adm A) 1 (V6 m) c).arrAt w (cfg3 (adm A 2)).N = V7 m A c (Proc.devRef .tc (Pipeline.arrRef spec3 w))
  | ⟨0, _⟩ => experts_in0 m A c
  | ⟨1, _⟩ => experts_in1 m A c
  | ⟨2, _⟩ => experts_in2 m A c
  | ⟨3, _⟩ => experts_in3 m A c
  | ⟨4, _⟩ => experts_out m A c

theorem call_experts (hA : A.1 = tabM m) (d : Dev nD) (Q : PUnit → sProp 𝕄) :
    iprop((iprop(boundary (T d) ∗ StableHlo.held (T d) (Pipeline.ucRefs τ sig) (V7 m A d) ∗ owing (F := F) d 1) -∗ Q ⟨⟩)
        ∗ boundary (T d) ∗ StableHlo.held (T d) (Pipeline.ucRefs τ sig) (V6 m d) ∗ owing (F := F) d 1 ∗ levAts (K (F := F)).L (K (F := F)).lev ∗ ghostOf (adm A) 2 d)
      ⊢ wp frame (wpE ((K (F := F)).defs (D (F := F))) 𝒱 (T d) none) Set.univ (Prog.lift (.customCall (SparseCore.inner (Pipeline.entry 2)) ())) Q :=
  call_grouped (adm A) 1 (V6 m) (V7 m A)
    (fun c k => by
      have hc : c = 0 := Subsingleton.elim _ _
      subst hc
      exact congrFun hA k)
    (experts_arrays m A) (experts_rest m A) d Q

theorem combine_arrays (c : Dev nD) : ∀ w, (pdats (adm A) 2 (V10 m A) 3 c).arrAt w (pin (pcfgs (F := F)) (adm A) 3).N = V11 m A c (Proc.devRef .tc (Pipeline.arrRef (pin (pcfgs (F := F)) (adm A) 3).spec w))
  | ⟨0, _⟩ => combine_in0 m A c
  | ⟨1, _⟩ => combine_in1 m A c
  | ⟨2, _⟩ => combine_in2 m A c
  | ⟨3, _⟩ => combine_in3 m A c
  | ⟨4, _⟩ => combine_out m A c

theorem call_combine (d : Dev nD) (Q : PUnit → sProp 𝕄) :
    iprop((iprop(boundary (T d) ∗ StableHlo.held (T d) (Pipeline.ucRefs τ sig) (V11 m A d) ∗ owing (F := F) d 2) -∗ Q ⟨⟩)
        ∗ boundary (T d) ∗ StableHlo.held (T d) (Pipeline.ucRefs τ sig) (V10 m A d) ∗ owing (F := F) d 2 ∗ levAts (K (F := F)).L (K (F := F)).lev ∗ ghostOf (adm A) 3 d)
      ⊢ wp frame (wpE ((K (F := F)).defs (D (F := F))) 𝒱 (T d) none) Set.univ (Prog.lift (.customCall (SparseCore.inner (Pipeline.entry 3)) ())) Q :=
  call_plain (adm A) 2 (V10 m A) (V11 m A) 3 rfl (combine_arrays m A) (combine_rest m A) d Q

/-! ## The host program -/

variable (ρ : Dev nD → PrngReg)

theorem G_eq (d : Dev nD) : G A d = (iprop(ghostOf (adm A) 0 d ∗ ghostOf (adm A) 1 d ∗ ghostOf (adm A) 2 d ∗ ghostOf (adm A) 3 d) : sProp 𝕄) := by
  unfold G
  rw [show (Finset.univ : Finset (Fin 4)) = {0, 1, 2, 3} from by decide, SparseCore.bigSep_insert' (by decide), SparseCore.bigSep_insert' (by decide), SparseCore.bigSep_insert' (by decide), bigSep_singleton]

omit [FloatOps F] [∀ e, Nonempty (Elt F e)] in
theorem launch_held (d : Dev nD) : (unscopedBufs d (fun b => m ((SparseCore.T d).loc b)) : sProp 𝕄) = StableHlo.held (d.tc : Thread nD τ) (Pipeline.ucRefs τ sig) (V0 m d) :=
  Pipeline.unscopedBufs_held d (V0 m d)

/-- The host program, every array's value at its end. -/
theorem hmain (ok : RouteOK m) (hA : A.1 = tabM m) (κ : GSem nD τ sig → ℕ) (d : Dev nD) :
    iprop((K (F := F)).ctx EH (P m A) κ ∗ (K (F := F)).tcSt EH d 0 ∗ (K (F := F)).tcRes m ρ d ∗ G A d)
      ⊢ wp frame (wpE ((K (F := F)).defs (D (F := F))) 𝒱 (T d) none) Set.univ (main d)
          fun _ => iprop((K (F := F)).tcSt EH d 2 ∗ FIN m A d ∗ (K (F := F)).tcEnd d) := by
  unfold SparseCore.Cfg.tcRes SparseCore.Cfg.tcEnd
  rw [launch_held, main_eq, G_eq]
  iintro ⟨#Hctx, Hst, ⟨Hb, Hh, Hts, -⟩, ⟨HG0, HG1, HG2, HG3⟩⟩
  rw [wp_bind]
  iapply (region_step m A κ d 0 0 (V0 m d) (V1 m d) _ (call_route m A d))
  isplitr; · iexact Hctx
  isplitr [Hb Hh Hst HG0]
  swap
  · isplitl [Hb]; · iexact Hb
    isplitl [Hh]; · iexact Hh
    isplitl [Hst]; · iexact Hst
    iexact HG0
  iintro ⟨Hb, Hh, Hst⟩
  iapply (StableHlo.wp_seq 𝒱 none Set.univ d (Pipeline.ucRefs τ sig) _ opsA opsA_sub opsA_fresh (V1 m d)) $$ [Hb Hh]
  · isplitl [Hb] <;> iassumption
  iintro ⟨Hb, Hh⟩
  ihave Hh' := (Entails.of_eq (show StableHlo.held (d.tc : Thread nD τ) (Pipeline.ucRefs τ sig) (StableHlo.after opsA (V1 m d)) = _ from held_spread d (V2 m d))) $$ Hh
  icases Hh' with ⟨⟨Hx, Hi, Ho⟩, Hrest⟩
  ihave Ho' := (Spread.target_split d (fiM m d) (foM m d)).1 $$ Ho
  icases Ho' with ⟨Ho, Hoff⟩
  rw [wp_bind]
  iapply ((K (F := F)).wp_run (D (F := F)) 𝒱 (EH := EH) (P := P m A) κ d 0) $$ [Hst Hx Hi Ho Hoff Hb Hrest Hts HG1 HG2 HG3]
  isplitr; · iexact Hctx
  isplitl [Hst]; · iexact Hst
  isplitl [Hx Hi Ho]
  · rw [st_spread m A d ok]
    isplitl [Hx]; · iexact Hx
    isplitl [Hi] <;> iassumption
  iintro ⟨Hst, Hdn⟩
  ihave Hdn' := (Entails.of_eq (dn_spread m A d ok)) $$ Hdn
  icases Hdn' with ⟨Hx, Hi, Ho⟩
  ihave Ho' := (Spread.target_join d (fxM m d) (fiM m d) (foM m d)) $$ [Ho Hoff]
  · isplitl [Ho] <;> iassumption
  ihave Hh := (Entails.of_eq (held_V3 m d)) $$ [Hx Hi Ho' Hrest]
  · isplitr [Hrest]
    · isplitl [Hx]; · iexact Hx
      isplitl [Hi] <;> iassumption
    · iexact Hrest
  iapply (StableHlo.wp_seq 𝒱 none Set.univ d (Pipeline.ucRefs τ sig) _ opsB opsB_sub opsB_fresh (V3 m d)) $$ [Hb Hh]
  · isplitl [Hb] <;> iassumption
  iintro ⟨Hb, Hh⟩
  rw [wp_bind]
  iapply (region_step m A κ d 1 1 (V4 m d) (V5 m d) _ (call_shared m A d))
  isplitr; · iexact Hctx
  isplitr [Hb Hh Hst HG1]
  swap
  · isplitl [Hb]; · iexact Hb
    isplitl [Hh]; · iexact Hh
    isplitl [Hst]; · iexact Hst
    iexact HG1
  iintro ⟨Hb, Hh, Hst⟩
  iapply (StableHlo.wp_seq 𝒱 none Set.univ d (Pipeline.ucRefs τ sig) _ opsC opsC_sub opsC_fresh (V5 m d)) $$ [Hb Hh]
  · isplitl [Hb] <;> iassumption
  iintro ⟨Hb, Hh⟩
  rw [wp_bind]
  iapply (region_step m A κ d 2 1 (V6 m d) (V7 m A d) _ (call_experts m A hA d))
  isplitr; · iexact Hctx
  isplitr [Hb Hh Hst HG2]
  swap
  · isplitl [Hb]; · iexact Hb
    isplitl [Hh]; · iexact Hh
    isplitl [Hst]; · iexact Hst
    iexact HG2
  iintro ⟨Hb, Hh, Hst⟩
  iapply (StableHlo.wp_seq 𝒱 none Set.univ d (Pipeline.ucRefs τ sig) _ opsD opsD_sub opsD_fresh (V7 m A d)) $$ [Hb Hh]
  · isplitl [Hb] <;> iassumption
  iintro ⟨Hb, Hh⟩
  ihave Hh' := (Entails.of_eq (show StableHlo.held (d.tc : Thread nD τ) (Pipeline.ucRefs τ sig) (StableHlo.after opsD (V7 m A d)) = _ from held_collect d (V8 m A d))) $$ Hh
  icases Hh' with ⟨Hcall, Hrest⟩
  rw [wp_bind]
  iapply ((K (F := F)).wp_run (D (F := F)) 𝒱 (EH := EH) (P := P m A) κ d 1) $$ [Hst Hcall Hb Hrest Hts HG3]
  isplitr; · iexact Hctx
  isplitl [Hst]; · iexact Hst
  isplitl [Hcall]
  · rw [st_collect m A d]; iexact Hcall
  iintro ⟨Hst, Hdn⟩
  ihave Hdn' := (Entails.of_eq (dn_collect m A d)) $$ Hdn
  ihave Hh := (Entails.of_eq (held_V9 m A d)) $$ [Hdn' Hrest]
  · isplitl [Hdn'] <;> iassumption
  iapply (StableHlo.wp_seq 𝒱 none Set.univ d (Pipeline.ucRefs τ sig) _ opsE opsE_sub opsE_fresh (V9 m A d)) $$ [Hb Hh]
  · isplitl [Hb] <;> iassumption
  iintro ⟨Hb, Hh⟩
  rw [wp_bind]
  iapply (region_step m A κ d 3 2 (V10 m A d) (V11 m A d) _ (call_combine m A d))
  isplitr; · iexact Hctx
  isplitr [Hb Hh Hst HG3]
  swap
  · isplitl [Hb]; · iexact Hb
    isplitl [Hh]; · iexact Hh
    isplitl [Hst]; · iexact Hst
    iexact HG3
  iintro ⟨Hb, Hh, Hst⟩
  rw [wp_pure]; imodintro
  isplitl [Hst]; · iexact Hst
  isplitl [Hh]; · iexact Hh
  isplitl [Hb] <;> iassumption

omit [∀ e, Nonempty (Elt F e)] in
/-- What is held of an array is what the memory has. -/
theorem held_agree (d : Dev nD) (V : Valuation τ sig (Elt F)) (s' : Phys nD τ sig (Elt F)) (b : DevRef τ sig) (hb : b ∈ Pipeline.ucRefs τ sig) :
    iprop(StableHlo.held (d.tc : Thread nD τ) (Pipeline.ucRefs τ sig) V ∗ SI s') ⊢ (⌜s'.mem.mem (d, b) = V b⌝ : sProp 𝕄) := by
  rw [StableHlo.held_sub_split _ (Finset.singleton_subset_iff.mpr hb)]
  unfold StableHlo.held
  rw [bigSep_singleton]
  iintro ⟨⟨Hx, -⟩, HSI⟩
  ihave H := (SI_pointsTo_agree (st := s') (ℓ := ((d, b) : Loc nD τ sig)) (I := Finset.univ) (q := fullShare) (f := V b)) $$ [HSI Hx]
  · isplitl [HSI] <;> iassumption
  icases H with %hr
  ipureintro; exact funext fun i => hr i (Finset.mem_univ i)

def fq (d : Dev nD) (s' : Phys nD τ sig (Elt F)) : Prop := ∀ b ∈ Pipeline.ucRefs τ sig, s'.mem.mem (d, b) = V11 m A d b

omit [FloatOps F] [∀ e, Nonempty (Elt F e)] in
theorem pure_forall_mem {ι : Type} {S : Finset ι} {φ : ι → Prop} {X : sProp 𝕄} (h : ∀ b ∈ S, X ⊢ (⌜φ b⌝ : sProp 𝕄)) : X ⊢ (⌜∀ b ∈ S, φ b⌝ : sProp 𝕄) := by
  by_cases hc : ∀ b ∈ S, φ b
  · exact BI.pure_intro hc
  · push Not at hc
    obtain ⟨b, hb, hn⟩ := hc
    exact (h b hb).trans (BI.pure_mono fun hp => absurd hp hn)

omit [∀ e, Nonempty (Elt F e)] in
theorem hfin (d : Dev nD) (s' : Phys nD τ sig (Elt F)) : iprop(FIN m A d ∗ SI s') ⊢ (⌜fq m A d s'⌝ : sProp 𝕄) :=
  pure_forall_mem fun b hb => held_agree d (V11 m A d) s' b hb

def QC : PUnit × MemSt nD τ sig (Elt F) → Prop := fun r =>
  (∀ c : Dev nD, ∀ b ∈ Pipeline.ucRefs τ sig, r.2.mem (c, b) = V11 m A c b) ∧ r.2.sem = fun _ => 0

/-- The program's run: every array at the end. -/
theorem run_main (ok : RouteOK m) (hA : A.1 = tabM m) :
    θ_run (Cert.KernelIdeal.defs (F := F)) (Cert.KernelIdeal.threads (F := F)) ⟨m, fun _ => 0, ρ⟩ (QC m A) :=
  SparseCore.Cfg.θ_run_sc_quiescent (K := K (F := F)) (D := D (F := F)) (𝒱 := 𝒱) (EH := EH) (P := P m A) (A := ∅) facts v₀
    (fun q hq => match q with | 0 => nomatch hq | 1 => nomatch hq)
    (fun q _ => match q with | 0 => spreadObl m A facts ok | 1 => collectObl m A facts ok)
    (fun q _ => match q with | 0 => SparseCore.Cfg.VecSplit.of_plain (vecSplit0 m A) | 1 => SparseCore.Cfg.VecSplit.of_plain (vecSplit1 m A))
    m ρ main (G A) (FIN m A) (u₀ (F := F) A) (sep_elim_left.trans (hu₀ m A)) (hmain m A ρ ok hA) (fq m A) (hfin m A) (QC m A) (fun _ h hz => ⟨h, hz⟩)

end Cert.Proof.Moe

end
-- ==== Proof.Pick.lean ====
/- The router's choice, row by row, over the extended reals: the first largest lane of a row, the two groups of four
   lanes kept, and the two lanes kept among those groups. -/
module

public import proofs.«01_k».proof.Proof.Bodies
public import Idealize.ShloMosaic.Lib.Pointwise
public import Idealize.ShloMosaic.Lib.IdealHost
public import Idealize.ShloMosaic.PureOps.Ideal.Laws

@[expose] public section

noncomputable section

namespace Cert.Proof.Moe

open Cert.KernelIdeal Cert.KernelIdeal.Gen

open Idealize.ShloMosaic
open Idealize.ShloMosaic.Pointwise

/-! ## The constants -/

theorem word_bot : Ideal.ofBits .f32 0xFF800000#32 = ⊥ := by simp [Ideal.ofBits, Ideal.ieee]
theorem word_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-! ## The first largest lane -/

/-- Lane `i` holds the row's largest value, and no lane before it does. -/
def First {n : ℕ} (f : Fin n → EReal) (i : Fin n) : Prop := (∀ j, f j ≤ f i) ∧ ∀ j, j < i → f j < f i

theorem First.unique {n : ℕ} {f : Fin n → EReal} {i j : Fin n} (hi : First f i) (hj : First f j) : i = j := by
  rcases lt_trichotomy i j with h | h | h
  · exact absurd (hi.1 j) (not_le.mpr (hj.2 i h))
  · exact h
  · exact absurd (hj.1 i) (not_le.mpr (hi.2 j h))

theorem First.exists {n : ℕ} (f : Fin (n + 1) → EReal) : ∃ i, First f i := by
  classical
  obtain ⟨m, hm⟩ := Finite.exists_max f
  let S : Finset (Fin (n + 1)) := Finset.univ.filter fun i => f i = f m
  have hS : S.Nonempty := ⟨m, by simp [S]⟩
  have hi : f (S.min' hS) = f m := (Finset.mem_filter.mp (S.min'_mem hS)).2
  refine ⟨S.min' hS, fun j => hi ▸ hm j, fun j hj => lt_of_le_of_ne (hi ▸ hm j) fun he => ?_⟩
  exact absurd (S.min'_le j (by simp [S, he, hi])) (not_le.mpr hj)

/-- The first largest lane of a row. -/
def first {n : ℕ} (f : Fin (n + 1) → EReal) : Fin (n + 1) := (First.exists f).choose
theorem first_spec {n : ℕ} (f : Fin (n + 1) → EReal) : First f (first f) := (First.exists f).choose_spec

/-- A row's largest value. -/
def rmax {n : ℕ} (f : Fin n → EReal) : EReal := Finset.univ.fold max (Ideal.ofBits .f32 0xFF800000#32) f

theorem First.max {n : ℕ} {f : Fin n → EReal} {i : Fin n} (h : First f i) : rmax f = f i := by
  unfold rmax
  rw [word_bot]
  refine le_antisymm (Finset.fold_max_le _ |>.mpr ⟨bot_le, fun j _ => h.1 j⟩) (Finset.le_fold_max _ |>.mpr (Or.inr ⟨i, Finset.mem_univ _, le_rfl⟩))

theorem minsi_toInt (a b : BitVec 32) : (IntOp.minsi a b).toInt = min a.toInt b.toInt := by
  unfold IntOp.minsi
  simp only [BitVec.slt, decide_eq_true_eq]
  split <;> omega

theorem lane_toInt (e : Fin 16) : (BitVec.ofNat 32 e.val).toInt = e.val := by revert e; decide

/-- The smallest lane that holds the row's largest value, as the router's words name it. -/
theorem First.word {f : Fin 16 → EReal} {i : Fin 16} (h : First f i) :
    Finset.univ.fold IntOp.minsi 2147483647#32 (fun e : Fin 16 => if f e = rmax f then BitVec.ofNat 32 e.val else 16#32) = BitVec.ofNat 32 i.val := by
  apply BitVec.eq_of_toInt_eq
  rw [← Finset.fold_hom (op' := (min : ℤ → ℤ → ℤ)) (m := BitVec.toInt) minsi_toInt, h.max, lane_toInt]
  refine le_antisymm ?_ ?_
  · refine Finset.fold_min_le _ |>.mpr (Or.inr ⟨i, Finset.mem_univ _, ?_⟩)
    rw [if_pos rfl, lane_toInt]
  · refine Finset.le_fold_min _ |>.mpr ⟨?_, fun j _ => ?_⟩
    · have : (2147483647#32 : BitVec 32).toInt = 2147483647 := by decide
      rw [this]; omega
    · by_cases hj : f j = f i
      · have : ¬ j < i := fun hlt => absurd hj (h.2 j hlt).ne
        rw [if_pos hj, lane_toInt]
        have := Fin.not_lt.mp this
        exact_mod_cast this
      · have : (16#32 : BitVec 32).toInt = 16 := by decide
        rw [if_neg hj, this]; omega

theorem First.word' {f : Fin 16 → EReal} {i : Fin 16} (h : First f i) {v : EReal} (hv : v = f i) :
    Finset.univ.fold IntOp.minsi 2147483647#32 (fun e : Fin 16 => if f e = v then BitVec.ofNat 32 e.val else 16#32) = BitVec.ofNat 32 i.val := by
  rw [hv, ← h.max]; exact h.word

/-! ## The choice -/

section Choice
variable (s : Fin 16 → EReal)

/-- A group's largest score, the other lanes standing at minus one. -/
def gmax (q : ℕ) : EReal := rmax fun e : Fin 16 => if e.val / 4 = q then s e else -1
/-- The first group kept, and the second. -/
def q1 : ℕ := (first fun e : Fin 16 => gmax s (e.val / 4)).val / 4
def q2 : ℕ := (first fun e : Fin 16 => if e.val / 4 = q1 s then -1 else gmax s (e.val / 4)).val / 4
/-- The scores of the groups kept, zero elsewhere. -/
def kept (e : Fin 16) : EReal := if e.val / 4 = q1 s ∨ e.val / 4 = q2 s then s e else 0
/-- The first expert kept, and the second. -/
def i1 : Fin 16 := first (kept s)
/-- The kept scores without the first expert's. -/
def kept' (e : Fin 16) : EReal := if e = i1 s then -1 else kept s e
def i2 : Fin 16 := first (kept' s)

/-- A lane of a group not kept, and another. -/
theorem other_lanes (p q : ℕ) (i : Fin 16) : ∃ e : Fin 16, e ≠ i ∧ e.val / 4 ≠ p ∧ e.val / 4 ≠ q := by
  have key : ∃ r : Fin 4, r.val ≠ p ∧ r.val ≠ q := by
    by_cases h0 : p ≠ 0 ∧ q ≠ 0
    · exact ⟨0, Ne.symm h0.1, Ne.symm h0.2⟩
    · by_cases h1 : p ≠ 1 ∧ q ≠ 1
      · exact ⟨1, Ne.symm h1.1, Ne.symm h1.2⟩
      · exact ⟨2, by simp; omega, by simp; omega⟩
  obtain ⟨r, hp, hq⟩ := key
  by_cases h : i.val = 4 * r.val
  · refine ⟨⟨4 * r.val + 1, by omega⟩, fun he => ?_, ?_, ?_⟩
    · have := congrArg Fin.val he; simp only at this; omega
    · simp only; omega
    · simp only; omega
  · refine ⟨⟨4 * r.val, by omega⟩, fun he => ?_, ?_, ?_⟩
    · have := congrArg Fin.val he; simp only at this; omega
    · simp only; omega
    · simp only; omega

theorem neg_one_lt_zero : (-1 : EReal) < 0 := by
  have : ((-1 : ℝ) : EReal) < ((0 : ℝ) : EReal) := EReal.coe_lt_coe_iff.mpr (by norm_num)
  simpa using this

/-- The two experts kept are two, and the second's score is not negative. -/
theorem i2_nonneg : 0 ≤ kept' s (i2 s) := by
  obtain ⟨e, he, hp, hq⟩ := other_lanes (q1 s) (q2 s) (i1 s)
  have h := (first_spec (kept' s)).1 e
  have : kept' s e = 0 := by unfold kept' kept; rw [if_neg he, if_neg (by tauto)]
  rw [this] at h; exact h

theorem i1_ne_i2 : i1 s ≠ i2 s := fun h => by
  have h0 := i2_nonneg s
  rw [← h] at h0
  unfold kept' at h0
  rw [if_pos rfl] at h0
  exact absurd h0 (not_le.mpr neg_one_lt_zero)

theorem kept'_i2 : kept' s (i2 s) = kept s (i2 s) := by unfold kept'; rw [if_neg (i1_ne_i2 s).symm]
end Choice

/-! ## The router's words -/

theorem floor_word : ∀ e : Fin 16,
    Scalar.select
      (IntOp.andi
        (IntOp.cmpi CmpIPredicate.ne
          (IntOp.subi (BitVec.setWidth 32 (IntOp.cmpi CmpIPredicate.sgt (BitVec.ofNat 32 e.val) 0#32))
            (BitVec.setWidth 32 (IntOp.cmpi CmpIPredicate.slt (BitVec.ofNat 32 e.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 e.val) 4#32) 0#32))
      (IntOp.subi (IntOp.divsi ArithUnit.vector (BitVec.ofNat 32 e.val) 4#32) 1#32)
      (IntOp.divsi ArithUnit.vector (BitVec.ofNat 32 e.val) 4#32) = BitVec.ofNat 32 (e.val / 4) := by decide +kernel

theorem group_lane (t : Fin 2048) (e : Fin 16) : k0_pay4 (ix2 t e) = BitVec.ofNat 32 (e.val / 4) := by
  pointwise [k0_pay4]
  exact floor_word e

theorem ofNat_inj {a b : ℕ} (ha : a < 2 ^ 32) (hb : b < 2 ^ 32) : (BitVec.ofNat 32 a = BitVec.ofNat 32 b) ↔ a = b := by
  constructor
  · intro h; have := congrArg BitVec.toNat h; simp only [BitVec.toNat_ofNat] at this; omega
  · rintro rfl; rfl

theorem eq_word {a b : ℕ} (ha : a < 2 ^ 32) (hb : b < 2 ^ 32) : IntOp.cmpi .eq (BitVec.ofNat 32 a) (BitVec.ofNat 32 b) = BitVec.ofBool (decide (a = b)) := by
  unfold IntOp.cmpi
  by_cases h : a = b
  · simp [h]
  · have := mt (ofNat_inj ha hb).mp h
    simp only [h, decide_false]
    exact congrArg BitVec.ofBool (beq_eq_false_iff_ne.mpr this)

theorem select_bool {α : Type} (p : Prop) [Decidable p] (x y : α) : Scalar.select (BitVec.ofBool (decide p)) x y = if p then x else y := by
  by_cases h : p <;> simp [Scalar.select, h]

theorem ori_bool (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

section Kernel
variable (x : FVec Ideal S2048x1024 .f32) (g : FVec Ideal S16x1024 .f32) (t : Fin 2048)

/-- A token's scores. -/
def score (t : Fin 2048) (e : Fin 16) : EReal := k0_pay3 (F := Ideal) x g (ix2 t e)

theorem r81_at (e : Fin 16) : r81 (F := Ideal) x g (ix2 t e) = gmax (score x g t) (e.val / 4) := by
  unfold r81
  pointwise [k0_pay7, k0_pay6, group_lane]
  have h : ∀ (a : Fin 16) (b : ℕ), b < 4 → IntOp.cmpi .eq (BitVec.ofNat 32 (a.val / 4)) (BitVec.ofNat 32 b) = BitVec.ofBool (decide (a.val / 4 = b)) := fun a b hb =>
    eq_word (by omega) (by omega)
  have h0 := fun a => h a 0 (by omega)
  have h1 := fun a => h a 1 (by omega)
  have h2 := fun a => h a 2 (by omega)
  have h3 := fun a => h a 3 (by omega)
  simp only [h0, h1, h2, h3, select_bool, word_neg_one]
  have he : e.val / 4 = 0 ∨ e.val / 4 = 1 ∨ e.val / 4 = 2 ∨ e.val / 4 = 3 := by omega
  rcases he with h | h | h | h <;> simp [h, gmax, rmax, score]

theorem r85_at (e : Fin 16) : r85 (F := Ideal) x g (ix2 t e)
    = BitVec.ofBool (decide (gmax (score x g t) (e.val / 4) = rmax fun e : Fin 16 => gmax (score x g t) (e.val / 4))) := by
  have h := fun e => r81_at x g t e
  unfold r81 at h
  unfold r85
  pointwise [k0_pay8]
  simp only [h]
  rfl

theorem pay9_at (e : Fin 16) : k0_pay9 (ix2 t e) = 16#32 := rfl

theorem lanes_at (e : Fin 16) : lanes (ix2 t e) = BitVec.ofNat 32 e.val := by pointwise [lanes]

theorem r113_at : r113 (F := Ideal) x g (ix2 t 0) = BitVec.ofNat 32 (q1 (score x g t)) := by
  unfold r113
  pointwise [k0_pay10, lanes, r85_at, pay9_at]
  rw [First.word (first_spec fun e : Fin 16 => gmax (score x g t) (e.val / 4))]
  exact floor_word _

theorem r125_at : r125 (F := Ideal) x g (ix2 t 0)
    = BitVec.ofNat 32 (first fun e : Fin 16 => if e.val / 4 = q1 (score x g t) then -1 else gmax (score x g t) (e.val / 4)).val := by
  have h := r113_at x g t
  unfold r113 at h
  unfold r125
  pointwise [k0_pay11, lanes, r81_at, group_lane, pay9_at]
  have hq : ∀ e : Fin 16, IntOp.cmpi .eq (BitVec.ofNat 32 (e.val / 4)) (BitVec.ofNat 32 (q1 (score x g t))) = BitVec.ofBool (decide (e.val / 4 = q1 (score x g t))) := fun e =>
    eq_word (by omega) (by unfold q1; omega)
  unfold lanes at h
  simp only [h, hq, select_bool, word_neg_one]
  exact First.word (first_spec fun e : Fin 16 => if e.val / 4 = q1 (score x g t) then -1 else gmax (score x g t) (e.val / 4))

theorem kept_at (e : Fin 16) : k0_pay15 (k0_pay3 (F := Ideal) x g) k0_pay4 (r113 (F := Ideal) x g) (r125 (F := Ideal) x g) 4#32 (r127 (F := Ideal) x g) (r130 (F := Ideal) x g) k0_pay14 (ix2 t e) = kept (score x g t) e := by
  have h := r125_at x g t
  have h' := h
  unfold r125 at h'
  unfold r127 r130
  pointwise [k0_pay15, k0_pay14, k0_pay12, k0_pay13, group_lane, r113_at, h, h']
  rw [floor_word, eq_word (by omega) (by unfold q1; omega), eq_word (by omega) (by omega), ori_bool, select_bool]
  rfl

theorem r158_at : r158 (F := Ideal) x g (ix2 t 0) = kept (score x g t) (i1 (score x g t)) := by
  unfold r158
  pointwise [k0_pay16, kept_at]
  exact (first_spec (kept (score x g t))).max

theorem r164_at : r164 (F := Ideal) x g (ix2 t 0) = BitVec.ofNat 32 (i1 (score x g t)).val := by
  have h := r158_at x g t
  unfold r158 at h
  unfold r164
  pointwise [k0_pay17, lanes, kept_at, h]
  exact (first_spec (kept (score x g t))).word' rfl

theorem kept'_at (e : Fin 16) : k0_pay18 (k0_pay3 (F := Ideal) x g) lanes k0_pay4 (r113 (F := Ideal) x g) (r125 (F := Ideal) x g) 4#32 (r127 (F := Ideal) x g) (r130 (F := Ideal) x g) k0_pay14 (ix2 t e)
    = kept' (score x g t) e := by
  have h := r164_at x g t
  unfold r164 lanes at h
  pointwise [k0_pay18, lanes, kept_at, h]
  rw [eq_word (by omega) (by omega), select_bool, word_neg_one]
  unfold kept'
  simp only [Fin.ext_iff]

theorem r170_at : r170 (F := Ideal) x g (ix2 t 0) = kept (score x g t) (i2 (score x g t)) := by
  unfold r170
  pointwise [k0_pay19, kept'_at]
  exact (first_spec (kept' (score x g t))).max.trans (kept'_i2 _)

theorem r176_at : r176 (F := Ideal) x g (ix2 t 0) = BitVec.ofNat 32 (i2 (score x g t)).val := by
  have h := r170_at x g t
  unfold r170 at h
  unfold r176
  pointwise [k0_pay20, lanes_at, kept'_at, h]
  exact (first_spec (kept' (score x g t))).word' (kept'_i2 _).symm

/-- The two weights: each score kept over the two's sum and a small number. -/
def weight (s : Fin 16 → EReal) (i : Fin 16) : EReal :=
  Ideal.div (kept s i) (kept s (i1 s) + kept s (i2 s) + Ideal.ofBits .f32 0x1E3CE508#32)

theorem routeW_at0 : routeW (F := Ideal) x g (ix2 t 0) = weight (score x g t) (i1 (score x g t)) := by
  have h := r158_at x g t
  have h' := r170_at x g t
  have h1 := h; have h2 := h'
  unfold r158 at h1; unfold r170 at h2
  unfold routeW r177
  pointwise [k0_pay23, k0_pay22, k0_pay21, h, h', h1, h2]
  rfl

theorem routeW_at1 : routeW (F := Ideal) x g (ix2 t 1) = weight (score x g t) (i2 (score x g t)) := by
  have h := r158_at x g t
  have h' := r170_at x g t
  have h1 := h; have h2 := h'
  unfold r158 at h1; unfold r170 at h2
  unfold routeW r177
  pointwise [k0_pay23, k0_pay22, k0_pay21, h, h', h1, h2]
  rfl

end Kernel

end Cert.Proof.Moe
-- ==== Proof.Places.lean ====
/- The places of the tokens among the experts' rows, over the natural numbers. Every expert has the tokens that have it,
   in their order, at rows from its start on; the starts are the sums of the counts before, each rounded up to a whole
   number of tiles of 128 rows. No two places are the same, all are among the 6144 rows, and a tile's expert is the
   number of experts that end at or before the tile's first row. -/
module

public import Mathlib.Algebra.BigOperators.Intervals
public import Mathlib.Algebra.Order.BigOperators.Group.Finset
public import Mathlib.Tactic.Linarith
public import Mathlib.Algebra.BigOperators.Ring.Finset
public import Mathlib.Algebra.Group.Action.Defs

@[expose] public section

namespace Cert.Proof.Places

open Finset

variable (i₁ i₂ : ℕ → ℕ)

/-- One where token `t` has expert `e`, else zero. -/
def hit (t e : ℕ) : ℕ := if e = i₁ t ∨ e = i₂ t then 1 else 0
/-- How many tokens before `t` have expert `e`. -/
def pre (t e : ℕ) : ℕ := ∑ k ∈ range t, hit i₁ i₂ k e
/-- The rows of expert `e`: its count rounded up to tiles. -/
def pad (e : ℕ) : ℕ := (pre i₁ i₂ 2048 e + 127) / 128 * 128
/-- The first row of expert `e`. -/
def off (e : ℕ) : ℕ := ∑ k ∈ range e, pad i₁ i₂ k
/-- The row of token `t` under expert `e`. -/
def place (t e : ℕ) : ℕ := off i₁ i₂ e + pre i₁ i₂ t e

theorem hit_le (t e : ℕ) : hit i₁ i₂ t e ≤ 1 := by unfold hit; split <;> omega

theorem pre_succ (t e : ℕ) : pre i₁ i₂ (t + 1) e = pre i₁ i₂ t e + hit i₁ i₂ t e := sum_range_succ _ _

theorem pre_mono {t t' : ℕ} (h : t ≤ t') (e : ℕ) : pre i₁ i₂ t e ≤ pre i₁ i₂ t' e :=
  sum_le_sum_of_subset (range_subset_range.mpr h)

theorem pre_lt {t t' e : ℕ} (h : t < t') (ht : hit i₁ i₂ t e = 1) : pre i₁ i₂ t e < pre i₁ i₂ t' e := by
  have := pre_succ i₁ i₂ t e
  have := pre_mono i₁ i₂ (Nat.succ_le_of_lt h) e
  simp only [Nat.succ_eq_add_one] at this
  omega

theorem off_succ (e : ℕ) : off i₁ i₂ (e + 1) = off i₁ i₂ e + pad i₁ i₂ e := sum_range_succ _ _

theorem off_mono {e e' : ℕ} (h : e ≤ e') : off i₁ i₂ e ≤ off i₁ i₂ e' := sum_le_sum_of_subset (range_subset_range.mpr h)

theorem off_dvd (e : ℕ) : 128 ∣ off i₁ i₂ e := Finset.dvd_sum fun _ _ => Dvd.intro_left _ rfl

theorem pre_le_pad (e : ℕ) : pre i₁ i₂ 2048 e ≤ pad i₁ i₂ e := by unfold pad; omega

theorem off_le_place (t e : ℕ) : off i₁ i₂ e ≤ place i₁ i₂ t e := Nat.le_add_right _ _

theorem place_lt {t e : ℕ} (ht : t < 2048) (h : hit i₁ i₂ t e = 1) : place i₁ i₂ t e < off i₁ i₂ (e + 1) := by
  have h1 := pre_lt i₁ i₂ ht h
  have h2 := pre_le_pad i₁ i₂ e
  rw [off_succ]; unfold place; omega

/-- No two tokens, and no two experts of a token, have one row. -/
theorem place_inj {t t' e e' : ℕ} (ht : t < 2048) (ht' : t' < 2048) (h : hit i₁ i₂ t e = 1) (h' : hit i₁ i₂ t' e' = 1)
    (heq : place i₁ i₂ t e = place i₁ i₂ t' e') : t = t' ∧ e = e' := by
  have he : e = e' := by
    rcases Nat.lt_trichotomy e e' with hlt | rfl | hlt
    · have := place_lt i₁ i₂ ht h; have := off_mono i₁ i₂ (Nat.succ_le_of_lt hlt); have := off_le_place i₁ i₂ t' e'; simp only [Nat.succ_eq_add_one] at *; omega
    · rfl
    · have := place_lt i₁ i₂ ht' h'; have := off_mono i₁ i₂ (Nat.succ_le_of_lt hlt); have := off_le_place i₁ i₂ t e; simp only [Nat.succ_eq_add_one] at *; omega
  subst he
  refine ⟨?_, rfl⟩
  unfold place at heq
  rcases Nat.lt_trichotomy t t' with hlt | rfl | hlt
  · have := pre_lt i₁ i₂ hlt h; omega
  · rfl
  · have := pre_lt i₁ i₂ hlt h'; omega

theorem hits (t : ℕ) : ∑ e ∈ range 16, hit i₁ i₂ t e ≤ 2 := by
  calc ∑ e ∈ range 16, hit i₁ i₂ t e ≤ ∑ e ∈ range 16, ((if e = i₁ t then 1 else 0) + (if e = i₂ t then 1 else 0)) := by
        refine sum_le_sum fun e _ => ?_
        unfold hit; split_ifs <;> simp_all
    _ ≤ 2 := by
        rw [sum_add_distrib, sum_ite_eq', sum_ite_eq']
        split_ifs <;> omega

theorem counts : ∑ e ∈ range 16, pre i₁ i₂ 2048 e ≤ 4096 := by
  unfold pre
  rw [sum_comm]
  calc ∑ t ∈ range 2048, ∑ e ∈ range 16, hit i₁ i₂ t e ≤ ∑ _t ∈ range 2048, 2 := sum_le_sum fun t _ => hits i₁ i₂ t
    _ = 4096 := by rw [sum_const, card_range]; rfl

theorem off_total : off i₁ i₂ 16 ≤ 6144 := by
  have h : off i₁ i₂ 16 ≤ ∑ e ∈ range 16, (pre i₁ i₂ 2048 e + 127) := sum_le_sum fun e _ => by unfold pad; omega
  rw [sum_add_distrib, sum_const, card_range] at h
  have := counts i₁ i₂
  simp only [smul_eq_mul] at h
  omega

theorem place_lt_rows {t e : ℕ} (ht : t < 2048) (he : e < 16) (h : hit i₁ i₂ t e = 1) : place i₁ i₂ t e < 6144 :=
  lt_of_lt_of_le (place_lt i₁ i₂ ht h) ((off_mono i₁ i₂ (by omega)).trans (off_total i₁ i₂))

/-- The number of experts that end at or before a row. -/
def ended (r : ℕ) : ℕ := ∑ e ∈ range 16, if off i₁ i₂ (e + 1) ≤ r then 1 else 0

theorem ended_le (r : ℕ) : ended i₁ i₂ r ≤ 16 := by
  calc ended i₁ i₂ r ≤ ∑ _e ∈ range 16, 1 := sum_le_sum fun e _ => by split <;> omega
    _ = 16 := by rw [sum_const, card_range]; rfl

/-- The experts ended before the tile of a row of expert `e` are those before `e`. -/
theorem ended_place {t e : ℕ} (ht : t < 2048) (he : e < 16) (h : hit i₁ i₂ t e = 1) : ended i₁ i₂ (place i₁ i₂ t e / 128 * 128) = e := by
  have hlo : off i₁ i₂ e ≤ place i₁ i₂ t e / 128 * 128 := by
    obtain ⟨k, hk⟩ := off_dvd i₁ i₂ e
    have := off_le_place i₁ i₂ t e
    omega
  have hhi := place_lt i₁ i₂ ht h
  unfold ended
  rw [show (∑ k ∈ range 16, if off i₁ i₂ (k + 1) ≤ place i₁ i₂ t e / 128 * 128 then 1 else 0) = ∑ k ∈ range 16, if k < e then 1 else 0 from
    sum_congr rfl fun k _ => by
      by_cases hk : k < e
      · rw [if_pos hk, if_pos ((off_mono i₁ i₂ (Nat.succ_le_of_lt hk)).trans hlo)]
      · rw [if_neg hk, if_neg]
        have := off_mono i₁ i₂ (show e + 1 ≤ k + 1 by omega)
        omega]
  rw [← sum_filter, sum_const, smul_eq_mul, mul_one]
  rw [show (range 16).filter (fun k => k < e) = range e from by ext k; simp only [mem_filter, mem_range]; omega, card_range]

end Cert.Proof.Places
-- ==== Proof.Seat.lean ====
/- The router's places and table over the extended reals: every number it computes is a natural number, that of the
   places' count. -/
module

public import proofs.«01_k».proof.Proof.Pick
public import proofs.«01_k».proof.Proof.Places
public import Idealize.ShloMosaic.Lib.Routing.BitFacts

@[expose] public section

noncomputable section

namespace Cert.Proof.Moe

open Cert.KernelIdeal Cert.KernelIdeal.Gen Cert.Proof.Places

open Idealize.ShloMosaic
open Idealize.ShloMosaic.Pointwise

section Seat
variable (i1 i2 : IVec S2048x1 32) (a b : ℕ → ℕ)

/-- The words are the experts' numbers. -/
structure Named : Prop where
  fst : ∀ t : Fin 2048, i1 (ix2 t 0) = BitVec.ofNat 32 (a t.val)
  snd : ∀ t : Fin 2048, i2 (ix2 t 0) = BitVec.ofNat 32 (b t.val)
  lt₁ : ∀ t, a t < 16
  lt₂ : ∀ t, b t < 16

omit i1 i2 in
theorem block (s : ℕ) (r : Fin 256) (e : ℕ) :
    ∑ x : Fin 256, ((if x.val < r.val then 1 else 0 : ℕ) : EReal) * ((hit a b (s + x.val) e : ℕ) : EReal) + ((pre a b s e : ℕ) : EReal) = ((pre a b (s + r.val) e : ℕ) : EReal) := by
  simp only [← EReal.natCast_mul, ← Nat.cast_sum, ← Nat.cast_add]
  refine congrArg (fun n : ℕ => (n : EReal)) ?_
  have h1 : ∑ x : Fin 256, (if x.val < r.val then 1 else 0) * hit a b (s + x.val) e = ∑ x ∈ Finset.range 256, if x < r.val then hit a b (s + x) e else 0 := by
    rw [Finset.sum_range]; exact Finset.sum_congr rfl fun x _ => by split <;> simp
  have h2 : ∑ x ∈ Finset.range 256, (if x < r.val then hit a b (s + x) e else 0) = ∑ x ∈ Finset.range r.val, hit a b (s + x) e := by
    rw [← Finset.sum_filter]
    refine Finset.sum_congr ?_ fun _ _ => rfl
    ext x; simp only [Finset.mem_filter, Finset.mem_range]; omega
  rw [h1, h2, add_comm]
  exact (Finset.sum_range_add _ s r.val).symm

omit i1 i2 in
theorem blockSum (s : ℕ) (e : ℕ) :
    ((pre a b s e : ℕ) : EReal) + ∑ x : Fin 256, ((hit a b (s + x.val) e : ℕ) : EReal) = ((pre a b (s + 256) e : ℕ) : EReal) := by
  simp only [← Nat.cast_sum, ← Nat.cast_add]
  unfold pre
  rw [Finset.sum_range_add, Finset.sum_range (fun x => hit a b (s + x) e)]

theorem bool_cast (p : Prop) [Decidable p] : (((BitVec.setWidth 32 (BitVec.ofBool (decide p))).toInt : ℝ) : EReal) = ((if p then 1 else 0 : ℕ) : EReal) := by
  by_cases h : p <;> simp [h]

theorem lt_word {m n : ℕ} (hm : m < 2 ^ 31) (hn : n < 2 ^ 31) : IntOp.cmpi .slt (BitVec.ofNat 32 m) (BitVec.ofNat 32 n) = BitVec.ofBool (decide (m < n)) := by
  have h1 : (BitVec.ofNat 32 m).toInt = m := WordCmp.toInt_ofNat_of_lt hm
  have h2 : (BitVec.ofNat 32 n).toInt = n := WordCmp.toInt_ofNat_of_lt hn
  unfold IntOp.cmpi
  simp only [BitVec.slt, h1, h2, Nat.cast_lt]

theorem eight {v : ℕ → EReal} {x0 x1 x2 x3 x4 x5 x6 x7 : FVec Ideal S256x16 .f32} (e : Fin 16)
    (h0 : ∀ r : Fin 256, x0 (ix2 r e) = v r.val) (h1 : ∀ r : Fin 256, x1 (ix2 r e) = v (256 + r.val)) (h2 : ∀ r : Fin 256, x2 (ix2 r e) = v (512 + r.val))
    (h3 : ∀ r : Fin 256, x3 (ix2 r e) = v (768 + r.val)) (h4 : ∀ r : Fin 256, x4 (ix2 r e) = v (1024 + r.val)) (h5 : ∀ r : Fin 256, x5 (ix2 r e) = v (1280 + r.val))
    (h6 : ∀ r : Fin 256, x6 (ix2 r e) = v (1536 + r.val)) (h7 : ∀ r : Fin 256, x7 (ix2 r e) = v (1792 + r.val)) (t : Fin 2048) :
    concatenate S2048x16 0 [⟨S256x16, x0⟩, ⟨S256x16, x1⟩, ⟨S256x16, x2⟩, ⟨S256x16, x3⟩, ⟨S256x16, x4⟩, ⟨S256x16, x5⟩, ⟨S256x16, x6⟩, ⟨S256x16, x7⟩]
      concatenates_S256x16_S256x16_S256x16_S256x16_S256x16_S256x16_S256x16_S256x16_S2048x16_d0 (ix2 t e) = v t.val := by
  pointwise []
  simp only [h0, h1, h2, h3, h4, h5, h6, h7]
  split_ifs <;> exact congrArg v (by omega)

theorem word_127 : Ideal.ofBits .f32 0x42FE0000#32 = ((127 : ℝ) : EReal) := by
  simp [Ideal.ofBits, Ideal.ieee, -EReal.coe_mul]; norm_num
theorem word_128th : Ideal.ofBits .f32 0x3C000000#32 = ((1 / 128 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_15 : Ideal.ofBits .f32 0x41700000#32 = ((15 : ℝ) : EReal) := by
  simp [Ideal.ofBits, Ideal.ieee, -EReal.coe_mul]; norm_num

/-- A count rounded up to whole tiles. -/
theorem round_up (n : ℕ) : Ideal.liftRound Int.floor (((n : ℕ) : EReal) + Ideal.ofBits .f32 0x42FE0000#32 |>.mul (Ideal.ofBits .f32 0x3C000000#32)) * Ideal.ofBits .f32 0x43000000#32
    = (((n + 127) / 128 * 128 : ℕ) : EReal) := by
  rw [word_127, word_128th, word_128]
  have h : (((n : ℕ) : EReal) + ((127 : ℝ) : EReal) |>.mul ((1 / 128 : ℝ) : EReal)) = (((n + 127 : ℕ) / (128 : ℕ) : ℝ) : EReal) := by
    show (((n : ℝ) : EReal) + ((127 : ℝ) : EReal)) * ((1 / 128 : ℝ) : EReal) = _
    rw [← EReal.coe_add, ← EReal.coe_mul]
    congr 1
    push_cast; ring
  rw [h, Ideal.liftRound_coe]
  have hf : Int.floor (((n + 127 : ℕ) : ℝ) / ((128 : ℕ) : ℝ)) = (((n + 127) / 128 : ℕ) : ℤ) := by
    have h := Nat.div_add_mod (n + 127) 128
    have h' := Nat.mod_lt (n + 127) (show 0 < 128 by omega)
    generalize (n + 127) / 128 = q at *
    generalize (n + 127) % 128 = r at *
    rw [Int.floor_eq_iff, ← h]
    have hr : (r : ℝ) < 128 := by exact_mod_cast h'
    have hr0 : (0 : ℝ) ≤ r := Nat.cast_nonneg r
    push_cast
    constructor
    · rw [le_div_iff₀ (by norm_num)]; linarith
    · rw [div_lt_iff₀ (by norm_num)]; linarith
  rw [hf, ← EReal.coe_mul]
  show _ = ((((n + 127) / 128 * 128 : ℕ) : ℝ) : EReal)
  congr 1
  generalize (n + 127) / 128 = q
  push_cast; ring

variable {i1 i2 a b}

theorem pay25_at (r k : Fin 256) : k0_pay25 (F := Ideal) (ix2 r k) = ((if k.val < r.val then 1 else 0 : ℕ) : EReal) := by
  pointwise [k0_pay25]
  rw [lt_word (by omega) (by omega)]
  exact bool_cast _

theorem pay26_at (e : Fin 16) : k0_pay26 (F := Ideal) (ix2 0 e) = ((pre a b 0 e : ℕ) : EReal) := by
  pointwise [k0_pay26]
  simp [pre]

variable (N : Named i1 i2 a b)
include N

theorem pay24_at (t : Fin 2048) (e : Fin 16) : k0_pay24 (F := Ideal) lanes i1 i2 (ix2 t e) = ((hit a b t.val e.val : ℕ) : EReal) := by
  have := N.lt₁ t.val
  have := N.lt₂ t.val
  pointwise [k0_pay24, lanes_at, N.fst, N.snd]
  rw [eq_word (by omega) (by omega), eq_word (by omega) (by omega), ori_bool]
  exact bool_cast _

theorem pay28_at (r : Fin 256) (e : Fin 16) : k0_pay28 (F := Ideal) lanes i1 i2 (ix2 r e) = ((pre a b r.val e : ℕ) : EReal) := by
  pointwise [k0_pay28, k0_pay27, pay24_at N, pay25_at, pay26_at (a := a) (b := b)]
  have h := block a b 0 r e
  simp only [Nat.zero_add] at h
  exact h

theorem pay29_at (e : Fin 16) : k0_pay29 (F := Ideal) lanes i1 i2 (ix2 0 e) = ((pre a b 256 e : ℕ) : EReal) := by
  pointwise [k0_pay29, k0_pay27, pay24_at N, pay26_at (a := a) (b := b)]
  have h := blockSum a b 0 e
  simp only [Nat.zero_add] at h ⊢
  exact h

theorem pay31_at (r : Fin 256) (e : Fin 16) : k0_pay31 (F := Ideal) lanes i1 i2 (ix2 r e) = ((pre a b (256 + r.val) e : ℕ) : EReal) := by
  pointwise [k0_pay31, k0_pay30, pay24_at N, pay25_at, pay29_at N]
  exact block a b 256 r e

theorem pay32_at (e : Fin 16) : k0_pay32 (F := Ideal) lanes i1 i2 (ix2 0 e) = ((pre a b 512 e : ℕ) : EReal) := by
  pointwise [k0_pay32, k0_pay30, pay24_at N, pay29_at N]
  exact blockSum a b 256 e

theorem pay34_at (r : Fin 256) (e : Fin 16) : k0_pay34 (F := Ideal) lanes i1 i2 (ix2 r e) = ((pre a b (512 + r.val) e : ℕ) : EReal) := by
  pointwise [k0_pay34, k0_pay33, pay24_at N, pay25_at, pay32_at N]
  exact block a b 512 r e

theorem pay35_at (e : Fin 16) : k0_pay35 (F := Ideal) lanes i1 i2 (ix2 0 e) = ((pre a b 768 e : ℕ) : EReal) := by
  pointwise [k0_pay35, k0_pay33, pay24_at N, pay32_at N]
  exact blockSum a b 512 e

theorem pay37_at (r : Fin 256) (e : Fin 16) : k0_pay37 (F := Ideal) lanes i1 i2 (ix2 r e) = ((pre a b (768 + r.val) e : ℕ) : EReal) := by
  pointwise [k0_pay37, k0_pay36, pay24_at N, pay25_at, pay35_at N]
  exact block a b 768 r e

theorem pay38_at (e : Fin 16) : k0_pay38 (F := Ideal) lanes i1 i2 (ix2 0 e) = ((pre a b 1024 e : ℕ) : EReal) := by
  pointwise [k0_pay38, k0_pay36, pay24_at N, pay35_at N]
  exact blockSum a b 768 e

/-- The running counts of the later blocks. -/
abbrev P24 (i1 i2 : IVec S2048x1 32) := k0_pay24 (F := Ideal) lanes i1 i2
abbrev P38 (i1 i2 : IVec S2048x1 32) := k0_pay38 (F := Ideal) lanes i1 i2
abbrev P39 (i1 i2 : IVec S2048x1 32) := k0_pay39 (F := Ideal) lanes i1 i2

theorem pay39_at (r : Fin 256) (e : Fin 16) : P39 i1 i2 (ix2 r e) = ((hit a b (1024 + r.val) e : ℕ) : EReal) := by
  pointwise [P39, k0_pay39, pay24_at N]

theorem pay40_at (e : Fin 16) : k0_pay40 (P38 i1 i2) (P39 i1 i2) (ix2 0 e) = ((pre a b 1280 e : ℕ) : EReal) := by
  pointwise [k0_pay40, pay39_at N, pay38_at N]
  exact blockSum a b 1024 e

theorem pay42_at (e : Fin 16) : k0_pay42 (P24 i1 i2) (P38 i1 i2) (P39 i1 i2) (ix2 0 e) = ((pre a b 1536 e : ℕ) : EReal) := by
  pointwise [k0_pay42, k0_pay41, pay24_at N, pay40_at N]
  exact blockSum a b 1280 e

theorem pay44_at (e : Fin 16) : k0_pay44 (P24 i1 i2) (P38 i1 i2) (P39 i1 i2) (ix2 0 e) = ((pre a b 1792 e : ℕ) : EReal) := by
  pointwise [k0_pay44, k0_pay43, pay24_at N, pay42_at N]
  exact blockSum a b 1536 e

theorem pay46_at (e : Fin 16) : k0_pay46 (P24 i1 i2) (P38 i1 i2) (P39 i1 i2) (ix2 0 e) = ((pad a b e : ℕ) : EReal) := by
  pointwise [k0_pay46, k0_pay45, pay24_at N, pay44_at N]
  rw [blockSum a b 1792 e]
  exact round_up _

theorem pay47_at (e : Fin 16) : k0_pay47 (P24 i1 i2) (P38 i1 i2) (P39 i1 i2) (ix2 0 e) = ((off a b e : ℕ) : EReal) := by
  pointwise [k0_pay47, pay46_at N]
  have hx : ∀ x : Fin 16, FloatOps.sitofp (F := Ideal) .f32 (BitVec.setWidth 32 (IntOp.cmpi .slt (BitVec.ofNat 32 x.val) (BitVec.ofNat 32 e.val))) = ((if x.val < e.val then 1 else 0 : ℕ) : EReal) := fun x => by
    rw [lt_word (by omega) (by omega)]
    exact bool_cast _
  simp only [hx]
  simp only [← EReal.natCast_mul, ← Nat.cast_sum]
  refine congrArg (fun n : ℕ => (n : EReal)) ?_
  unfold off
  rw [← Finset.sum_range (fun x => Places.pad a b x * if x < e.val then 1 else 0)]
  simp only [mul_ite, mul_one, mul_zero]
  rw [← Finset.sum_filter]
  refine Finset.sum_congr ?_ fun _ _ => rfl
  ext x; simp only [Finset.mem_filter, Finset.mem_range]; omega

theorem placeT_at (e : Fin 16) : placeT (F := Ideal) i1 i2 (ix2 0 e) = ((off a b (e + 1) : ℕ) : EReal) := by
  unfold placeT
  pointwise [k0_pay48, pay46_at N, pay47_at N]
  rw [← Nat.cast_add, off_succ]

theorem placeA_at (t : Fin 2048) (e : Fin 16) : placeA (F := Ideal) i1 i2 (ix2 t e) = ((place a b t.val e.val : ℕ) : EReal) := by
  unfold placeA
  have h39 := pay39_at N
  unfold P39 at h39
  have hp : ∀ f : FVec Ideal S2048x16 .f32, f (ix2 t e) = ((pre a b t.val e.val : ℕ) : EReal) → ((off a b e.val : ℕ) : EReal) + f (ix2 t e) = ((place a b t.val e.val : ℕ) : EReal) := fun f h => by
    rw [h, ← Nat.cast_add]; rfl
  unfold k0_pay49
  refine (congrArg₂ (· + ·) ?_ rfl).trans (hp _ (eight (v := fun n => ((pre a b n e.val : ℕ) : EReal)) e (pay28_at N · e) (pay31_at N · e) (pay34_at N · e) (pay37_at N · e) ?_ ?_ ?_ ?_ t))
  · pointwise [pay47_at N]
  · intro r
    pointwise [h39, pay25_at, pay38_at N]
    exact block a b 1024 r e
  · intro r
    pointwise [k0_pay41, pay24_at N, pay25_at, pay40_at N]
    exact block a b 1280 r e
  · intro r
    pointwise [k0_pay43, pay24_at N, pay25_at, pay42_at N]
    exact block a b 1536 r e
  · intro r
    pointwise [k0_pay45, pay24_at N, pay25_at, pay44_at N]
    exact block a b 1792 r e

end Seat

end Cert.Proof.Moe
-- ==== Proof.Table.lean ====
/- The router's positions and its table of the tiles' experts, as words; and with them that the two SparseCore calls and
   the experts' pipeline are well posed. -/
module

public import proofs.«01_k».proof.Proof.Seat
public import proofs.«01_k».proof.Proof.Run

@[expose] public section

noncomputable section

namespace Cert.Proof.Moe

open Cert.KernelIdeal Cert.KernelIdeal.Gen Cert.Proof.Places

open Idealize.ShloMosaic
open Idealize.ShloMosaic.Pointwise

section Seat
variable {i1 i2 : IVec S2048x1 32} {a b : ℕ → ℕ}
variable (N : Named i1 i2 a b)

theorem fptosi_nat {n : ℕ} (h : n < 2 ^ 31) : FloatOps.fptosi (F := Ideal) (φ := .f32) 32 (((n : ℕ) : EReal)) = BitVec.ofNat 32 n := by
  show Ideal.fptosi 32 (((n : ℕ) : EReal)) = _
  unfold Ideal.fptosi
  show BitVec.ofInt 32 (Ideal.toIntClamped _ _ (((n : ℝ) : EReal))) = _
  rw [Ideal.toIntClamped_coe, if_pos (Nat.cast_nonneg n), Int.floor_natCast]
  rw [show max (-((2 ^ (32 - 1) : ℕ) : ℤ)) (min (((2 ^ (32 - 1) : ℕ) : ℤ) - 1) (n : ℤ)) = n by omega]
  exact BitVec.ofInt_natCast 32 n

/-- One lane picked out of a row. -/
theorem pick_sum (v : Fin 16 → ℕ) (q : ℕ) (hq : q < 16) :
    ∑ x : Fin 16, Scalar.select (IntOp.cmpi .eq (BitVec.ofNat 32 x.val) (BitVec.ofNat 32 q)) (((v x : ℕ)) : EReal) 0 = ((v ⟨q, hq⟩ : ℕ) : EReal) := by
  rw [Finset.sum_eq_single (⟨q, hq⟩ : Fin 16)]
  · rw [eq_word (by omega) (by omega), select_bool, if_pos rfl]
  · intro x _ hx
    rw [eq_word (by omega) (by omega), select_bool, if_neg (fun h => hx (Fin.ext h))]
  · intro h; exact absurd (Finset.mem_univ _) h

theorem hit_fst (t : ℕ) : hit a b t (a t) = 1 := by unfold hit; rw [if_pos (Or.inl rfl)]
theorem hit_snd (t : ℕ) : hit a b t (b t) = 1 := by unfold hit; rw [if_pos (Or.inr rfl)]

include N

theorem placeB_at (t : Fin 2048) (e : Fin 16) : placeB (F := Ideal) i1 i2 (ix2 t e) = Scalar.select (IntOp.cmpi .eq (BitVec.ofNat 32 e.val) (BitVec.ofNat 32 (a t.val))) (((place a b t.val e.val : ℕ)) : EReal) 0 := by
  have hA := placeA_at N t e
  unfold placeA at hA
  unfold placeB
  pointwise [k0_pay50, lanes_at, N.fst, hA]

theorem posOf_at0 (t : Fin 2048) : posOf (F := Ideal) i1 i2 (ix2 t 0) = BitVec.ofNat 32 (place a b t.val (a t.val)) := by
  have hB := placeB_at N t
  unfold posOf
  pointwise [k0_pay1, hB]
  rw [pick_sum (fun x => place a b t.val x.val) (a t.val) (N.lt₁ _)]
  exact fptosi_nat ((place_lt_rows a b t.isLt (N.lt₁ _) (hit_fst _)).trans (by norm_num))

theorem posOf_at1 (t : Fin 2048) : posOf (F := Ideal) i1 i2 (ix2 t 1) = BitVec.ofNat 32 (place a b t.val (b t.val)) := by
  have hA := placeA_at N
  unfold posOf
  pointwise [k0_pay1, lanes_at, N.snd, hA]
  rw [pick_sum (fun x => place a b t.val x.val) (b t.val) (N.lt₂ _)]
  exact fptosi_nat ((place_lt_rows a b t.isLt (N.lt₂ _) (hit_snd _)).trans (by norm_num))

theorem tabOf_at (j : Fin 48) : tabOf (F := Ideal) i1 i2 (ix2 j 0) = BitVec.ofNat 32 (min (ended a b (128 * j.val)) 15) := by
  have hT := placeT_at N
  unfold tabOf
  pointwise [k0_pay2, hT]
  have hj : IntOp.muli (BitVec.ofNat 32 j.val) 128#32 = BitVec.ofNat 32 (128 * j.val) := by
    revert j; decide
  have hr : FloatOps.sitofp (F := Ideal) .f32 (BitVec.ofNat 32 (128 * j.val)) = (((128 * j.val : ℕ)) : EReal) := by
    show ((((BitVec.ofNat 32 (128 * j.val)).toInt : ℝ)) : EReal) = _
    rw [WordCmp.toInt_ofNat_of_lt (by omega)]
    rfl
  have hx : ∀ x : Fin 16, FloatOps.sitofp (F := Ideal) .f32 (BitVec.setWidth 32 (BitVec.ofBool (decide (((off a b (x.val + 1) : ℕ) : EReal) ≤ FloatOps.sitofp (F := Ideal) .f32 (IntOp.muli (BitVec.ofNat 32 j.val) 128#32)))))
      = ((if off a b (x.val + 1) ≤ 128 * j.val then 1 else 0 : ℕ) : EReal) := fun x => by
    rw [hj, hr]
    have hle : ((off a b (x.val + 1) : ℕ) : EReal) ≤ ((128 * j.val : ℕ) : EReal) ↔ off a b (x.val + 1) ≤ 128 * j.val := Nat.cast_le
    rw [show decide (((off a b (x.val + 1) : ℕ) : EReal) ≤ ((128 * j.val : ℕ) : EReal)) = decide (off a b (x.val + 1) ≤ 128 * j.val) from decide_eq_decide.mpr hle]
    exact bool_cast _
  simp only [hx]
  rw [← Nat.cast_sum, word_15]
  have h15 : ((15 : ℝ) : EReal) = ((15 : ℕ) : EReal) := rfl
  rw [h15, ← Finset.sum_range (fun x => if off a b (x + 1) ≤ 128 * j.val then 1 else 0)]
  show FloatOps.fptosi (F := Ideal) (φ := .f32) 32 (min ((ended a b (128 * j.val) : ℕ) : EReal) ((15 : ℕ) : EReal)) = _
  rw [show min ((ended a b (128 * j.val) : ℕ) : EReal) ((15 : ℕ) : EReal) = ((min (ended a b (128 * j.val)) 15 : ℕ) : EReal) from (Nat.mono_cast (α := EReal)).map_min.symm]
  exact fptosi_nat (by omega)

end Seat

end Cert.Proof.Moe
-- ==== Proof.Lists.lean ====
/- The lists the SparseCore calls read, and the table the experts' pipeline reads: rows in range, no two the same, and
   experts in range. -/
module

public import proofs.«01_k».proof.Proof.Table

@[expose] public section

noncomputable section

namespace Cert.Proof.Moe

open Cert.KernelIdeal Cert.KernelIdeal.Gen Cert.Proof.Places

open Idealize.ShloMosaic
open Idealize.ShloMosaic.Pointwise
open Idealize.ShloMosaic.Tactic
open Idealize.SL Idealize.SL.Sem

section Lists
variable {F : FTy → Type} [FloatOps F] (m : (ℓ : Loc nD τ sig) → Buf (Elt F) ℓ)

theorem expand_at (p : Vec F S4096 .i32) (j : Fin 32768) : expand (F := F) p (ix1 j) = IntOp.addi (IntOp.muli (p (ix1 ⟨j.val / 8, by omega⟩)) 8#32) (BitVec.ofNat 32 (j.val % 8)) := by
  pointwise [expand]

theorem posFlat_at (d : Dev nD) (k : Fin 4096) :
    posFlat m d (ix1 k) = rP m d (ix2 ⟨k.val % 2048, by omega⟩ ⟨k.val / 2048, by omega⟩) := by
  pointwise [posFlat]

theorem V6_v23 (d : Dev nD) : V6 m d (dr main_v23) = (shapeCast S48 (rT m d) shapeCasts_S48x1_S48 : Vec F S48 .i32) := by
  have h : V5 m d (dr main_v0_2) = rT m d := by
    unfold V5
    rw [Function.update_of_ne (by decide)]
    unfold V4
    after_results
    unfold V3
    rw [Function.update_of_ne (by decide)]
    unfold V2
    after_results
    unfold V1
    rw [Function.update_self]
  rw [← h]
  unfold V6
  after_results
  rfl

theorem tab_at (j : Fin 48) : (V6 m 0 (dr main_v23) : Vec F S48 .i32) (ix1 j) = rT m 0 (ix2 j 0) := by
  rw [V6_v23]
  pointwise []

theorem tabM_at (i : grid3.Coords) (h) (h1) : (tabM m).at 0 (Rect.unit (s := S48) ![(Scalar.indexCast (BitVec.ofNat 32 (i 0).val)).toNat] S1.size h) h1 = rT m 0 (ix2 ⟨(i 0).val, (i 0).isLt⟩ 0) := by
  rw [← tab_at]
  show V6 m 0 (dr main_v23) _ = _
  congr 1
  funext b
  obtain rfl : b = (⟨0, Nat.one_pos⟩ : Fin 1) := Subsingleton.elim (α := Fin 1) b _
  refine Fin.ext ?_
  have hi : (i 0).val < 48 := (i 0).isLt
  show (Scalar.indexCast (BitVec.ofNat 32 (i 0).val)).toNat + 0 * 1 = (i 0).val
  have : (Scalar.indexCast (BitVec.ofNat 32 (i 0).val)).toNat = (i 0).val := by
    show (BitVec.ofNat 32 (i 0).val).toNat = _
    rw [BitVec.toNat_ofNat]; omega
  omega

end Lists

section Ideal
variable (m : (ℓ : Loc nD τ sig) → Buf (Elt Ideal) ℓ) (d : Dev nD)

/-- The scores of token `t`. -/
abbrev scoreM (t : Fin 2048) : Fin 16 → EReal := score (m (d, dr main_arg0)) (m (d, dr main_arg1)) t
/-- The two experts of token `t`. -/
def eA (t : ℕ) : ℕ := if h : t < 2048 then (i1 (scoreM m d ⟨t, h⟩)).val else 0
def eB (t : ℕ) : ℕ := if h : t < 2048 then (i2 (scoreM m d ⟨t, h⟩)).val else 0

theorem eA_at (t : Fin 2048) : eA m d t.val = (i1 (scoreM m d t)).val := dif_pos t.isLt
theorem eB_at (t : Fin 2048) : eB m d t.val = (i2 (scoreM m d t)).val := dif_pos t.isLt

theorem named_route : Named (r164 (F := Ideal) (m (d, dr main_arg0)) (m (d, dr main_arg1))) (r176 (F := Ideal) (m (d, dr main_arg0)) (m (d, dr main_arg1))) (eA m d) (eB m d) where
  fst t := by rw [r164_at, eA_at]
  snd t := by rw [r176_at, eB_at]
  lt₁ t := by unfold eA; split <;> omega
  lt₂ t := by unfold eB; split <;> omega

theorem eA_ne_eB (t : Fin 2048) : eA m d t.val ≠ eB m d t.val := by
  rw [eA_at, eB_at]; exact fun h => i1_ne_i2 _ (Fin.ext h)

/-- The expert of the `k`-th row sent, and its place. -/
def expertOf (k : ℕ) : ℕ := if k < 2048 then eA m d k else eB m d (k - 2048)
def seat (k : ℕ) : ℕ := place (eA m d) (eB m d) (k % 2048) (expertOf m d k)

theorem hit_expert {k : ℕ} (hk : k < 4096) : hit (eA m d) (eB m d) (k % 2048) (expertOf m d k) = 1 := by
  unfold expertOf
  split
  · rw [Nat.mod_eq_of_lt ‹_›]; exact hit_fst _
  · rw [show k % 2048 = k - 2048 by omega]; exact hit_snd _

theorem expert_lt (k : ℕ) : expertOf m d k < 16 := by
  unfold expertOf; split
  · exact (named_route m d).lt₁ _
  · exact (named_route m d).lt₂ _

theorem seat_lt {k : ℕ} (hk : k < 4096) : seat m d k < 6144 :=
  place_lt_rows _ _ (Nat.mod_lt _ (by norm_num)) (expert_lt m d k) (hit_expert m d hk)

theorem seat_inj {k k' : ℕ} (hk : k < 4096) (hk' : k' < 4096) (h : seat m d k = seat m d k') : k = k' := by
  obtain ⟨ht, he⟩ := place_inj _ _ (Nat.mod_lt _ (by norm_num)) (Nat.mod_lt _ (by norm_num)) (hit_expert m d hk) (hit_expert m d hk') h
  by_cases h1 : k < 2048 <;> by_cases h2 : k' < 2048
  · omega
  · have h3 : k' = k + 2048 := by omega
    unfold expertOf at he
    rw [if_pos h1, if_neg h2, h3, Nat.add_sub_cancel] at he
    exact absurd he (eA_ne_eB m d ⟨k, h1⟩)
  · have h3 : k = k' + 2048 := by omega
    unfold expertOf at he
    rw [if_neg h1, if_pos h2, h3, Nat.add_sub_cancel] at he
    exact absurd he.symm (eA_ne_eB m d ⟨k', h2⟩)
  · omega

theorem posFlat_word (k : Fin 4096) : posFlat m d (ix1 k) = BitVec.ofNat 32 (seat m d k.val) := by
  rw [posFlat_at]
  unfold seat expertOf
  by_cases h : k.val < 2048
  · rw [if_pos h]
    have := posOf_at0 (named_route m d) ⟨k.val % 2048, by omega⟩
    rw [show (⟨k.val / 2048, by omega⟩ : Fin 2) = 0 from Fin.ext (by show k.val / 2048 = 0; omega)]
    refine this.trans ?_
    simp only [Nat.mod_eq_of_lt h]
  · rw [if_neg h]
    have := posOf_at1 (named_route m d) ⟨k.val % 2048, by omega⟩
    rw [show (⟨k.val / 2048, by omega⟩ : Fin 2) = 1 from Fin.ext (by show k.val / 2048 = 1; omega)]
    refine this.trans ?_
    simp only [show k.val % 2048 = k.val - 2048 by omega]

theorem list_word (j : Fin 32768) : expand (F := Ideal) (posFlat m d) (ix1 j) = BitVec.ofNat 32 (seat m d (j.val / 8) * 8 + j.val % 8) := by
  rw [expand_at, posFlat_word]
  show BitVec.ofNat 32 _ * BitVec.ofNat 32 8 + BitVec.ofNat 32 _ = _
  rw [← BitVec.ofNat_mul, ← BitVec.ofNat_add]

theorem list_toNat (j : Fin 32768) : (expand (F := Ideal) (posFlat m d) (ix1 j) : BitVec 32).toNat = seat m d (j.val / 8) * 8 + j.val % 8 := by
  rw [list_word, BitVec.toNat_ofNat]
  have := seat_lt m d (k := j.val / 8) (by omega)
  omega

theorem table_word (t : Fin 48) : rT m d (ix2 t 0) = BitVec.ofNat 32 (min (ended (eA m d) (eB m d) (128 * t.val)) 15) := tabOf_at (named_route m d) t

theorem table_toNat (t : Fin 48) : (rT m d (ix2 t 0) : BitVec 32).toNat = min (ended (eA m d) (eB m d) (128 * t.val)) 15 := by
  rw [table_word, BitVec.toNat_ofNat]; omega

theorem listOK : Spread.ListOK (F := Ideal) (expand (posFlat m d)) where
  lt j := by
    obtain ⟨k, rfl⟩ : ∃ k : Fin 32768, ix1 k = j := ⟨j 0, by funext b; have hb : b = 0 := Subsingleton.elim (α := Fin 1) b 0
                                                             subst hb; rfl⟩
    rw [list_toNat]
    have := seat_lt m d (k := k.val / 8) (by omega)
    omega
  inj j j' h := by
    obtain ⟨k, rfl⟩ : ∃ k : Fin 32768, ix1 k = j := ⟨j 0, by funext b; have hb : b = 0 := Subsingleton.elim (α := Fin 1) b 0
                                                             subst hb; rfl⟩
    obtain ⟨k', rfl⟩ : ∃ k : Fin 32768, ix1 k = j' := ⟨j' 0, by funext b; have hb : b = 0 := Subsingleton.elim (α := Fin 1) b 0
                                                                subst hb; rfl⟩
    simp only [list_toNat] at h
    have := seat_inj m d (k := k.val / 8) (k' := k'.val / 8) (by omega) (by omega) (by omega)
    rw [show k = k' from Fin.ext (by omega)]

theorem tabOK : ok3 (tabM m) := by
  refine ⟨fun i => ?_, fun i => ?_, fun i => ?_⟩ <;>
  · refine ⟨fun a => ?_, Or.inl rfl⟩
    have h := table_toNat m 0 ⟨(i 0).val, (i 0).isLt⟩
    rw [← tabM_at m i (k3_off1_inb i) numel1_S1] at h
    match a with
    | 0 =>
      show ((_ : BitVec 32).toNat + 1) * 1 ≤ 16
      refine le_trans (b := (min (ended (eA m 0) (eB m 0) (128 * (i 0).val)) 15 + 1) * 1) (le_of_eq ?_) (by omega)
      rw [← h]
    | 1 => exact Nat.le_of_ble_eq_true rfl
    | 2 => exact Nat.le_of_ble_eq_true rfl

theorem routeOK : RouteOK (F := Ideal) m := ⟨listOK m, tabOK m⟩
end Ideal

end Cert.Proof.Moe
-- ==== Proof.TopTwo.lean ====
/- The two largest of a row as a stable sort leaves them in front: the first largest lane, then the first largest of
   the others. -/
module

public import proofs.«01_k».proof.Proof.Pick
public import Idealize.ShloMosaic.Lib.SortFacts

@[expose] public section

noncomputable section

namespace Cert.Proof.Moe

open Idealize.ShloMosaic
open Idealize.ShloMosaic.Pointwise

/-- Lane `k` holds the largest of the lanes other than `i`, and no lane before it does. -/
def Second {n : ℕ} (f : Fin n → EReal) (i k : Fin n) : Prop := k ≠ i ∧ (∀ j, j ≠ i → f j ≤ f k) ∧ ∀ j, j ≠ i → j < k → f j < f k

theorem Second.unique {n : ℕ} {f : Fin n → EReal} {i k k' : Fin n} (h : Second f i k) (h' : Second f i k') : k = k' := by
  rcases lt_trichotomy k k' with hlt | he | hlt
  · exact absurd (h.2.1 k' h'.1) (not_le.mpr (h'.2.2 k h.1 hlt))
  · exact he
  · exact absurd (h'.2.1 k h.1) (not_le.mpr (h.2.2 k' h'.1 hlt))

section Order
variable {n : ℕ} (f : Fin n → EReal) (R : Fin n → Fin n → Bool)

/-- `a` stands before `b` among the sorted: its value is larger, or equal and its lane earlier. -/
def Ahead (a b : Fin n) : Prop := f b < f a ∨ (f b = f a ∧ a < b)

theorem ahead_insert (hR : ∀ a b, R a b = true ↔ f b < f a) (a : Fin n) (l : List (Fin n)) (ha : ∀ b ∈ l, a < b) (hl : l.Pairwise (Ahead f)) :
    (insertBefore R a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact Or.inl ((hR _ _).mp h)
      · exact hl.1 c hc'
    · rename_i h
      have hle : f b ≤ f a := not_lt.mp fun hlt => h ((hR _ _).mpr hlt)
      have key : ∀ c, f c ≤ f b → a < c → Ahead f a c := fun c hc hac => by
        rcases lt_or_eq_of_le (hc.trans hle) with h | h
        · exact Or.inl h
        · exact Or.inr ⟨h, hac⟩
      refine List.pairwise_cons.mpr ⟨fun c hc => key c ?_ (ha c hc), List.pairwise_cons.mpr hl⟩
      rcases List.mem_cons.mp hc with rfl | hc'
      · exact le_rfl
      · rcases hl.1 c hc' with h | h
        · exact h.le
        · exact h.1.le

theorem ahead_sort (hR : ∀ a b, R a b = true ↔ f b < f a) (l : List (Fin n)) (hl : l.Pairwise (· < ·)) : (stableSort R l).Pairwise (Ahead f) := by
  induction l with
  | nil => exact List.Pairwise.nil
  | cons a l ih =>
    rw [List.pairwise_cons] at hl
    unfold stableSort
    exact ahead_insert f R hR a _ (fun b hb => hl.1 b ((perm_stableSort R l).mem_iff.mp hb)) (ih hl.2)

theorem ahead_from (hR : ∀ a b, R a b = true ↔ f b < f a) (i j : Fin n) (hij : i < j) : Ahead f (sortedFrom R i) (sortedFrom R j) := by
  have hp : ∀ a b : Fin (sortPositions n R).length, a < b → Ahead f ((sortPositions n R).get a) ((sortPositions n R).get b) :=
    List.pairwise_iff_get.mp (ahead_sort f R hR (List.finRange n) (List.pairwise_lt_finRange n))
  unfold sortedFrom
  exact hp _ _ (by simp only [Fin.lt_def, Fin.val_cast]; exact hij)
end Order

theorem sorted_first {n : ℕ} (f : Fin (n + 2) → EReal) (R : Fin (n + 2) → Fin (n + 2) → Bool) (hR : ∀ a b, R a b = true ↔ f b < f a) :
    First f (sortedFrom R 0) := by
  have h : ∀ j, j ≠ sortedFrom R 0 → Ahead f (sortedFrom R 0) j := fun j hj => by
    obtain ⟨k, rfl⟩ := sortedFrom_surjective R j
    exact ahead_from f R hR 0 k (Fin.pos_of_ne_zero fun hk => hj (by rw [hk]))
  refine ⟨fun j => ?_, fun j hj => ?_⟩
  · by_cases hj : j = sortedFrom R 0
    · rw [hj]
    · rcases h j hj with h | h
      · exact h.le
      · exact h.1.le
  · rcases h j hj.ne with h | h
    · exact h
    · exact absurd hj (not_lt.mpr h.2.le)

theorem sorted_second {n : ℕ} (f : Fin (n + 2) → EReal) (R : Fin (n + 2) → Fin (n + 2) → Bool) (hR : ∀ a b, R a b = true ↔ f b < f a) :
    Second f (sortedFrom R 0) (sortedFrom R 1) := by
  have h : ∀ j, j ≠ sortedFrom R 0 → j ≠ sortedFrom R 1 → Ahead f (sortedFrom R 1) j := fun j hj hj' => by
    obtain ⟨k, rfl⟩ := sortedFrom_surjective R j
    refine ahead_from f R hR 1 k ?_
    have h0 : k ≠ 0 := fun hk => hj (by rw [hk])
    have h1 : k ≠ 1 := fun hk => hj' (by rw [hk])
    have h0' : k.val ≠ 0 := fun hk => h0 (Fin.ext hk)
    have h1' : k.val ≠ 1 := fun hk => h1 (Fin.ext hk)
    rw [Fin.lt_def]
    show 1 % (n + 2) < k.val
    rw [Nat.mod_eq_of_lt (by omega)]; omega
  refine ⟨fun he => ?_, fun j hj => ?_, fun j hj hlt => ?_⟩
  · exact absurd (sortedFrom_injective R he) (by simp)
  · by_cases hj' : j = sortedFrom R 1
    · rw [hj']
    · rcases h j hj hj' with h | h
      · exact h.le
      · exact h.1.le
  · rcases h j hj hlt.ne with h | h
    · exact h
    · exact absurd hlt (not_lt.mpr h.2.le)

theorem along_at {n : ℕ} (t : Fin 2048) (p k : Fin (n + 2)) : (ix2 t p : Shape.Idx ⟨2, ![2048, n + 2]⟩).along (⟨1, Nat.one_lt_two⟩ : Fin 2) k = ix2 t k := by
  funext (b : Fin 2)
  match b with
  | 0 => rfl
  | 1 => exact Function.update_self (β := fun a : Fin 2 => Fin ((![2048, n + 2] : Fin 2 → ℕ) a)) (⟨1, Nat.one_lt_two⟩ : Fin 2) k _

theorem sort2_at {n : ℕ} {α β : Type} (cmp : α × β → α × β → BitVec 1) (x : Shape.Idx ⟨2, ![2048, n + 2]⟩ → α) (y : Shape.Idx ⟨2, ![2048, n + 2]⟩ → β)
    (t : Fin 2048) (p : Fin (n + 2)) :
    (Host.sort2 ⟨2, ![2048, n + 2]⟩ 1 cmp x y).1 (ix2 t p)
        = x (ix2 t (sortedFrom (fun k k' => cmp (x (ix2 t k), y (ix2 t k)) (x (ix2 t k'), y (ix2 t k')) == 1#1) p))
      ∧ (Host.sort2 ⟨2, ![2048, n + 2]⟩ 1 cmp x y).2 (ix2 t p)
        = y (ix2 t (sortedFrom (fun k k' => cmp (x (ix2 t k), y (ix2 t k)) (x (ix2 t k'), y (ix2 t k')) == 1#1) p)) := by
  unfold Host.sort2
  rw [dif_pos (Nat.one_lt_two : 1 < 2)]
  have h : sortedFrom (fun k k' => cmp (x ((ix2 t p : Shape.Idx ⟨2, ![2048, n + 2]⟩).along (⟨1, Nat.one_lt_two⟩ : Fin 2) k), y ((ix2 t p : Shape.Idx ⟨2, ![2048, n + 2]⟩).along (⟨1, Nat.one_lt_two⟩ : Fin 2) k))
        (x ((ix2 t p : Shape.Idx ⟨2, ![2048, n + 2]⟩).along (⟨1, Nat.one_lt_two⟩ : Fin 2) k'), y ((ix2 t p : Shape.Idx ⟨2, ![2048, n + 2]⟩).along (⟨1, Nat.one_lt_two⟩ : Fin 2) k')) == 1#1) p
      = sortedFrom (fun k k' => cmp (x (ix2 t k), y (ix2 t k)) (x (ix2 t k'), y (ix2 t k')) == 1#1) p := by
    congr 1; funext k k'; rw [along_at t p k, along_at t p k']
  exact ⟨(congrArg x (along_at t p _)).trans (congrArg (fun q => x (ix2 t q)) h), (congrArg y (along_at t p _)).trans (congrArg (fun q => y (ix2 t q)) h)⟩

/-- The two taken of a row of `n + 2` lanes: their values, and their lanes as words. -/
theorem topK_at {n : ℕ} (x : Vec Ideal ⟨2, ![2048, n + 2]⟩ .f32) (h) (t : Fin 2048) :
    ∃ i k : Fin (n + 2), First (fun e => x (ix2 t e)) i ∧ Second (fun e => x (ix2 t e)) i k
      ∧ (Host.topK ⟨2, ![2048, 2]⟩ 1 (FloatOps.cmpfTotal (F := Ideal) (φ := .f32) .gt) x h).1 (ix2 t 0) = x (ix2 t i)
      ∧ (Host.topK ⟨2, ![2048, 2]⟩ 1 (FloatOps.cmpfTotal (F := Ideal) (φ := .f32) .gt) x h).1 (ix2 t 1) = x (ix2 t k)
      ∧ (Host.topK ⟨2, ![2048, 2]⟩ 1 (FloatOps.cmpfTotal (F := Ideal) (φ := .f32) .gt) x h).2 (ix2 t 0) = BitVec.ofNat 32 i.val
      ∧ (Host.topK ⟨2, ![2048, 2]⟩ 1 (FloatOps.cmpfTotal (F := Ideal) (φ := .f32) .gt) x h).2 (ix2 t 1) = BitVec.ofNat 32 k.val := by
  let R : Fin (n + 2) → Fin (n + 2) → Bool := fun a b => FloatOps.cmpfTotal (F := Ideal) (φ := .f32) .gt (x (ix2 t a)) (x (ix2 t b)) == 1#1
  have hR : ∀ a b, R a b = true ↔ x (ix2 t b) < x (ix2 t a) := fun a b => by
    show (BitVec.ofBool (decide (x (ix2 t b) < x (ix2 t a))) == 1#1) = true ↔ _
    by_cases hlt : x (ix2 t b) < x (ix2 t a) <;> simp [hlt]
  have e0 : ∀ (α : Type) (v : Shape.Idx ⟨2, ![2048, n + 2]⟩ → α), extractStridedSlice ⟨2, ![2048, 2]⟩ (fun _ => 0) v h (ix2 t 0) = v (ix2 t 0) := fun α v => by
    refine congrArg v ?_
    funext (b : Fin 2)
    match b with
    | 0 => exact Fin.ext (Nat.zero_add _)
    | 1 => exact Fin.ext (Nat.zero_add _)
  have e1 : ∀ (α : Type) (v : Shape.Idx ⟨2, ![2048, n + 2]⟩ → α), extractStridedSlice ⟨2, ![2048, 2]⟩ (fun _ => 0) v h (ix2 t 1) = v (ix2 t 1) := fun α v => by
    refine congrArg v ?_
    funext (b : Fin 2)
    match b with
    | 0 => exact Fin.ext (Nat.zero_add _)
    | 1 => exact Fin.ext (by show 0 + 1 = 1 % (n + 2); rw [Nat.mod_eq_of_lt (by omega)])
  let idx : Shape.Idx ⟨2, ![2048, n + 2]⟩ → BitVec 32 := fun i => if hd : 1 < 2 then iotaInDim ⟨2, ![2048, n + 2]⟩ 32 ⟨1, hd⟩ i else 0#32
  have s0 := sort2_at (fun l r => FloatOps.cmpfTotal (F := Ideal) (φ := .f32) .gt l.1 r.1) x idx t 0
  have s1 := sort2_at (fun l r => FloatOps.cmpfTotal (F := Ideal) (φ := .f32) .gt l.1 r.1) x idx t 1
  refine ⟨sortedFrom R 0, sortedFrom R 1, sorted_first _ R hR, sorted_second _ R hR, ?_, ?_, ?_, ?_⟩
  · exact (e0 _ _).trans s0.1
  · exact (e1 _ _).trans s1.1
  · exact (e0 _ _).trans s0.2
  · exact (e1 _ _).trans s1.2

end Cert.Proof.Moe

end
-- ==== Proof.Agree.lean ====
/- The two ways of choosing agree: masking the winner with minus one and taking the first largest again, and a stable sort's
   two in front; and one row of a gated layer. -/
module

public import proofs.«01_k».proof.Proof.TopTwo

@[expose] public section

noncomputable section

namespace Cert.Proof.Moe

open Idealize.ShloMosaic
open Idealize.ShloMosaic.Pointwise

/-! ## The two choices agree -/

theorem le_rmax {n : ℕ} (f : Fin n → EReal) (i : Fin n) : f i ≤ rmax f := Finset.le_fold_max _ |>.mpr (Or.inr ⟨i, Finset.mem_univ _, le_rfl⟩)
theorem rmax_le {n : ℕ} {f : Fin n → EReal} {b : EReal} (h : ∀ i, f i ≤ b) : rmax f ≤ b := by
  unfold rmax
  rw [word_bot]
  exact Finset.fold_max_le _ |>.mpr ⟨bot_le, fun j _ => h j⟩

theorem exp_nonneg (x : EReal) : 0 ≤ Ideal.exp x := by
  induction x with
  | bot => exact le_rfl
  | top => exact le_top
  | coe r => exact EReal.coe_nonneg.mpr (Real.exp_pos r).le

/-- A token's scores are none negative, or all the least value there is: the latter when every exponential is zero. -/
theorem score_cases (x : Vec Ideal Cert.KernelIdeal.S2048x1024 .f32) (g : Vec Ideal Cert.KernelIdeal.S16x1024 .f32) (t : Fin 2048) :
    (∀ e, 0 ≤ score x g t e) ∨ ∀ e, score x g t e = ⊥ := by
  obtain ⟨E, hE⟩ : ∃ E : Fin 16 → EReal, ∀ e, score x g t e = Ideal.div (Ideal.exp (E e)) (∑ e', Ideal.exp (E e')) :=
    ⟨fun e => ∑ h, x (ix2 t h) * g (ix2 e h)
      - Finset.fold max (Ideal.ofBits FTy.f32 4286578688#32) (fun x' => ∑ h, x (ix2 t h) * g (ix2 x' h)) Finset.univ, fun e => by
      unfold score
      pointwise [Cert.KernelIdeal.Gen.k0_pay3]⟩
  have hD : 0 ≤ ∑ e', Ideal.exp (E e') := Finset.sum_nonneg fun e _ => exp_nonneg _
  by_cases h0 : ∑ e', Ideal.exp (E e') = 0
  · right
    intro e
    have he : Ideal.exp (E e) = 0 := (Finset.sum_eq_zero_iff_of_nonneg fun e _ => exp_nonneg _).mp h0 e (Finset.mem_univ _)
    rw [hE, h0, he]
    simp [Ideal.div]
  · left
    intro e
    rw [hE]
    unfold Ideal.div
    rw [if_neg h0]
    exact mul_nonneg (exp_nonneg _) (EReal.inv_nonneg_of_nonneg hD)

/-- The largest score of group `c` of a row. -/
def top4 (s : Fin 16 → EReal) (c : Fin 4) : EReal := rmax fun x : Fin 4 => s ⟨c.val * 4 + x.val, by omega⟩

theorem gmax_eq (s : Fin 16 → EReal) (hs : ∀ e, 0 ≤ s e) (c : Fin 4) : gmax s c.val = top4 s c := by
  refine le_antisymm (rmax_le fun e => ?_) (rmax_le fun x => ?_)
  · have key : ∀ x : Fin 4, s ⟨c.val * 4 + x.val, by omega⟩ ≤ top4 s c := le_rmax fun x : Fin 4 => s ⟨c.val * 4 + x.val, by omega⟩
    split
    · rename_i h
      refine le_trans (le_of_eq (congrArg s (Fin.ext ?_))) (key ⟨e.val % 4, Nat.mod_lt _ (by norm_num)⟩)
      show e.val = c.val * 4 + e.val % 4
      omega
    · exact neg_one_lt_zero.le.trans ((hs _).trans (key 0))
  · refine le_trans (le_of_eq ?_) (le_rmax _ ⟨c.val * 4 + x.val, by omega⟩)
    rw [if_pos (show (c.val * 4 + x.val) / 4 = c.val by omega)]

theorem top4_nonneg (s : Fin 16 → EReal) (hs : ∀ e, 0 ≤ s e) (c : Fin 4) : 0 ≤ top4 s c :=
  (hs _).trans (le_rmax (fun x : Fin 4 => s ⟨c.val * 4 + x.val, by omega⟩) 0)

theorem q1_eq (s : Fin 16 → EReal) (hs : ∀ e, 0 ≤ s e) {p : Fin 4} (hp : First (top4 s) p) : q1 s = p.val := by
  have h : First (fun e : Fin 16 => gmax s (e.val / 4)) ⟨p.val * 4, by omega⟩ := by
    have e0 : ∀ e : Fin 16, gmax s (e.val / 4) = top4 s ⟨e.val / 4, by omega⟩ := fun e => gmax_eq s hs ⟨e.val / 4, by omega⟩
    have e1 : gmax s (p.val * 4 / 4) = top4 s p := by rw [Nat.mul_div_cancel _ (by norm_num)]; exact gmax_eq s hs p
    refine ⟨fun j => ?_, fun j hj => ?_⟩
    · show gmax s (j.val / 4) ≤ gmax s (p.val * 4 / 4)
      rw [e0, e1]; exact hp.1 _
    · show gmax s (j.val / 4) < gmax s (p.val * 4 / 4)
      rw [e0, e1]; exact hp.2 _ (by rw [Fin.lt_def] at hj ⊢; simp only at hj ⊢; omega)
  unfold q1
  rw [(first_spec _).unique h]
  simp

theorem q2_eq (s : Fin 16 → EReal) (hs : ∀ e, 0 ≤ s e) {p q : Fin 4} (hp : First (top4 s) p) (hq : Second (top4 s) p q) : q2 s = q.val := by
  have h : First (fun e : Fin 16 => if e.val / 4 = q1 s then -1 else gmax s (e.val / 4)) ⟨q.val * 4, by omega⟩ := by
    have e0 : ∀ e : Fin 16, gmax s (e.val / 4) = top4 s ⟨e.val / 4, by omega⟩ := fun e => gmax_eq s hs ⟨e.val / 4, by omega⟩
    have e1 : gmax s (q.val * 4 / 4) = top4 s q := by rw [Nat.mul_div_cancel _ (by norm_num)]; exact gmax_eq s hs q
    have e2 : ¬ q.val * 4 / 4 = p.val := by
      have : q.val ≠ p.val := fun h => hq.1 (Fin.ext h)
      omega
    rw [q1_eq s hs hp]
    have hlt : (-1 : EReal) < top4 s q := lt_of_lt_of_le neg_one_lt_zero (top4_nonneg s hs q)
    refine ⟨fun j => ?_, fun j hj => ?_⟩
    · show (if j.val / 4 = p.val then -1 else gmax s (j.val / 4)) ≤ if q.val * 4 / 4 = p.val then -1 else gmax s (q.val * 4 / 4)
      rw [if_neg e2, e1]
      split
      · exact hlt.le
      · rename_i hj'; rw [e0]; exact hq.2.1 _ fun h => hj' (congrArg Fin.val h)
    · show (if j.val / 4 = p.val then -1 else gmax s (j.val / 4)) < if q.val * 4 / 4 = p.val then -1 else gmax s (q.val * 4 / 4)
      rw [if_neg e2, e1]
      split
      · exact hlt
      · rename_i hj'; rw [e0]; exact hq.2.2 _ (fun h => hj' (congrArg Fin.val h)) (by rw [Fin.lt_def] at hj ⊢; simp only at hj ⊢; omega)
  unfold q2
  rw [(first_spec _).unique h]
  simp

theorem second_i2 (s : Fin 16 → EReal) : Second (kept s) (i1 s) (i2 s) := by
  have h := first_spec (kept' s)
  have e : ∀ j, j ≠ i1 s → kept' s j = kept s j := fun j hj => if_neg hj
  refine ⟨(i1_ne_i2 s).symm, fun j hj => ?_, fun j hj hlt => ?_⟩
  · rw [← e j hj, ← e _ (i1_ne_i2 s).symm]; exact h.1 j
  · rw [← e j hj, ← e _ (i1_ne_i2 s).symm]; exact h.2 j hlt

/-- The weight of lane `j` when lanes `i` and `k` are the two taken. -/
def share (f : Fin 16 → EReal) (i k j : Fin 16) : EReal := Ideal.div (f j) (f i + f k + Ideal.ofBits .f32 0x1E3CE508#32)

theorem eps_ne_zero : Ideal.ofBits .f32 0x1E3CE508#32 ≠ 0 := by
  simp [Ideal.ofBits, Ideal.ieee, -EReal.coe_mul]

theorem share_zero (f : Fin 16 → EReal) (i k j : Fin 16) (hi : f i = 0) (hk : f k = 0) (hj : f j = 0) : share f i k j = 0 := by
  unfold share Ideal.div
  rw [hi, hk, hj, zero_add, zero_add, if_neg eps_ne_zero, zero_mul]

/-- Whatever the experts' rows are, the two weighted are the same by either choice. -/
theorem agree (s : Fin 16 → EReal) (hs : (∀ e, 0 ≤ s e) ∨ ∀ e, s e = ⊥) {p q : Fin 4} (hp : First (top4 s) p) (hq : Second (top4 s) p q) {i k : Fin 16}
    (hi : First (fun e : Fin 16 => if e.val / 4 = p.val ∨ e.val / 4 = q.val then s e else 0) i)
    (hk : Second (fun e : Fin 16 => if e.val / 4 = p.val ∨ e.val / 4 = q.val then s e else 0) i k) (y : Fin 16 → EReal) :
    share (fun e : Fin 16 => if e.val / 4 = p.val ∨ e.val / 4 = q.val then s e else 0) i k i * y i
      + share (fun e : Fin 16 => if e.val / 4 = p.val ∨ e.val / 4 = q.val then s e else 0) i k k * y k
    = weight s (i1 s) * y (i1 s) + weight s (i2 s) * y (i2 s) := by
  rcases hs with hs | hs
  · have hkept : (fun e : Fin 16 => if e.val / 4 = p.val ∨ e.val / 4 = q.val then s e else 0) = kept s := by
      funext e; unfold kept; rw [q1_eq s hs hp, q2_eq s hs hp hq]
    rw [hkept] at hi hk ⊢
    have h1 : i = i1 s := hi.unique (first_spec (kept s))
    subst h1
    have h2 : k = i2 s := hk.unique (second_i2 s)
    subst h2
    rfl
  · have le0 : ∀ (c : Prop) [Decidable c] (e : Fin 16), (if c then s e else (0 : EReal)) ≤ 0 := fun c _ e => by
      split
      · rw [hs e]; exact bot_le
      · exact le_rfl
    obtain ⟨e, he, hep, heq⟩ := other_lanes p.val q.val i
    have hk0 : (0 : EReal) ≤ if k.val / 4 = p.val ∨ k.val / 4 = q.val then s k else 0 := by
      refine le_trans (le_of_eq ?_) (hk.2.1 e he)
      show (0 : EReal) = if e.val / 4 = p.val ∨ e.val / 4 = q.val then s e else 0
      rw [if_neg (by tauto)]
    have fk := le_antisymm (le0 _ k) hk0
    have fi := le_antisymm (le0 _ i) (hk0.trans (hi.1 k))
    have g2 : kept s (i2 s) = 0 := le_antisymm (le0 _ _) (kept'_i2 s ▸ i2_nonneg s)
    have g1 : kept s (i1 s) = 0 := le_antisymm (le0 _ _) (g2 ▸ (first_spec (kept s)).1 (i2 s))
    rw [share_zero _ i k i fi fk fi, share_zero _ i k k fi fk fk]
    have w1 : weight s (i1 s) = 0 := share_zero (kept s) (i1 s) (i2 s) (i1 s) g1 g2 g1
    have w2 : weight s (i2 s) = 0 := share_zero (kept s) (i1 s) (i2 s) (i2 s) g1 g2 g2
    rw [w1, w2]
    simp only [zero_mul]

/-! ## A gated layer's row -/

/-- The gate: `u` by its logistic, times `v`. -/
def glu (u v : EReal) : EReal := u * Ideal.div 1 (1 + Ideal.exp (-u)) * v
/-- One element of a gated layer's row: the row `x`, the two projections `p` and `q`, one column `r` of the third. -/
def mlp {n : ℕ} (x : Fin 1024 → EReal) (p q : Fin n → Fin 1024 → EReal) (r : Fin n → EReal) : EReal :=
  ∑ k, glu (∑ j, x j * p k j) (∑ j, x j * q k j) * r k

end Cert.Proof.Moe

end
-- ==== Proof.Parts.lean ====
/- What the three dense pipelines leave, element by element over the extended reals: the combined rows, the shared
   expert's rows and an expert's rows. -/
module

public import proofs.«01_k».proof.Proof.Outs
public import proofs.«01_k».proof.Proof.Agree

@[expose] public section

noncomputable section

namespace Cert.Proof.Moe

open Cert.KernelIdeal Cert.KernelIdeal.Gen

open Idealize.ShloMosaic
open Idealize.ShloMosaic.Pointwise
open TcCoe

variable (V : Vals Ideal) (c : Dev nD)

/-! ## The combine -/

theorem pay5_at (w : Vec Ideal S1024x2 .f32) (a b s : Vec Ideal S1024x1024 .f32) (r h : Fin 1024) :
    k5_pay1 w a b s (ix2 r h) = w (ix2 r 0) * a (ix2 r h) + w (ix2 r 1) * b (ix2 r h) + s (ix2 r h) := by
  pointwise [k5_pay1]

theorem index5_0 : ∀ t : Fin grid5.N, (cfg5.win 0).index t 0 = t.val ∧ (cfg5.win 0).index t 1 = 0 := by decide +kernel
theorem index5_1 : ∀ t : Fin grid5.N, (cfg5.win 1).index t 0 = t.val + 2 ∧ (cfg5.win 1).index t 1 = 0 := by decide +kernel
theorem index5_2 : ∀ t : Fin grid5.N, (cfg5.win 2).index t 0 = t.val ∧ (cfg5.win 2).index t 1 = 0 := by decide +kernel
theorem index5_3 : ∀ t : Fin grid5.N, (cfg5.win 3).index t 0 = t.val ∧ (cfg5.win 3).index t 1 = 0 := by decide +kernel

theorem read5_0 (t : Fin 2) (r h : Fin 1024) : ((cfg5.win 0).blk t).view.read (Elt Ideal) (V c main_v36) (ix2 r h)
    = V c main_v36 (ix2 (⟨t.val * 1024 + r.val, by omega⟩ : Fin 4096) h) := by
  refine (View.read_apply _ _).trans ((cast_eq _ _).trans (congrArg (V c main_v36) ?_))
  refine funext fun (b : Fin 2) => Fin.ext ?_
  match b with
  | 0 => exact ((win5_0).rect_emb_val t _ (0 : Fin 2)).trans (congrArg (· * 1024 + r.val) (index5_0 t).1)
  | 1 => exact ((win5_0).rect_emb_val t _ (1 : Fin 2)).trans ((congrArg (· * 1024 + h.val) (index5_0 t).2).trans (by show 0 * 1024 + h.val = h.val; omega))
theorem read5_1 (t : Fin 2) (r h : Fin 1024) : ((cfg5.win 1).blk t).view.read (Elt Ideal) (V c main_v36) (ix2 r h)
    = V c main_v36 (ix2 (⟨(t.val + 2) * 1024 + r.val, by omega⟩ : Fin 4096) h) := by
  refine (View.read_apply _ _).trans ((cast_eq _ _).trans (congrArg (V c main_v36) ?_))
  refine funext fun (b : Fin 2) => Fin.ext ?_
  match b with
  | 0 => exact ((win5_1).rect_emb_val t _ (0 : Fin 2)).trans (congrArg (· * 1024 + r.val) (index5_1 t).1)
  | 1 => exact ((win5_1).rect_emb_val t _ (1 : Fin 2)).trans ((congrArg (· * 1024 + h.val) (index5_1 t).2).trans (by show 0 * 1024 + h.val = h.val; omega))
theorem read5_2 (t : Fin 2) (r : Fin 1024) (k : Fin 2) : ((cfg5.win 2).blk t).view.read (Elt Ideal) (V c main_v0_1) (ix2 r k)
    = V c main_v0_1 (ix2 (⟨t.val * 1024 + r.val, by omega⟩ : Fin 2048) k) := by
  refine (View.read_apply _ _).trans ((cast_eq _ _).trans (congrArg (V c main_v0_1) ?_))
  refine funext fun (b : Fin 2) => Fin.ext ?_
  match b with
  | 0 => exact ((win5_2).rect_emb_val t _ (0 : Fin 2)).trans (congrArg (· * 1024 + r.val) (index5_2 t).1)
  | 1 => exact ((win5_2).rect_emb_val t _ (1 : Fin 2)).trans ((congrArg (· * 2 + k.val) (index5_2 t).2).trans (by show 0 * 2 + k.val = k.val; omega))
theorem read5_3 (t : Fin 2) (r h : Fin 1024) : ((cfg5.win 3).blk t).view.read (Elt Ideal) (V c main_v22) (ix2 r h)
    = V c main_v22 (ix2 (⟨t.val * 1024 + r.val, by omega⟩ : Fin 2048) h) := by
  refine (View.read_apply _ _).trans ((cast_eq _ _).trans (congrArg (V c main_v22) ?_))
  refine funext fun (b : Fin 2) => Fin.ext ?_
  match b with
  | 0 => exact ((win5_3).rect_emb_val t _ (0 : Fin 2)).trans (congrArg (· * 1024 + r.val) (index5_3 t).1)
  | 1 => exact ((win5_3).rect_emb_val t _ (1 : Fin 2)).trans ((congrArg (· * 1024 + h.val) (index5_3 t).2).trans (by show 0 * 1024 + h.val = h.val; omega))

/-- The combined rows: a token's two gathered rows weighted, and the shared expert's row. -/
theorem combOut_at (t : Fin 2048) (h : Fin 1024) (w : FVec Ideal S2048x2 .f32) (g : FVec Ideal S4096x1024 .f32) (s : FVec Ideal S2048x1024 .f32)
    (hw : V c main_v0_1 = w) (hg : V c main_v36 = g) (hs : V c main_v22 = s) :
    combOut V c (ix2 t h) = w (ix2 t 0) * g (ix2 ⟨t.val, by omega⟩ h) + w (ix2 t 1) * g (ix2 ⟨t.val + 2048, by omega⟩ h) + s (ix2 t h) := by
  show combBlk V c ⟨t.val / 1024, _⟩ (ix2 ⟨t.val % 1024, _⟩ h) = _
  unfold combBlk
  refine (pay5_at _ _ _ _ _ _).trans ?_
  have a0 := read5_2 V c ⟨t.val / 1024, by omega⟩ ⟨t.val % 1024, by omega⟩ 0
  have a1 := read5_2 V c ⟨t.val / 1024, by omega⟩ ⟨t.val % 1024, by omega⟩ 1
  have b0 := read5_0 V c ⟨t.val / 1024, by omega⟩ ⟨t.val % 1024, by omega⟩ h
  have b1 := read5_1 V c ⟨t.val / 1024, by omega⟩ ⟨t.val % 1024, by omega⟩ h
  have c0 := read5_3 V c ⟨t.val / 1024, by omega⟩ ⟨t.val % 1024, by omega⟩ h
  have e : (⟨t.val / 1024 * 1024 + t.val % 1024, by omega⟩ : Fin 2048) = t := Fin.ext (by show t.val / 1024 * 1024 + t.val % 1024 = t.val; omega)
  have e0 : (⟨t.val / 1024 * 1024 + t.val % 1024, by omega⟩ : Fin 4096) = ⟨t.val, by omega⟩ := Fin.ext (by show t.val / 1024 * 1024 + t.val % 1024 = t.val; omega)
  have e1 : (⟨(t.val / 1024 + 2) * 1024 + t.val % 1024, by omega⟩ : Fin 4096) = ⟨t.val + 2048, by omega⟩ := Fin.ext (by show (t.val / 1024 + 2) * 1024 + t.val % 1024 = t.val + 2048; omega)
  subst hw hg hs
  refine congrArg₂ (· + ·) (congrArg₂ (· + ·) (congrArg₂ (· * ·) (a0.trans ?_) (b0.trans ?_)) (congrArg₂ (· * ·) (a1.trans ?_) (b1.trans ?_))) (c0.trans ?_)
  · simp only [e]
  · simp only [e0]
  · simp only [e]
  · simp only [e1]
  · simp only [e]

/-! ## The shared expert -/

/-- One half of the shared expert's row adds to what stands there. -/
theorem pay2_at (x y : Vec Ideal S1024x1024 .f32) (p q : Vec Ideal S1x512x1024 .f32) (r : Vec Ideal S1x1024x512 .f32) (i h : Fin 1024) :
    k2_pay2 x y p q r (ix2 i h) = y (ix2 i h) + mlp (fun j => x (ix2 i j)) (fun (k : Fin 512) j => p (ix3 0 k j)) (fun k j => q (ix3 0 k j)) (fun k => r (ix3 0 h k)) := by
  pointwise [k2_pay2, mlp, glu]
  rfl
theorem pay2_zero (i h : Fin 1024) : k2_pay1 (F := Ideal) (ix2 i h) = 0 := by
  pointwise [k2_pay1]

theorem pay3_at (x : Vec Ideal S128x1024 .f32) (p q : Vec Ideal S1x512x1024 .f32) (r : Vec Ideal S1x1024x512 .f32) (i : Fin 128) (h : Fin 1024) :
    k3_pay1 x p q r (ix2 i h) = mlp (fun j => x (ix2 i j)) (fun (k : Fin 512) j => p (ix3 0 k j)) (fun k j => q (ix3 0 k j)) (fun k => r (ix3 0 h k)) := by
  pointwise [k3_pay1, mlp, glu]
  rfl

theorem index2_0 : ∀ t : Fin grid2.N, (cfg2.win 0).index t 0 = t.val / 2 ∧ (cfg2.win 0).index t 1 = 0 := by decide +kernel
theorem index2_1 : ∀ t : Fin grid2.N, (cfg2.win 1).index t 0 = t.val % 2 ∧ (cfg2.win 1).index t 1 = 0 ∧ (cfg2.win 1).index t 2 = 0 := by decide +kernel
theorem index2_2 : ∀ t : Fin grid2.N, (cfg2.win 2).index t 0 = t.val % 2 ∧ (cfg2.win 2).index t 1 = 0 ∧ (cfg2.win 2).index t 2 = 0 := by decide +kernel
theorem index2_3 : ∀ t : Fin grid2.N, (cfg2.win 3).index t 0 = t.val % 2 ∧ (cfg2.win 3).index t 1 = 0 ∧ (cfg2.win 3).index t 2 = 0 := by decide +kernel

theorem read2_0 (t : Fin 4) (r h : Fin 1024) : ((cfg2.win 0).blk t).view.read (Elt Ideal) (V c main_arg0) (ix2 r h)
    = V c main_arg0 (ix2 (⟨t.val / 2 * 1024 + r.val, by omega⟩ : Fin 2048) h) := by
  refine (View.read_apply _ _).trans ((cast_eq _ _).trans (congrArg (V c main_arg0) ?_))
  refine funext fun (b : Fin 2) => Fin.ext ?_
  match b with
  | 0 => exact ((win2_0).rect_emb_val t _ (0 : Fin 2)).trans (congrArg (· * 1024 + r.val) (index2_0 t).1)
  | 1 => exact ((win2_0).rect_emb_val t _ (1 : Fin 2)).trans ((congrArg (· * 1024 + h.val) (index2_0 t).2).trans (by show 0 * 1024 + h.val = h.val; omega))
theorem read2_1 (t : Fin 4) (k : Fin 512) (j : Fin 1024) : ((cfg2.win 1).blk t).view.read (Elt Ideal) (V c main_v15) (ix3 (0 : Fin 1) k j)
    = V c main_v15 (ix3 (⟨t.val % 2, by omega⟩ : Fin 2) k j) := by
  refine (View.read_apply _ _).trans ((cast_eq _ _).trans (congrArg (V c main_v15) ?_))
  refine funext fun (b : Fin 3) => Fin.ext ?_
  match b with
  | 0 => exact ((win2_1).rect_emb_val t _ (0 : Fin 3)).trans ((congrArg (· * 1 + 0) (index2_1 t).1).trans (by show t.val % 2 * 1 + 0 = t.val % 2; omega))
  | 1 => exact ((win2_1).rect_emb_val t _ (1 : Fin 3)).trans ((congrArg (· * 512 + k.val) (index2_1 t).2.1).trans (by show 0 * 512 + k.val = k.val; omega))
  | 2 => exact ((win2_1).rect_emb_val t _ (2 : Fin 3)).trans ((congrArg (· * 1024 + j.val) (index2_1 t).2.2).trans (by show 0 * 1024 + j.val = j.val; omega))
theorem read2_2 (t : Fin 4) (k : Fin 512) (j : Fin 1024) : ((cfg2.win 2).blk t).view.read (Elt Ideal) (V c main_v16) (ix3 (0 : Fin 1) k j)
    = V c main_v16 (ix3 (⟨t.val % 2, by omega⟩ : Fin 2) k j) := by
  refine (View.read_apply _ _).trans ((cast_eq _ _).trans (congrArg (V c main_v16) ?_))
  refine funext fun (b : Fin 3) => Fin.ext ?_
  match b with
  | 0 => exact ((win2_2).rect_emb_val t _ (0 : Fin 3)).trans ((congrArg (· * 1 + 0) (index2_2 t).1).trans (by show t.val % 2 * 1 + 0 = t.val % 2; omega))
  | 1 => exact ((win2_2).rect_emb_val t _ (1 : Fin 3)).trans ((congrArg (· * 512 + k.val) (index2_2 t).2.1).trans (by show 0 * 512 + k.val = k.val; omega))
  | 2 => exact ((win2_2).rect_emb_val t _ (2 : Fin 3)).trans ((congrArg (· * 1024 + j.val) (index2_2 t).2.2).trans (by show 0 * 1024 + j.val = j.val; omega))
theorem read2_3 (t : Fin 4) (j : Fin 1024) (k : Fin 512) : ((cfg2.win 3).blk t).view.read (Elt Ideal) (V c main_v21) (ix3 (0 : Fin 1) j k)
    = V c main_v21 (ix3 (⟨t.val % 2, by omega⟩ : Fin 2) j k) := by
  refine (View.read_apply _ _).trans ((cast_eq _ _).trans (congrArg (V c main_v21) ?_))
  refine funext fun (b : Fin 3) => Fin.ext ?_
  match b with
  | 0 => exact ((win2_3).rect_emb_val t _ (0 : Fin 3)).trans ((congrArg (· * 1 + 0) (index2_3 t).1).trans (by show t.val % 2 * 1 + 0 = t.val % 2; omega))
  | 1 => exact ((win2_3).rect_emb_val t _ (1 : Fin 3)).trans ((congrArg (· * 1024 + j.val) (index2_3 t).2.1).trans (by show 0 * 1024 + j.val = j.val; omega))
  | 2 => exact ((win2_3).rect_emb_val t _ (2 : Fin 3)).trans ((congrArg (· * 512 + k.val) (index2_3 t).2.2).trans (by show 0 * 512 + k.val = k.val; omega))

/-- One half of the shared expert, on its own. -/
def half (x : FVec Ideal S2048x1024 .f32) (p q : FVec Ideal S2x512x1024 .f32) (r : FVec Ideal S2x1024x512 .f32) (b : Fin 2) (t : Fin 2048) (h : Fin 1024) : EReal :=
  mlp (fun j => x (ix2 t j)) (fun (k : Fin 512) j => p (ix3 b k j)) (fun k j => q (ix3 b k j)) (fun k => r (ix3 b h k))

theorem step_at (x : FVec Ideal S2048x1024 .f32) (p q : FVec Ideal S2x512x1024 .f32) (r : FVec Ideal S2x1024x512 .f32)
    (hx : V c main_arg0 = x) (hp : V c main_v15 = p) (hq : V c main_v16 = q) (hr : V c main_v21 = r) (t : Fin 4) (X : Vec Ideal S1024x1024 .f32) (i h : Fin 1024) :
    shStep V c t X (ix2 i h) = (if t.val % 2 = 0 then 0 else X (ix2 i h)) + half x p q r ⟨t.val % 2, by omega⟩ ⟨t.val / 2 * 1024 + i.val, by omega⟩ h := by
  subst hx hp hq hr
  unfold shStep sharedStep
  refine (pay2_at _ _ _ _ _ i h).trans ?_
  rw [coords2 t]
  refine congrArg₂ (· + ·) ?_ ?_
  · split
    · exact pay2_zero i h
    · rfl
  · unfold half
    congr 1
    · funext j; exact read2_0 V c t i j
    · funext k j; exact read2_1 V c t k j
    · funext k j; exact read2_2 V c t k j
    · funext k; exact read2_3 V c t h k

/-- The shared expert's row is its two halves. -/
theorem sharedOut_at (x : FVec Ideal S2048x1024 .f32) (p q : FVec Ideal S2x512x1024 .f32) (r : FVec Ideal S2x1024x512 .f32)
    (hx : V c main_arg0 = x) (hp : V c main_v15 = p) (hq : V c main_v16 = q) (hr : V c main_v21 = r) (t : Fin 2048) (h : Fin 1024) :
    sharedOut V c (ix2 t h) = half x p q r 0 t h + half x p q r 1 t h := by
  show shAcc V c ⟨2 * (t.val / 1024) + 1, _⟩ (ix2 ⟨t.val % 1024, _⟩ h) = _
  unfold shAcc
  have hA := fun X => step_at V c x p q r hx hp hq hr ⟨2 * (t.val / 1024) + 1, by omega⟩ X ⟨t.val % 1024, by omega⟩ h
  have hB := fun X => step_at V c x p q r hx hp hq hr ⟨2 * (t.val / 1024) + 1 - 1, by omega⟩ X ⟨t.val % 1024, by omega⟩ h
  refine (hA _).trans ?_
  rw [if_neg (show ¬ (2 * (t.val / 1024) + 1) % 2 = 0 by omega)]
  refine congrArg₂ (· + ·) ((hB _).trans ?_) ?_
  · rw [if_pos (show (2 * (t.val / 1024) + 1 - 1) % 2 = 0 by omega), zero_add]
    congr 1
    · exact Fin.ext (by show (2 * (t.val / 1024) + 1 - 1) % 2 = 0; omega)
    · exact Fin.ext (by show (2 * (t.val / 1024) + 1 - 1) / 2 * 1024 + t.val % 1024 = t.val; omega)
  · congr 1
    · exact Fin.ext (by show (2 * (t.val / 1024) + 1) % 2 = 1; omega)
    · exact Fin.ext (by show (2 * (t.val / 1024) + 1) / 2 * 1024 + t.val % 1024 = t.val; omega)

/-! ## The experts -/

theorem index3_0 : ∀ t : Fin grid3.N, cc3_transform_0 (grid3.coords t) 0 = t.val ∧ cc3_transform_0 (grid3.coords t) 1 = 0 := by decide +kernel
theorem coords3 : ∀ t : Fin grid3.N, ((grid3.coords t) 0).val = t.val := by decide +kernel

/-- The table's word for point `t`. -/
def word3 (A : (pcfg3 (F := Ideal)).Adm) (t : Fin 48) : BitVec 32 :=
  A.1.at 0 (Rect.unit (s := S48) ![(Scalar.indexCast (BitVec.ofNat 32 ((grid3.coords t) 0).val)).toNat] S1.size (k3_off1_inb (grid3.coords t))) numel1_S1

variable (A : (pcfg3 (F := Ideal)).Adm)

theorem read3_0 (t : Fin 48) (r : Fin 128) (h : Fin 1024) : (((cfg3 A).win 0).blk t).view.read (Elt Ideal) (V c main_v14) (ix2 r h)
    = V c main_v14 (ix2 (⟨t.val * 128 + r.val, by omega⟩ : Fin 6144) h) := by
  refine (View.read_apply _ _).trans ((cast_eq _ _).trans (congrArg (V c main_v14) ?_))
  refine funext fun (b : Fin 2) => Fin.ext ?_
  match b with
  | 0 => exact (((cfg3 A).win 0).rect_emb_val t _ (0 : Fin 2)).trans (congrArg (· * 128 + r.val) (index3_0 t).1)
  | 1 => exact (((cfg3 A).win 0).rect_emb_val t _ (1 : Fin 2)).trans ((congrArg (· * 1024 + h.val) (index3_0 t).2).trans (by show 0 * 1024 + h.val = h.val; omega))
theorem read3_1 (t : Fin 48) (e : Fin 16) (he : (word3 A t).toNat = e.val) (k : Fin 512) (j : Fin 1024) :
    (((cfg3 A).win 1).blk t).view.read (Elt Ideal) (V c main_arg2) (ix3 (0 : Fin 1) k j) = V c main_arg2 (ix3 e k j) := by
  refine (View.read_apply _ _).trans ((cast_eq _ _).trans (congrArg (V c main_arg2) ?_))
  refine funext fun (b : Fin 3) => Fin.ext ?_
  match b with
  | 0 => exact (((cfg3 A).win 1).rect_emb_val t _ (0 : Fin 3)).trans ((congrArg (· * 1 + 0) he).trans (by show e.val * 1 + 0 = e.val; omega))
  | 1 => exact (((cfg3 A).win 1).rect_emb_val t _ (1 : Fin 3)).trans (by show 0 * 512 + k.val = k.val; omega)
  | 2 => exact (((cfg3 A).win 1).rect_emb_val t _ (2 : Fin 3)).trans (by show 0 * 1024 + j.val = j.val; omega)
theorem read3_2 (t : Fin 48) (e : Fin 16) (he : (word3 A t).toNat = e.val) (k : Fin 512) (j : Fin 1024) :
    (((cfg3 A).win 2).blk t).view.read (Elt Ideal) (V c main_arg3) (ix3 (0 : Fin 1) k j) = V c main_arg3 (ix3 e k j) := by
  refine (View.read_apply _ _).trans ((cast_eq _ _).trans (congrArg (V c main_arg3) ?_))
  refine funext fun (b : Fin 3) => Fin.ext ?_
  match b with
  | 0 => exact (((cfg3 A).win 2).rect_emb_val t _ (0 : Fin 3)).trans ((congrArg (· * 1 + 0) he).trans (by show e.val * 1 + 0 = e.val; omega))
  | 1 => exact (((cfg3 A).win 2).rect_emb_val t _ (1 : Fin 3)).trans (by show 0 * 512 + k.val = k.val; omega)
  | 2 => exact (((cfg3 A).win 2).rect_emb_val t _ (2 : Fin 3)).trans (by show 0 * 1024 + j.val = j.val; omega)
theorem read3_3 (t : Fin 48) (e : Fin 16) (he : (word3 A t).toNat = e.val) (j : Fin 1024) (k : Fin 512) :
    (((cfg3 A).win 3).blk t).view.read (Elt Ideal) (V c main_arg4) (ix3 (0 : Fin 1) j k) = V c main_arg4 (ix3 e j k) := by
  refine (View.read_apply _ _).trans ((cast_eq _ _).trans (congrArg (V c main_arg4) ?_))
  refine funext fun (b : Fin 3) => Fin.ext ?_
  match b with
  | 0 => exact (((cfg3 A).win 3).rect_emb_val t _ (0 : Fin 3)).trans ((congrArg (· * 1 + 0) he).trans (by show e.val * 1 + 0 = e.val; omega))
  | 1 => exact (((cfg3 A).win 3).rect_emb_val t _ (1 : Fin 3)).trans (by show 0 * 1024 + j.val = j.val; omega)
  | 2 => exact (((cfg3 A).win 3).rect_emb_val t _ (2 : Fin 3)).trans (by show 0 * 512 + k.val = k.val; omega)

/-- An expert's row: row `n` of the sorted rows through the expert the table names for its tile. -/
theorem groupOut_row (x : FVec Ideal S6144x1024 .f32) (p q : FVec Ideal S16x512x1024 .f32) (r : FVec Ideal S16x1024x512 .f32)
    (hx : V c main_v14 = x) (hp : V c main_arg2 = p) (hq : V c main_arg3 = q) (hr : V c main_arg4 = r) (n : Fin 6144) (h : Fin 1024)
    (e : Fin 16) (he : (word3 A ⟨n.val / 128, by omega⟩).toNat = e.val) :
    groupOut V c A (ix2 n h) = mlp (fun j => x (ix2 n j)) (fun (k : Fin 512) j => p (ix3 e k j)) (fun k j => q (ix3 e k j)) (fun k => r (ix3 e h k)) := by
  subst hx hp hq hr
  show groupBlk V c A ⟨n.val / 128, _⟩ (ix2 ⟨n.val % 128, _⟩ h) = _
  unfold groupBlk
  refine (pay3_at _ _ _ _ _ h).trans ?_
  congr 1
  · funext j
    refine (read3_0 V c A ⟨n.val / 128, by omega⟩ ⟨n.val % 128, by omega⟩ j).trans ?_
    exact congrArg (fun z : Fin 6144 => V c main_v14 (ix2 z j)) (Fin.ext (by show n.val / 128 * 128 + n.val % 128 = n.val; omega))
  · funext k j; exact read3_1 V c A _ e he k j
  · funext k j; exact read3_2 V c A _ e he k j
  · funext k; exact read3_3 V c A _ e he h k

end Cert.Proof.Moe

end
-- ==== Proof.RefValue.lean ====
/- The reference as stages: the scores, the groups kept, the weights, the experts' rows, the shared expert's rows; and
   what each stage holds at an element. -/
module

public import proofs.«01_k».proof.Proof.Agree
public import proofs.«01_k».proof.Proof.Gen.ReferenceIdeal.Run

@[expose] public section

noncomputable section

namespace Cert.Proof.Ref

open Cert.ReferenceIdeal Cert.ReferenceIdeal.Gen
open Idealize.ShloMosaic Idealize.SL.Sem
open Idealize.ShloMosaic.TcCoe
open Idealize.ShloMosaic.Pointwise
open Cert.Proof.Moe (First Second first first_spec rmax word_bot topK_at score top4 share mlp glu agree score_cases weight i1 i2 eq_word)

/-! ## The stages -/

/-- The logits of every token and expert. -/
def logits (a0 : FVec Ideal S2048x1024 .f32) (a1 : FVec Ideal S16x1024 .f32) : FVec Ideal S2048x16 .f32 :=
  Host.dotGeneral dot_S2048x1024_S1024x16_S2048x16_1_0_0_1_n_n none a0 (transpose S1024x16 [1, 0] a1 transposes_S16x1024_S1024x16_1_0)

/-- The exponentials of the logits less their row's largest. -/
def exps (a0 : FVec Ideal S2048x1024 .f32) (a1 : FVec Ideal S16x1024 .f32) : FVec Ideal S2048x16 .f32 :=
  Host.exp (subf (logits a0 a1) (broadcastInDim S2048x16 ![0, 1] bcast_S2048x1_S2048x16_0_1 (broadcastInDim S2048x1 ![0] bcast_S2048_S2048x1_0 (maximumf (broadcastInDim S2048 ![] bcast_S_S2048 (constant (F := Ideal) S_ .f32 0xFF800000#32)) (Host.reduce FloatOps.maximumf (logits a0 a1) (constant (F := Ideal) S_ .f32 0xFF800000#32) reducesTo_S2048x16_S2048_d1 h_S_)))))

/-- The scores: the softmax of the logits. -/
def scores (a0 : FVec Ideal S2048x1024 .f32) (a1 : FVec Ideal S16x1024 .f32) : FVec Ideal S2048x16 .f32 :=
  Host.divf (exps a0 a1) (broadcastInDim S2048x16 ![0, 1] bcast_S2048x1_S2048x16_0_1 (broadcastInDim S2048x1 ![0] bcast_S2048_S2048x1_0 (Host.reduceAdd (exps a0 a1) (constant (F := Ideal) S_ .f32 0x00000000#32) reducesTo_S2048x16_S2048_d1 h_S_)))

/-- Each group's largest score. -/
def groupMax (a0 : FVec Ideal S2048x1024 .f32) (a1 : FVec Ideal S16x1024 .f32) : FVec Ideal S2048x4 .f32 :=
  Host.reduce FloatOps.maximumf (shapeCast _ (scores a0 a1) shapeCasts_S2048x16_S2048x4x4) (constant (F := Ideal) S_ .f32 0xFF800000#32) reducesTo_S2048x4x4_S2048x4_d2 h_S_

/-- The group of each expert, as a word. -/
def groupOf : IVec S16 32 :=
  select (andi (cmpi .ne (signi (iotaInDim S16 32 0)) (broadcastInDim S16 ![] bcast_S_S16 (signi (id (constantI S_ 32 4#32))))) (cmpi .ne (Host.remsi (iotaInDim S16 32 0) (broadcastInDim S16 ![] bcast_S_S16 (id (constantI S_ 32 4#32)))) (broadcastInDim S16 ![] bcast_S_S16 (constantI S_ 32 0#32)))) (subi (Host.divsi (iotaInDim S16 32 0) (broadcastInDim S16 ![] bcast_S_S16 (id (constantI S_ 32 4#32)))) (broadcastInDim S16 ![] bcast_S_S16 (constantI S_ 32 1#32))) (Host.divsi (iotaInDim S16 32 0) (broadcastInDim S16 ![] bcast_S_S16 (id (constantI S_ 32 4#32))))

/-- The scores of the two groups kept, zero elsewhere. -/
def keptScores (a0 : FVec Ideal S2048x1024 .f32) (a1 : FVec Ideal S16x1024 .f32) : FVec Ideal S2048x16 .f32 :=
  select (Host.reduce IntOp.ori (cmpi .eq (broadcastInDim S2048x2x16 ![0, 1, 2] bcast_S2048x2x1_S2048x2x16_0_1_2 (broadcastInDim S2048x2x1 ![0, 1] bcast_S2048x2_S2048x2x1_0_1 ((Host.topK S2048x2 1 (FloatOps.cmpfTotal (F := Ideal) (φ := .f32) .gt) (groupMax a0 a1) sliceFits_S2048x4_S2048x2).2))) (broadcastInDim S2048x2x16 ![0, 1, 2] bcast_S1x1x16_S2048x2x16_0_1_2 (broadcastInDim S1x1x16 ![2] bcast_S16_S1x1x16_2 groupOf))) (constantI S_ 1 0#1) reducesTo_S2048x2x16_S2048x16_d1 h_S_) (scores a0 a1) (broadcastInDim S2048x16 ![] bcast_S_S2048x16 (id (constant (F := Ideal) S_ .f32 0x00000000#32)))

/-- The two weights of each token. -/
def topWeights (a0 : FVec Ideal S2048x1024 .f32) (a1 : FVec Ideal S16x1024 .f32) : FVec Ideal S2048x2 .f32 :=
  Host.divf ((Host.topK S2048x2 1 (FloatOps.cmpfTotal (F := Ideal) (φ := .f32) .gt) (keptScores a0 a1) sliceFits_S2048x16_S2048x2).1) (broadcastInDim S2048x2 ![0, 1] bcast_S2048x1_S2048x2_0_1 (addf (broadcastInDim S2048x1 ![0] bcast_S2048_S2048x1_0 (Host.reduceAdd ((Host.topK S2048x2 1 (FloatOps.cmpfTotal (F := Ideal) (φ := .f32) .gt) (keptScores a0 a1) sliceFits_S2048x16_S2048x2).1) (constant (F := Ideal) S_ .f32 0x00000000#32) reducesTo_S2048x2_S2048_d1 h_S_)) (broadcastInDim S2048x1 ![] bcast_S_S2048x1 (constant (F := Ideal) S_ .f32 0x1E3CE508#32))))

/-- The weight of every token and expert. -/
def weights (a0 : FVec Ideal S2048x1024 .f32) (a1 : FVec Ideal S16x1024 .f32) : FVec Ideal S2048x16 .f32 :=
  Host.reduceAdd (select (cmpi .eq (broadcastInDim S2048x2x16 ![0, 1, 2] bcast_S2048x2x1_S2048x2x16_0_1_2 (broadcastInDim S2048x2x1 ![0, 1] bcast_S2048x2_S2048x2x1_0_1 ((Host.topK S2048x2 1 (FloatOps.cmpfTotal (F := Ideal) (φ := .f32) .gt) (keptScores a0 a1) sliceFits_S2048x16_S2048x2).2))) (broadcastInDim S2048x2x16 ![0, 1, 2] bcast_S1x1x16_S2048x2x16_0_1_2 (broadcastInDim S1x1x16 ![2] bcast_S16_S1x1x16_2 (iotaInDim S16 32 0)))) (broadcastInDim S2048x2x16 ![0, 1, 2] bcast_S2048x2x1_S2048x2x16_0_1_2 (broadcastInDim S2048x2x1 ![0, 1] bcast_S2048x2_S2048x2x1_0_1 (topWeights a0 a1))) (broadcastInDim S2048x2x16 ![] bcast_S_S2048x2x16 (id (constant (F := Ideal) S_ .f32 0x00000000#32)))) (constant (F := Ideal) S_ .f32 0x00000000#32) reducesTo_S2048x2x16_S2048x16_d1 h_S_

/-- Every expert's rows. -/
def expertsOut (a0 : FVec Ideal S2048x1024 .f32) (a2 : FVec Ideal S16x512x1024 .f32) (a3 : FVec Ideal S16x512x1024 .f32) (a4 : FVec Ideal S16x1024x512 .f32) : FVec Ideal S16x2048x1024 .f32 :=
  Host.dotGeneral dot_S16x2048x512_S16x1024x512_S16x2048x1024_2_2_1_1_0_0 none (mulf (mulf (transpose S16x2048x512 [0, 2, 1] (Host.dotGeneral dot_S16x512x1024_S2048x1024_S16x512x2048_2_1_01_0_n_n none a2 a0) transposes_S16x512x2048_S16x2048x512_0_2_1) (Host.divf (broadcastInDim S16x2048x512 ![] bcast_S_S16x2048x512 (constant (F := Ideal) S_ .f32 0x3F800000#32)) (addf (broadcastInDim S16x2048x512 ![] bcast_S_S16x2048x512 (constant (F := Ideal) S_ .f32 0x3F800000#32)) (Host.exp (Host.negf (transpose S16x2048x512 [0, 2, 1] (Host.dotGeneral dot_S16x512x1024_S2048x1024_S16x512x2048_2_1_01_0_n_n none a2 a0) transposes_S16x512x2048_S16x2048x512_0_2_1)))))) (transpose S16x2048x512 [0, 2, 1] (Host.dotGeneral dot_S16x512x1024_S2048x1024_S16x512x2048_2_1_01_0_n_n none a3 a0) transposes_S16x512x2048_S16x2048x512_0_2_1)) a4

/-- The shared expert's rows. -/
def sharedRef (a0 : FVec Ideal S2048x1024 .f32) (a5 : FVec Ideal S1024x1024 .f32) (a6 : FVec Ideal S1024x1024 .f32) (a7 : FVec Ideal S1024x1024 .f32) : FVec Ideal S2048x1024 .f32 :=
  Host.dotGeneral dot_S2048x1024_S1024x1024_S2048x1024_1_0_0_1_n_n none (mulf (mulf (Host.dotGeneral dot_S2048x1024_S1024x1024_S2048x1024_1_0_0_1_n_n none a0 (transpose S1024x1024 [1, 0] a5 transposes_S1024x1024_S1024x1024_1_0)) (Host.divf (broadcastInDim S2048x1024 ![] bcast_S_S2048x1024 (constant (F := Ideal) S_ .f32 0x3F800000#32)) (addf (broadcastInDim S2048x1024 ![] bcast_S_S2048x1024 (constant (F := Ideal) S_ .f32 0x3F800000#32)) (Host.exp (Host.negf (Host.dotGeneral dot_S2048x1024_S1024x1024_S2048x1024_1_0_0_1_n_n none a0 (transpose S1024x1024 [1, 0] a5 transposes_S1024x1024_S1024x1024_1_0))))))) (Host.dotGeneral dot_S2048x1024_S1024x1024_S2048x1024_1_0_0_1_n_n none a0 (transpose S1024x1024 [1, 0] a6 transposes_S1024x1024_S1024x1024_1_0))) (transpose S1024x1024 [1, 0] a7 transposes_S1024x1024_S1024x1024_1_0)

/-- The layer. -/
def result (a0 : FVec Ideal S2048x1024 .f32) (a1 : FVec Ideal S16x1024 .f32) (a2 : FVec Ideal S16x512x1024 .f32) (a3 : FVec Ideal S16x512x1024 .f32) (a4 : FVec Ideal S16x1024x512 .f32) (a5 : FVec Ideal S1024x1024 .f32) (a6 : FVec Ideal S1024x1024 .f32) (a7 : FVec Ideal S1024x1024 .f32) : FVec Ideal S2048x1024 .f32 :=
  addf (Host.reduceAdd (mulf (broadcastInDim S16x2048x1024 ![0, 1, 2] bcast_S16x2048x1_S16x2048x1024_0_1_2 (broadcastInDim S16x2048x1 ![0, 1] bcast_S16x2048_S16x2048x1_0_1 (transpose S16x2048 [1, 0] (weights a0 a1) transposes_S2048x16_S16x2048_1_0))) (expertsOut a0 a2 a3 a4)) (constant (F := Ideal) S_ .f32 0x00000000#32) reducesTo_S16x2048x1024_S2048x1024_d0 h_S_) (sharedRef a0 a5 a6 a7)

theorem res_eq (m : (ℓ : Loc nD τ sig) → Buf (Elt Ideal) ℓ) (c : Dev nD) : Value.res_out0 m c = result (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) := rfl

/-! ## What the stages hold -/

theorem groupWord : ∀ e : Fin 16,
    Scalar.select
      (IntOp.andi
        (IntOp.cmpi CmpIPredicate.ne
          (if BitVec.ofNat 32 e.val = 0 then (0 : BitVec 32) else if (BitVec.ofNat 32 e.val).msb = true then -1 else 1)
          (if (4#32 : BitVec 32) = 0 then (0 : BitVec 32) else if (4#32 : BitVec 32).msb = true then -1 else 1))
        (IntOp.cmpi CmpIPredicate.ne (IntOp.remsi ArithUnit.host (BitVec.ofNat 32 e.val) 4#32) 0#32))
      (IntOp.subi (IntOp.divsi ArithUnit.host (BitVec.ofNat 32 e.val) 4#32) 1#32)
      (IntOp.divsi ArithUnit.host (BitVec.ofNat 32 e.val) 4#32) = BitVec.ofNat 32 (e.val / 4) := by decide +kernel

theorem groupOf_at (e : Fin 16) : groupOf (ix1 e) = BitVec.ofNat 32 (e.val / 4) := by
  pointwise [groupOf]
  exact groupWord e

theorem zero_word (i : S_.Idx) : (id (constant (F := Ideal) S_ .f32 0x00000000#32) : FVec Ideal S_ .f32) i = (0 : EReal) := by
  show Ideal.ofBits .f32 0#32 = 0
  simp [Ideal.ofBits, Ideal.ieee]

section At
variable (a0 : FVec Ideal S2048x1024 .f32) (a1 : FVec Ideal S16x1024 .f32) (a2 a3 : FVec Ideal S16x512x1024 .f32) (a4 : FVec Ideal S16x1024x512 .f32) (a5 a6 a7 : FVec Ideal S1024x1024 .f32)
variable (t : Fin 2048)

theorem logits_at (e : Fin 16) : logits a0 a1 (ix2 t e) = ∑ h, a0 (ix2 t h) * a1 (ix2 e h) := by
  pointwise [logits]

theorem scores_at (e : Fin 16) : scores a0 a1 (ix2 t e) = score a0 a1 t e := by
  have hE : ∀ e : Fin 16, exps a0 a1 (ix2 t e) = Ideal.exp (∑ h, a0 (ix2 t h) * a1 (ix2 e h)
      - Finset.fold max (Ideal.ofBits FTy.f32 4286578688#32) (fun x => ∑ h, a0 (ix2 t h) * a1 (ix2 x h)) Finset.univ) := fun e => by
    pointwise [exps, logits_at]
    rw [word_bot, max_eq_right bot_le]
  unfold score
  pointwise [scores, hE, Cert.KernelIdeal.Gen.k0_pay3]

theorem groupMax_at (c : Fin 4) : groupMax a0 a1 (ix2 t c) = top4 (score a0 a1 t) c := by
  pointwise [groupMax, scores_at]
  rfl

/-- The groups kept are the first largest and the first largest of the others. -/
theorem keptScores_at : ∃ p q : Fin 4, First (top4 (score a0 a1 t)) p ∧ Second (top4 (score a0 a1 t)) p q
    ∧ ∀ e, keptScores a0 a1 (ix2 t e) = if e.val / 4 = p.val ∨ e.val / 4 = q.val then score a0 a1 t e else 0 := by
  obtain ⟨p, q, hp, hq, -, -, wp, wq⟩ := topK_at (n := 2) (groupMax a0 a1) sliceFits_S2048x4_S2048x2 t
  have wp' : (Host.topK S2048x2 1 (FloatOps.cmpfTotal (F := Ideal) (φ := .f32) .gt) (groupMax a0 a1) sliceFits_S2048x4_S2048x2).2 (ix2 t 0) = BitVec.ofNat 32 p.val := wp
  have wq' : (Host.topK S2048x2 1 (FloatOps.cmpfTotal (F := Ideal) (φ := .f32) .gt) (groupMax a0 a1) sliceFits_S2048x4_S2048x2).2 (ix2 t 1) = BitVec.ofNat 32 q.val := wq
  simp only [groupMax_at] at hp hq
  refine ⟨p, q, hp, hq, fun e => ?_⟩
  pointwise [keptScores, groupOf_at, scores_at]
  rw [zero_word, show (Finset.univ : Finset (Fin 2)) = {0, 1} from rfl, Finset.fold_insert (by decide), Finset.fold_singleton]
  rw [wp', wq']
  rw [eq_word (by omega) (by omega), eq_word (by omega) (by omega)]
  by_cases h1 : p.val = e.val / 4 <;> by_cases h2 : q.val = e.val / 4 <;> simp [h1, h2, Scalar.select, IntOp.ori, eq_comm]

/-- The weights are those of the first largest lane and of the first largest of the others, zero elsewhere. -/
theorem weights_at (f : Fin 16 → EReal) (hf : ∀ e, keptScores a0 a1 (ix2 t e) = f e) : ∃ i k : Fin 16, First f i ∧ Second f i k
    ∧ ∀ e, weights a0 a1 (ix2 t e) = (if i = e then share f i k i else 0) + (if k = e then share f i k k else 0) := by
  obtain ⟨i, k, hi, hk, vi, vk, wi, wk⟩ := topK_at (n := 14) (keptScores a0 a1) sliceFits_S2048x16_S2048x2 t
  have vi' : (Host.topK S2048x2 1 (FloatOps.cmpfTotal (F := Ideal) (φ := .f32) .gt) (keptScores a0 a1) sliceFits_S2048x16_S2048x2).1 (ix2 t 0) = f i := vi.trans (hf i)
  have vk' : (Host.topK S2048x2 1 (FloatOps.cmpfTotal (F := Ideal) (φ := .f32) .gt) (keptScores a0 a1) sliceFits_S2048x16_S2048x2).1 (ix2 t 1) = f k := vk.trans (hf k)
  have wi' : (Host.topK S2048x2 1 (FloatOps.cmpfTotal (F := Ideal) (φ := .f32) .gt) (keptScores a0 a1) sliceFits_S2048x16_S2048x2).2 (ix2 t 0) = BitVec.ofNat 32 i.val := wi
  have wk' : (Host.topK S2048x2 1 (FloatOps.cmpfTotal (F := Ideal) (φ := .f32) .gt) (keptScores a0 a1) sliceFits_S2048x16_S2048x2).2 (ix2 t 1) = BitVec.ofNat 32 k.val := wk
  simp only [hf] at hi hk
  have h0 : topWeights a0 a1 (ix2 t 0) = share f i k i := by
    pointwise [topWeights]
    rw [Fin.sum_univ_two]
    rw [vi', vk']
    rfl
  have h1 : topWeights a0 a1 (ix2 t 1) = share f i k k := by
    pointwise [topWeights]
    rw [Fin.sum_univ_two]
    rw [vi', vk']
    rfl
  refine ⟨i, k, hi, hk, fun e => ?_⟩
  pointwise [weights]
  rw [Fin.sum_univ_two, zero_word, h0, h1]
  rw [wi', wk']
  rw [eq_word (by omega) (by omega), eq_word (by omega) (by omega)]
  have : ∀ a b : Fin 16, (a.val = b.val) = (a = b) := fun a b => propext Fin.ext_iff.symm
  simp only [this]
  by_cases h1 : i = e <;> by_cases h2 : k = e <;> simp [h1, h2, Scalar.select]

/-- An expert's row. -/
theorem expertsOut_at (e : Fin 16) (h : Fin 1024) : expertsOut a0 a2 a3 a4 (ix3 e t h)
    = mlp (fun j => a0 (ix2 t j)) (fun (k : Fin 512) j => a2 (ix3 e k j)) (fun k j => a3 (ix3 e k j)) (fun k => a4 (ix3 e h k)) := by
  pointwise [expertsOut, mlp, glu]
  simp only [mul_comm (a2 _), mul_comm (a3 _)]

/-- The shared expert's row. -/
theorem sharedRef_at (h : Fin 1024) : sharedRef a0 a5 a6 a7 (ix2 t h)
    = mlp (fun j => a0 (ix2 t j)) (fun (k : Fin 1024) j => a5 (ix2 k j)) (fun k j => a6 (ix2 k j)) (fun k => a7 (ix2 h k)) := by
  pointwise [sharedRef, mlp, glu]

theorem result_sum (h : Fin 1024) : result a0 a1 a2 a3 a4 a5 a6 a7 (ix2 t h)
    = ∑ e, weights a0 a1 (ix2 t e) * expertsOut a0 a2 a3 a4 (ix3 e t h) + sharedRef a0 a5 a6 a7 (ix2 t h) := by
  pointwise [result]

/-- Two distinct lanes weighted. -/
theorem two_lanes (i k : Fin 16) (hne : k ≠ i) (a b : EReal) (y : Fin 16 → EReal) :
    ∑ e, ((if i = e then a else 0) + (if k = e then b else 0)) * y e = a * y i + b * y k := by
  have : ∀ e : Fin 16, ((if i = e then a else 0) + (if k = e then b else 0)) * y e = (if i = e then a * y e else 0) + (if k = e then b * y e else 0) := fun e => by
    by_cases h1 : i = e
    · have h2 : ¬ k = e := fun h => hne (h.trans h1.symm)
      rw [if_pos h1, if_neg h2, if_pos h1, if_neg h2, add_zero, add_zero]
    · rw [if_neg h1, if_neg h1, zero_add, zero_add]
      by_cases h2 : k = e
      · rw [if_pos h2, if_pos h2]
      · rw [if_neg h2, if_neg h2, zero_mul]
  simp only [this, Finset.sum_add_distrib, Finset.sum_ite_eq, Finset.mem_univ, if_true]

/-- The layer at an element: two experts' rows weighted, and the shared expert's. -/
theorem result_at (h : Fin 1024) : result a0 a1 a2 a3 a4 a5 a6 a7 (ix2 t h)
    = weight (score a0 a1 t) (i1 (score a0 a1 t)) * expertsOut a0 a2 a3 a4 (ix3 (i1 (score a0 a1 t)) t h)
      + weight (score a0 a1 t) (i2 (score a0 a1 t)) * expertsOut a0 a2 a3 a4 (ix3 (i2 (score a0 a1 t)) t h)
      + sharedRef a0 a5 a6 a7 (ix2 t h) := by
  obtain ⟨p, q, hp, hq, hf⟩ := keptScores_at a0 a1 t
  obtain ⟨i, k, hi, hk, hw⟩ := weights_at a0 a1 t _ hf
  rw [result_sum]
  simp only [hw]
  rw [two_lanes i k hk.1]
  congr 1
  exact agree (score a0 a1 t) (score_cases a0 a1 t) hp hq hi hk fun e => expertsOut a0 a2 a3 a4 (ix3 e t h)
end At

end Cert.Proof.Ref

end
-- ==== Proof.KerValue.lean ====
/- What the program's result holds at an element: the two chosen experts' rows by their weights, and the shared
   expert's row, which is what the reference's result holds there. -/
module

public import proofs.«01_k».proof.Proof.Run
public import proofs.«01_k».proof.Proof.Lists
public import proofs.«01_k».proof.Proof.Parts
public import proofs.«01_k».proof.Proof.RefValue
public import Idealize.ShloMosaic.Lib.StableHlo.RunRead

@[expose] public section

noncomputable section

namespace Cert.Proof.Moe

open Cert.KernelIdeal Cert.KernelIdeal.Gen Cert.Proof.Places

open Idealize.ShloMosaic
open Idealize.ShloMosaic.Pointwise
open Idealize.ShloMosaic.Tactic
open Idealize.SL Idealize.SL.Sem
open TcCoe

/-! ## What the host's operations leave alone -/

abbrev writesA : List (Ref sig .tc) := [main_v1, main_v2, main_v3, main_v4, main_c, main_v5, main_v6, main_v7, main_v8, main_v9, main_v10, main_v11, main_v12]
abbrev writesB : List (Ref sig .tc) := [main_v14, main_v15, main_v16, main_v17, main_v18, main_v19, main_v20, main_v21]
abbrev writesC : List (Ref sig .tc) := [main_v23]
abbrev writesD : List (Ref sig .tc) := [main_v25, main_v26, main_c_0, main_v27, main_v28, main_v29, main_v30, main_v31, main_v32, main_v33, main_v34]
abbrev writesE : List (Ref sig .tc) := [main_v36]

variable (m : (ℓ : Loc nD τ sig) → Buf (Elt Ideal) ℓ) (A : (pcfg3 (F := Ideal)).Adm) (d : Dev nD)

theorem V1_ne (b : Ref sig .tc) (h : b ∉ [main_v0_0, main_v0_1, main_v0_2]) : V1 m d (dr b) = m (d, dr b) := by
  simp only [List.mem_cons, List.not_mem_nil, or_false, not_or] at h
  unfold V1
  rw [Function.update_of_ne (fun e => h.2.2 (dr_inj e)), Function.update_of_ne (fun e => h.2.1 (dr_inj e)), Function.update_of_ne (fun e => h.1 (dr_inj e))]
  rfl
theorem V2_ne (b : Ref sig .tc) (h : b ∉ writesA) : V2 m d (dr b) = V1 m d (dr b) := StableHlo.after_unwritten writesA rfl h _
theorem V3_ne (b : Ref sig .tc) (h : b ≠ main_v13) : V3 m d (dr b) = V2 m d (dr b) := by
  unfold V3
  exact Function.update_of_ne (fun e => h (dr_inj e)) _ _
theorem V4_ne (b : Ref sig .tc) (h : b ∉ writesB) : V4 m d (dr b) = V3 m d (dr b) := StableHlo.after_unwritten writesB rfl h _
theorem V6_ne (b : Ref sig .tc) (h : b ∉ writesC) : V6 m d (dr b) = V5 m d (dr b) := StableHlo.after_unwritten writesC rfl h _
theorem V8_ne (b : Ref sig .tc) (h : b ∉ writesD) : V8 m A d (dr b) = V7 m A d (dr b) := StableHlo.after_unwritten writesD rfl h _
theorem V9_ne (b : Ref sig .tc) (h : b ≠ main_v35) : V9 m A d (dr b) = V8 m A d (dr b) := by
  unfold V9
  exact Function.update_of_ne (fun e => h (dr_inj e)) _ _
theorem V10_ne (b : Ref sig .tc) (h : b ∉ writesE) : V10 m A d (dr b) = V9 m A d (dr b) := StableHlo.after_unwritten writesE rfl h _

/-- The arguments. -/
abbrev argRefs : List (Ref sig .tc) := [main_arg0, main_arg1, main_arg2, main_arg3, main_arg4, main_arg5, main_arg6, main_arg7]

theorem args_kept (b : Ref sig .tc) (hb : b ∈ argRefs) : b ∉ [main_v0_0, main_v0_1, main_v0_2] ∧ b ∉ writesA ∧ b ≠ main_v13 ∧ b ∉ writesB ∧ b ≠ main_v22 ∧ b ∉ writesC ∧ b ≠ main_v24
    ∧ b ∉ writesD ∧ b ≠ main_v35 ∧ b ∉ writesE ∧ b ≠ main_v37 := by
  revert b; decide

theorem V3_arg (b : Ref sig .tc) (hb : b ∈ argRefs) : V3 m d (dr b) = m (d, dr b) := by
  obtain ⟨h1, h2, h3, -⟩ := args_kept b hb
  rw [V3_ne m d b h3, V2_ne m d b h2, V1_ne m d b h1]
theorem V4_arg (b : Ref sig .tc) (hb : b ∈ argRefs) : V4 m d (dr b) = m (d, dr b) := by
  obtain ⟨-, -, -, h4, -⟩ := args_kept b hb
  rw [V4_ne m d b h4, V3_arg m d b hb]
theorem V6_arg (b : Ref sig .tc) (hb : b ∈ argRefs) : V6 m d (dr b) = m (d, dr b) := by
  obtain ⟨-, -, -, -, h5, h6, -⟩ := args_kept b hb
  rw [V6_ne m d b h6, V5_ne m d b h5, V4_arg m d b hb]
/-- The arguments end as they were. -/
theorem V11_arg (b : Ref sig .tc) (hb : b ∈ argRefs) : V11 m A d (dr b) = m (d, dr b) := by
  obtain ⟨-, -, -, -, -, -, h7, h8, h9, h10, h11⟩ := args_kept b hb
  rw [V11_ne m A d b h11, V10_ne m A d b h10, V9_ne m A d b h9, V8_ne m A d b h8, V7_ne m A d b h7, V6_arg m d b hb]

/-! ## What the host's operations make -/

theorem V10_v36 : V10 m A d (dr main_v36) = (shapeCast S4096x1024 (V9 m A d (dr main_v35) : FVec Ideal S32768x128 .f32) shapeCasts_S32768x128_S4096x1024 : FVec Ideal S4096x1024 .f32) := by
  unfold V10
  after_results <;> rfl
theorem V8_v25 : V8 m A d (dr main_v25) = (shapeCast S49152x128 (V7 m A d (dr main_v24) : FVec Ideal S6144x1024 .f32) shapeCasts_S6144x1024_S49152x128 : FVec Ideal S49152x128 .f32) := by
  unfold V8
  after_results <;> rfl
theorem V4_v14 : V4 m d (dr main_v14) = (shapeCast S6144x1024 (V3 m d (dr main_v13) : FVec Ideal S49152x128 .f32) shapeCasts_S49152x128_S6144x1024 : FVec Ideal S6144x1024 .f32) := by
  unfold V4
  after_results <;> rfl
theorem V4_v15 : V4 m d (dr main_v15) = (shapeCast S2x512x1024 (V3 m d (dr main_arg5) : FVec Ideal S1024x1024 .f32) shapeCasts_S1024x1024_S2x512x1024 : FVec Ideal S2x512x1024 .f32) := by
  unfold V4
  after_results <;> rfl
theorem V4_v16 : V4 m d (dr main_v16) = (shapeCast S2x512x1024 (V3 m d (dr main_arg6) : FVec Ideal S1024x1024 .f32) shapeCasts_S1024x1024_S2x512x1024 : FVec Ideal S2x512x1024 .f32) := by
  unfold V4
  after_results <;> rfl
theorem V2_v3 : V2 m d (dr main_v3) = (shapeCast S16384x128 (V1 m d (dr main_arg0) : FVec Ideal S2048x1024 .f32) shapeCasts_S2048x1024_S16384x128 : FVec Ideal S16384x128 .f32) := by
  unfold V2
  after_results <;> rfl

/-- The two column halves, one above the other. -/
def halves (x : FVec Ideal S1024x1024 .f32) : FVec Ideal S2x1024x512 .f32 :=
  concatenate S2x1024x512 0 [⟨S1x1024x512, broadcastInDim S1x1024x512 ![1, 2] bcast_S1024x512_S1x1024x512_1_2 (extractStridedSlice S1024x512 ![0, 0] x slices_S1024x1024_S1024x512_0_0)⟩,
    ⟨S1x1024x512, broadcastInDim S1x1024x512 ![1, 2] bcast_S1024x512_S1x1024x512_1_2 (extractStridedSlice S1024x512 ![0, 512] x slices_S1024x1024_S1024x512_0_512)⟩] concatenates_S1x1024x512_S1x1024x512_S2x1024x512_d0

theorem V4_v21 : V4 m d (dr main_v21) = halves (V3 m d (dr main_arg7)) := by
  unfold V4
  after_results <;> rfl

/-! ## Rows of eight parts -/

section Rows

theorem join_at (x : FVec Ideal S32768x128 .f32) (k : Fin 4096) (h : Fin 1024) :
    shapeCast S4096x1024 x shapeCasts_S32768x128_S4096x1024 (ix2 k h) = x (ix2 (⟨k.val * 8 + h.val / 128, by omega⟩ : Fin 32768) (⟨h.val % 128, by omega⟩ : Fin 128)) :=
  shapeCast_apply _ _ _ _ (by rw [Shape.rowMajor_val_two, Shape.rowMajor_val_two]; show (k.val * 8 + h.val / 128) * 128 + h.val % 128 = k.val * 1024 + h.val; omega)
theorem join_at' (x : FVec Ideal S49152x128 .f32) (k : Fin 6144) (h : Fin 1024) :
    shapeCast S6144x1024 x shapeCasts_S49152x128_S6144x1024 (ix2 k h) = x (ix2 (⟨k.val * 8 + h.val / 128, by omega⟩ : Fin 49152) (⟨h.val % 128, by omega⟩ : Fin 128)) :=
  shapeCast_apply _ _ _ _ (by rw [Shape.rowMajor_val_two, Shape.rowMajor_val_two]; show (k.val * 8 + h.val / 128) * 128 + h.val % 128 = k.val * 1024 + h.val; omega)
theorem split_at (x : FVec Ideal S6144x1024 .f32) (j : Fin 49152) (i : Fin 128) :
    shapeCast S49152x128 x shapeCasts_S6144x1024_S49152x128 (ix2 j i) = x (ix2 (⟨j.val / 8, by omega⟩ : Fin 6144) (⟨j.val % 8 * 128 + i.val, by omega⟩ : Fin 1024)) :=
  shapeCast_apply _ _ _ _ (by rw [Shape.rowMajor_val_two, Shape.rowMajor_val_two]; show j.val / 8 * 1024 + (j.val % 8 * 128 + i.val) = j.val * 128 + i.val; omega)
theorem split_at' (x : FVec Ideal S2048x1024 .f32) (j : Fin 16384) (i : Fin 128) :
    shapeCast S16384x128 x shapeCasts_S2048x1024_S16384x128 (ix2 j i) = x (ix2 (⟨j.val / 8, by omega⟩ : Fin 2048) (⟨j.val % 8 * 128 + i.val, by omega⟩ : Fin 1024)) :=
  shapeCast_apply _ _ _ _ (by rw [Shape.rowMajor_val_two, Shape.rowMajor_val_two]; show j.val / 8 * 1024 + (j.val % 8 * 128 + i.val) = j.val * 128 + i.val; omega)
theorem rows_at (x : FVec Ideal S1024x1024 .f32) (b : Fin 2) (k : Fin 512) (j : Fin 1024) :
    shapeCast S2x512x1024 x shapeCasts_S1024x1024_S2x512x1024 (ix3 b k j) = x (ix2 (⟨b.val * 512 + k.val, by omega⟩ : Fin 1024) j) :=
  shapeCast_apply _ _ _ _ (by rw [Shape.rowMajor_val_two, Shape.rowMajor_val_three]; show (b.val * 512 + k.val) * 1024 + j.val = (b.val * 512 + k.val) * 1024 + j.val; rfl)
theorem halves_at0 (x : FVec Ideal S1024x1024 .f32) (h : Fin 1024) (k : Fin 512) : halves x (ix3 0 h k) = x (ix2 h (⟨k.val, by omega⟩ : Fin 1024)) := by
  pointwise [halves]
theorem halves_at1 (x : FVec Ideal S1024x1024 .f32) (h : Fin 1024) (k : Fin 512) : halves x (ix3 1 h k) = x (ix2 h (⟨512 + k.val, by omega⟩ : Fin 1024)) := by
  pointwise [halves]
end Rows

/-! ## The shared expert -/

abbrev X0 : FVec Ideal S2048x1024 .f32 := m (d, dr main_arg0)
abbrev X1 : FVec Ideal S16x1024 .f32 := m (d, dr main_arg1)
abbrev X2 : FVec Ideal S16x512x1024 .f32 := m (d, dr main_arg2)
abbrev X3 : FVec Ideal S16x512x1024 .f32 := m (d, dr main_arg3)
abbrev X4 : FVec Ideal S16x1024x512 .f32 := m (d, dr main_arg4)
abbrev X5 : FVec Ideal S1024x1024 .f32 := m (d, dr main_arg5)
abbrev X6 : FVec Ideal S1024x1024 .f32 := m (d, dr main_arg6)
abbrev X7 : FVec Ideal S1024x1024 .f32 := m (d, dr main_arg7)

/-- A perceptron of 1024 features is the sum of its halves. -/
theorem mlp_halves (x : Fin 1024 → EReal) (p q : Fin 1024 → Fin 1024 → EReal) (r : Fin 1024 → EReal) :
    mlp x p q r = mlp x (fun (k : Fin 512) => p ⟨k.val, by omega⟩) (fun k => q ⟨k.val, by omega⟩) (fun k => r ⟨k.val, by omega⟩)
      + mlp x (fun (k : Fin 512) => p ⟨512 + k.val, by omega⟩) (fun k => q ⟨512 + k.val, by omega⟩) (fun k => r ⟨512 + k.val, by omega⟩) := by
  unfold mlp
  exact Fin.sum_univ_add (a := 512) (b := 512) _

theorem shared_eq (t : Fin 2048) (h : Fin 1024) : V10 m A d (dr main_v22) (ix2 t h) = Ref.sharedRef (X0 m d) (X5 m d) (X6 m d) (X7 m d) (ix2 t h) := by
  rw [V10_ne m A d main_v22 (by decide), V9_ne m A d main_v22 (by decide), V8_ne m A d main_v22 (by decide), V7_ne m A d main_v22 (by decide), V6_ne m d main_v22 (by decide), V5_self]
  refine (sharedOut_at (V4 m) d (X0 m d) _ _ _ (V4_arg m d main_arg0 (by decide)) (V4_v15 m d) (V4_v16 m d) (V4_v21 m d) t h).trans ?_
  refine Eq.trans ?_ (Ref.sharedRef_at (X0 m d) (X5 m d) (X6 m d) (X7 m d) t h).symm
  rw [mlp_halves, V3_arg m d main_arg5 (by decide), V3_arg m d main_arg6 (by decide), V3_arg m d main_arg7 (by decide)]
  unfold half
  refine congrArg₂ (· + ·) ?_ ?_
  · congr 1
    · funext k j; refine (rows_at (X5 m d) 0 k j).trans (congrArg (fun z : Fin 1024 => X5 m d (ix2 z j)) (Fin.ext (by show 0 * 512 + k.val = k.val; omega)))
    · funext k j; refine (rows_at (X6 m d) 0 k j).trans (congrArg (fun z : Fin 1024 => X6 m d (ix2 z j)) (Fin.ext (by show 0 * 512 + k.val = k.val; omega)))
    · funext k; exact halves_at0 (X7 m d) h k
  · congr 1
    · funext k j; refine (rows_at (X5 m d) 1 k j).trans (congrArg (fun z : Fin 1024 => X5 m d (ix2 z j)) (Fin.ext (by show 1 * 512 + k.val = 512 + k.val; omega)))
    · funext k j; refine (rows_at (X6 m d) 1 k j).trans (congrArg (fun z : Fin 1024 => X6 m d (ix2 z j)) (Fin.ext (by show 1 * 512 + k.val = 512 + k.val; omega)))
    · funext k; exact halves_at1 (X7 m d) h k

/-! ## The chosen experts' rows -/

/-- The sorted row at the place of the `k`-th row sent is the row of its token. -/
theorem sorted_at (k : Fin 4096) (h : Fin 1024) : V6 m d (dr main_v14) (ix2 (⟨seat m d k.val, seat_lt m d k.isLt⟩ : Fin 6144) h)
    = X0 m d (ix2 (⟨k.val % 2048, by omega⟩ : Fin 2048) h) := by
  rw [V6_ne m d main_v14 (by decide), V5_ne m d main_v14 (by decide), V4_v14]
  refine (join_at' _ _ _).trans ?_
  unfold V3
  rw [Function.update_self, V2_v12, V2_v3, V1_ne m d main_arg0 (by decide)]
  have hs := seat_lt m d k.isLt
  refine (Spread.spread_at (listOK m d) (ix1 (⟨k.val * 8 + h.val / 128, by omega⟩ : Fin 32768)) _ ?_).trans ?_
  · refine (list_toNat m d _).trans ?_
    show seat m d ((k.val * 8 + h.val / 128) / 8) * 8 + (k.val * 8 + h.val / 128) % 8 = seat m d k.val * 8 + h.val / 128
    rw [show (k.val * 8 + h.val / 128) / 8 = k.val by omega]
    omega
  · refine (split_at' (X0 m d) _ _).trans ?_
    refine congrArg₂ (fun (y : Fin 2048) (z : Fin 1024) => X0 m d (ix2 y z)) (Fin.ext ?_) (Fin.ext ?_)
    · show (k.val * 8 + h.val / 128) % 16384 / 8 = k.val % 2048
      omega
    · show (k.val * 8 + h.val / 128) % 16384 % 8 * 128 + h.val % 128 = h.val
      omega

/-- The table names, for the tile of a row's place, the row's expert. -/
theorem word_at (hA : A.1 = tabM m) (k : Fin 4096) :
    (word3 A ⟨seat m 0 k.val / 128, by have := seat_lt m 0 k.isLt; omega⟩).toNat = expertOf m 0 k.val := by
  have hs := seat_lt m 0 k.isLt
  unfold word3
  rw [hA]
  refine (congrArg BitVec.toNat (tabM_at m (grid3.coords (⟨seat m 0 k.val / 128, by omega⟩ : Fin 48)) (k3_off1_inb _) numel1_S1)).trans ?_
  rw [table_toNat]
  refine (congrArg (fun n => min (ended (eA m 0) (eB m 0) (128 * n)) 15) (coords3 (⟨seat m 0 k.val / 128, by omega⟩ : Fin 48))).trans ?_
  show min (ended (eA m 0) (eB m 0) (128 * (seat m 0 k.val / 128))) 15 = _
  have he := expert_lt m 0 k.val
  have h := ended_place (i₁ := eA m 0) (i₂ := eB m 0) (t := k.val % 2048) (e := expertOf m 0 k.val) (by omega) he (hit_expert m 0 k.isLt)
  rw [Nat.mul_comm]
  show min (ended (eA m 0) (eB m 0) (place (eA m 0) (eB m 0) (k.val % 2048) (expertOf m 0 k.val) / 128 * 128)) 15 = _
  rw [h]
  omega

/-- The `k`-th row brought back is its token's row through its expert. -/
theorem back_at (hA : A.1 = tabM m) (k : Fin 4096) (h : Fin 1024) (e : Fin 16) (he : expertOf m d k.val = e.val) :
    V10 m A d (dr main_v36) (ix2 k h) = mlp (fun j => X0 m d (ix2 (⟨k.val % 2048, by omega⟩ : Fin 2048) j)) (fun (i : Fin 512) j => X2 m d (ix3 e i j)) (fun i j => X3 m d (ix3 e i j))
      (fun i => X4 m d (ix3 e h i)) := by
  obtain rfl : d = 0 := Subsingleton.elim (α := Fin 1) d 0
  have hs := seat_lt m 0 k.isLt
  rw [V10_v36]
  refine (join_at _ _ _).trans ?_
  unfold V9
  rw [Function.update_self, V8_v34, V8_v25, V7_self]
  unfold Collect.collected
  refine (split_at _ _ _).trans ?_
  have hrow : (Collect.rowAt (expand (F := Ideal) (posFlat m 0) (ix1 (⟨k.val * 8 + h.val / 128, by omega⟩ : Fin 32768)))).val = seat m 0 k.val * 8 + h.val / 128 := by
    show (expand (F := Ideal) (posFlat m 0) (ix1 (⟨k.val * 8 + h.val / 128, _⟩ : Fin 32768)) : BitVec 32).toNat % 49152 = _
    rw [list_toNat]
    show (seat m 0 ((k.val * 8 + h.val / 128) / 8) * 8 + (k.val * 8 + h.val / 128) % 8) % 49152 = _
    rw [show (k.val * 8 + h.val / 128) / 8 = k.val by omega]
    omega
  refine Eq.trans (b := groupOut (V6 m) 0 A (ix2 (⟨seat m 0 k.val, hs⟩ : Fin 6144) h)) ?_ ?_
  · refine congrArg₂ (fun (y : Fin 6144) (z : Fin 1024) => groupOut (V6 m) 0 A (ix2 y z)) (Fin.ext ?_) (Fin.ext ?_)
    · refine (congrArg (· / 8) hrow).trans ?_
      show (seat m 0 k.val * 8 + h.val / 128) / 8 = seat m 0 k.val
      omega
    · refine (congrArg (· % 8 * 128 + h.val % 128) hrow).trans ?_
      show (seat m 0 k.val * 8 + h.val / 128) % 8 * 128 + h.val % 128 = h.val
      omega
  · refine (groupOut_row (V6 m) 0 A (V6 m 0 (dr main_v14)) (X2 m 0) (X3 m 0) (X4 m 0) rfl (V6_arg m 0 main_arg2 (by decide)) (V6_arg m 0 main_arg3 (by decide)) (V6_arg m 0 main_arg4 (by decide)) ⟨seat m 0 k.val, hs⟩ h e
      ((word_at m A hA k).trans he)).trans ?_
    exact congrArg (fun z : Fin 1024 → EReal => mlp z (fun (i : Fin 512) j => X2 m 0 (ix3 e i j)) (fun i j => X3 m 0 (ix3 e i j)) (fun i => X4 m 0 (ix3 e h i))) (funext fun j => sorted_at m 0 k j)

/-! ## The result -/

theorem V10_v0_1 : V10 m A d (dr main_v0_1) = rW m d := by
  rw [V10_ne m A d main_v0_1 (by decide), V9_ne m A d main_v0_1 (by decide), V8_ne m A d main_v0_1 (by decide), V7_ne m A d main_v0_1 (by decide), V6_ne m d main_v0_1 (by decide),
    V5_ne m d main_v0_1 (by decide), V4_ne m d main_v0_1 (by decide), V3_ne m d main_v0_1 (by decide), V2_ne m d main_v0_1 (by decide)]
  unfold V1
  rw [Function.update_of_ne (by decide), Function.update_self]

theorem result_eq (hA : A.1 = tabM m) :
    V11 m A d (dr main_v37) = Ref.result (X0 m d) (X1 m d) (X2 m d) (X3 m d) (X4 m d) (X5 m d) (X6 m d) (X7 m d) := by
  rw [V11_self]
  refine funext fun (x : S2048x1024.Idx) => ?_
  obtain ⟨t, h, rfl⟩ : ∃ (t : Fin 2048) (h : Fin 1024), x = ix2 t h := ⟨x 0, x 1, ValueIdx.eq_ix2 x⟩
  refine (combOut_at (V10 m A) d t h (rW m d) _ _ (V10_v0_1 m A d) rfl rfl).trans ?_
  refine Eq.trans ?_ (Ref.result_at (X0 m d) (X1 m d) (X2 m d) (X3 m d) (X4 m d) (X5 m d) (X6 m d) (X7 m d) t h).symm
  have h1 : expertOf m d t.val = (i1 (scoreM m d t)).val := by
    unfold expertOf; rw [if_pos t.isLt, eA_at]
  have h2 : expertOf m d (t.val + 2048) = (i2 (scoreM m d t)).val := by
    unfold expertOf; rw [if_neg (by omega), Nat.add_sub_cancel, eB_at]
  refine congrArg₂ (· + ·) (congrArg₂ (· + ·) (congrArg₂ (· * ·) (routeW_at0 _ _ t) ?_) (congrArg₂ (· * ·) (routeW_at1 _ _ t) ?_)) (shared_eq m A d t h)
  · refine (back_at m A d hA ⟨t.val, by omega⟩ h (i1 (scoreM m d t)) h1).trans ?_
    refine Eq.trans ?_ (Ref.expertsOut_at (X0 m d) (X2 m d) (X3 m d) (X4 m d) t (i1 (scoreM m d t)) h).symm
    rw [show (⟨(⟨t.val, by omega⟩ : Fin 4096).val % 2048, by omega⟩ : Fin 2048) = t from Fin.ext (Nat.mod_eq_of_lt t.isLt)]
  · refine (back_at m A d hA ⟨t.val + 2048, by omega⟩ h (i2 (scoreM m d t)) h2).trans ?_
    refine Eq.trans ?_ (Ref.expertsOut_at (X0 m d) (X2 m d) (X3 m d) (X4 m d) t (i2 (scoreM m d t)) h).symm
    rw [show (⟨(⟨t.val + 2048, by omega⟩ : Fin 4096).val % 2048, by omega⟩ : Fin 2048) = t from Fin.ext (by show (t.val + 2048) % 2048 = t.val; omega)]

end Cert.Proof.Moe

end
-- ==== Proof.lean ====
/- The claims: the whole kernel, and the reference, at exact arithmetic: both run and end quiescent with their
   arguments kept, and the kernel's result is the reference's. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.KerValue

@[expose] public section

noncomputable section

namespace Cert.Proof

open Idealize.ShloMosaic Idealize.SL.Sem
open Cert.Proof.Moe

theorem mem_uc (b : Ref Cert.KernelIdeal.sig .tc) (hb : b ∈ Cert.KernelIdeal.main_v37 :: argRefs) : dr b ∈ Pipeline.ucRefs Cert.KernelIdeal.τ Cert.KernelIdeal.sig := by
  revert b; decide

section Kernel
variable (m : (ℓ : Loc Cert.KernelIdeal.nD Cert.KernelIdeal.τ Cert.KernelIdeal.sig) → Buf (Elt Ideal) ℓ)

/-- The experts' table, admissible. -/
abbrev table : (Cert.KernelIdeal.pcfg3 (F := Ideal)).Adm := ⟨tabM m, (routeOK m).tab⟩

/-- An argument at the end of the kernel's run. -/
theorem arg_end {r : PUnit × MemSt Cert.KernelIdeal.nD Cert.KernelIdeal.τ Cert.KernelIdeal.sig (Elt Ideal)} (h : QC m (table m) r) (c : Dev Cert.KernelIdeal.nD)
    (b : Ref Cert.KernelIdeal.sig .tc) (hb : b ∈ argRefs) : r.2.mem (c, dr b) = m (c, dr b) :=
  (h.1 c _ (mem_uc b (List.mem_cons_of_mem _ hb))).trans (V11_arg m (table m) c b hb)

theorem kernel_run (ρ : Dev Cert.KernelIdeal.nD → PrngReg) :
    θ_run (Cert.KernelIdeal.defs (F := Ideal)) (Cert.KernelIdeal.threads (F := Ideal)) ⟨m, fun _ => 0, ρ⟩ (QC m (table m)) :=
  run_main m (table m) ρ (routeOK m) rfl
end Kernel

theorem frame_kernel : Cert.quiescent_KernelIdeal := fun m ρ _ =>
  (θ_run Cert.KernelIdeal.defs _ _).mono (fun _ h => ⟨fun c =>
    ⟨arg_end m h c _ (by decide), arg_end m h c _ (by decide), arg_end m h c _ (by decide), arg_end m h c _ (by decide),
      arg_end m h c _ (by decide), arg_end m h c _ (by decide), arg_end m h c _ (by decide), arg_end m h c _ (by decide)⟩, h.2⟩)
    (kernel_run m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result is the reference's. -/
theorem values : Cert.algebraic_KernelIdeal_ReferenceIdeal := by
  intro m ρ m' ρ' _ hagree
  refine ⟨fun c => V11 m (table m) c (dr Cert.KernelIdeal.main_v37), ?_, ?_⟩
  · exact (θ_run Cert.KernelIdeal.defs _ _).mono (fun _ h c =>
      ⟨h.1 c _ (mem_uc _ (by decide)), arg_end m h c _ (by decide), arg_end m h c _ (by decide), arg_end m h c _ (by decide), arg_end m h c _ (by decide),
        arg_end m h c _ (by decide), arg_end m h c _ (by decide), arg_end m h c _ (by decide), arg_end m h c _ (by decide)⟩)
      (kernel_run m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7⟩ := hagree c
    refine (Ref.res_eq m' c).trans ?_
    rw [h0, h1, h2, h3, h4, h5, h6, h7]
    exact (result_eq m (table m) c rfl).symm

theorem claim : Cert.Claim :=
  ⟨Cert.KernelIdeal.Gen.facts, Cert.ReferenceIdeal.Gen.facts, frame_kernel, frame_reference, values⟩

end Cert.Proof

end
